-- ==== Defs.lean ====
def Pre_Kernel [hPre_agents_named : Cert.Pre_agents_named.Facts] (m : (ℓ : Loc Cert.Kernel.nD Cert.Kernel.τ Cert.Kernel.sig) → Buf (Elt Bits) ℓ) : Prop :=
  ∀ c : Dev Cert.Kernel.nD,
    (Cert.Pre_agents_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_agents_named : Cert.Pre_agents_named.Facts] (m : (ℓ : Loc Cert.KernelIdeal.nD Cert.KernelIdeal.τ Cert.KernelIdeal.sig) → Buf (Elt Ideal) ℓ) : Prop :=
  ∀ c : Dev Cert.KernelIdeal.nD,
    (Cert.Pre_agents_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_drawn_ranges [hPre_drawn_ranges : Cert.Pre_drawn_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn_ranges [hPre_drawn_ranges : Cert.Pre_drawn_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_agents_named : Cert.Pre_agents_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_agents_named : Cert.Pre_agents_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_drawn_ranges [hKernelIdeal : Cert.KernelIdeal.Facts] [hPre_drawn_ranges : Cert.Pre_drawn_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_ranges m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_drawn_ranges [hReferenceIdeal : Cert.ReferenceIdeal.Facts] [hPre_drawn_ranges : Cert.Pre_drawn_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn_ranges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_drawn_ranges [hKernelIdeal : Cert.KernelIdeal.Facts] [hReferenceIdeal : Cert.ReferenceIdeal.Facts] [hPre_drawn_ranges : Cert.Pre_drawn_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn_ranges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v45)) (v2 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_agents_named : Cert.Pre_agents_named.Facts) (hPre_drawn_ranges : Cert.Pre_drawn_ranges.Facts),
    quiescent_Kernel (hKernel := hKernel) (hPre_agents_named := hPre_agents_named)
    ∧ quiescent_KernelIdeal (hKernelIdeal := hKernelIdeal) (hPre_agents_named := hPre_agents_named)
    ∧ quiescent_KernelIdeal_pre_drawn_ranges (hKernelIdeal := hKernelIdeal) (hPre_drawn_ranges := hPre_drawn_ranges)
    ∧ quiescent_ReferenceIdeal (hReferenceIdeal := hReferenceIdeal)
    ∧ quiescent_ReferenceIdeal_pre_drawn_ranges (hReferenceIdeal := hReferenceIdeal) (hPre_drawn_ranges := hPre_drawn_ranges)
    ∧ preserves_Kernel_KernelIdeal
    ∧ algebraic_KernelIdeal_ReferenceIdeal_pre_drawn_ranges (hKernelIdeal := hKernelIdeal) (hReferenceIdeal := hReferenceIdeal) (hPre_drawn_ranges := hPre_drawn_ranges)
-- ==== Pre_agents_named.lean ====
abbrev S4096x128x2 : Shape := ⟨3, ![4096, 128, 2]⟩
abbrev S2000000x8 : Shape := ⟨2, ![2000000, 8]⟩
abbrev S4096x128 : Shape := ⟨2, ![4096, 128]⟩
abbrev S4096x128x4 : Shape := ⟨3, ![4096, 128, 4]⟩
abbrev S9x2 : Shape := ⟨2, ![9, 2]⟩
abbrev S2000000x1 : Shape := ⟨2, ![2000000, 1]⟩
abbrev S2000000 : Shape := ⟨1, ![2000000]⟩
abbrev S_ : Shape := ⟨0, ![]⟩

class Facts : Prop where
  slices_S2000000x8_S2000000x1_0_0 : S2000000x8.Slices ![0, 0] S2000000x1
  shapeCasts_S2000000x1_S2000000 : S2000000x1.ShapeCasts S2000000
  slices_S2000000x8_S2000000x1_0_7 : S2000000x8.Slices ![0, 7] S2000000x1
  bcast_S_S2000000 : S_.BroadcastsInDim S2000000 (![] : Fin 0 → Fin S2000000.rank)

variable [Facts]

def fn {F : FTy → Type} [FloatOps F] (main_arg0 : FVec F S4096x128x2 .f32) (main_arg1 : IVec S2000000x8 32) (main_arg2 : IVec S4096x128 1) (main_arg3 : IVec S4096x128x4 32) (main_arg4 : IVec S9x2 32) : IVec S2000000 1 :=
  let main_v0 : IVec S2000000x1 32 := (extractStridedSlice S2000000x1 ![0, 0] · slices_S2000000x8_S2000000x1_0_0) main_arg1
  let main_v1 : IVec S2000000 32 := shapeCast S2000000 main_v0 shapeCasts_S2000000x1_S2000000
  let main_v2 : IVec S2000000x1 32 := (extractStridedSlice S2000000x1 ![0, 7] · slices_S2000000x8_S2000000x1_0_7) main_arg1
  let main_v3 : IVec S2000000 32 := shapeCast S2000000 main_v2 shapeCasts_S2000000x1_S2000000
  let main_c : IVec S_ 32 := constantI S_ 32 0#32
  let main_v4 : IVec S2000000 32 := broadcastInDim S2000000 ![] bcast_S_S2000000 main_c
  let main_v5 : IVec S2000000 1 := cmpi .sge main_v1 main_v4
  let main_c_0 : IVec S_ 32 := constantI S_ 32 128#32
  let main_v6 : IVec S2000000 32 := broadcastInDim S2000000 ![] bcast_S_S2000000 main_c_0
  let main_v7 : IVec S2000000 1 := cmpi .slt main_v1 main_v6
  let main_v8 : IVec S2000000 1 := andi main_v5 main_v7
  let main_c_1 : IVec S_ 32 := constantI S_ 32 0#32
  let main_v9 : IVec S2000000 32 := broadcastInDim S2000000 ![] bcast_S_S2000000 main_c_1
  let main_v10 : IVec S2000000 1 := cmpi .sge main_v3 main_v9
  let main_v11 : IVec S2000000 1 := andi main_v8 main_v10
  let main_c_2 : IVec S_ 32 := constantI S_ 32 128#32
  let main_v12 : IVec S2000000 32 := broadcastInDim S2000000 ![] bcast_S_S2000000 main_c_2
  let main_v13 : IVec S2000000 1 := cmpi .slt main_v3 main_v12
  let main_v14 : IVec S2000000 1 := andi main_v11 main_v13
  main_v14
-- ==== Pre_drawn_ranges.lean ====
abbrev S4096x128x2 : Shape := ⟨3, ![4096, 128, 2]⟩
abbrev S2000000x8 : Shape := ⟨2, ![2000000, 8]⟩
abbrev S4096x128 : Shape := ⟨2, ![4096, 128]⟩
abbrev S4096x128x4 : Shape := ⟨3, ![4096, 128, 4]⟩
abbrev S9x2 : Shape := ⟨2, ![9, 2]⟩
abbrev S2000000x1 : Shape := ⟨2, ![2000000, 1]⟩
abbrev S2000000 : Shape := ⟨1, ![2000000]⟩
abbrev S_ : Shape := ⟨0, ![]⟩

class Facts : Prop where
  slices_S2000000x8_S2000000x1_0_0 : S2000000x8.Slices ![0, 0] S2000000x1
  shapeCasts_S2000000x1_S2000000 : S2000000x1.ShapeCasts S2000000
  slices_S2000000x8_S2000000x1_0_7 : S2000000x8.Slices ![0, 7] S2000000x1
  bcast_S_S2000000 : S_.BroadcastsInDim S2000000 (![] : Fin 0 → Fin S2000000.rank)
  reducesTo_S2000000_S_d0 : S2000000.ReducesTo [0] S_
  h_S_ : 0 < S_.numel
  bcast_S_S4096x128x4 : S_.BroadcastsInDim S4096x128x4 (![] : Fin 0 → Fin S4096x128x4.rank)
  reducesTo_S4096x128x4_S_d0_1_2 : S4096x128x4.ReducesTo [0, 1, 2] S_
  bcast_S_S9x2 : S_.BroadcastsInDim S9x2 (![] : Fin 0 → Fin S9x2.rank)
  reducesTo_S9x2_S_d0_1 : S9x2.ReducesTo [0, 1] S_

variable [Facts]

def fn_part1 {F : FTy → Type} [FloatOps F] (main_arg3 : IVec S4096x128x4 32) (main_arg4 : IVec S9x2 32) (main_v16 : IVec S_ 1) (main_c_5 : IVec S_ 32) : IVec S_ 1 :=
  let main_v17 : IVec S4096x128x4 32 := broadcastInDim S4096x128x4 ![] bcast_S_S4096x128x4 main_c_5
  let main_v18 : IVec S4096x128x4 1 := cmpi .sge main_arg3 main_v17
  let main_c_6 : IVec S_ 32 := constantI S_ 32 512#32
  let main_v19 : IVec S4096x128x4 32 := broadcastInDim S4096x128x4 ![] bcast_S_S4096x128x4 main_c_6
  let main_v20 : IVec S4096x128x4 1 := cmpi .slt main_arg3 main_v19
  let main_v21 : IVec S4096x128x4 1 := andi main_v18 main_v20
  let main_c_7 : IVec S_ 1 := constantI S_ 1 1#1
  let main_v22 : IVec S_ 1 := (fun x v => Host.reduce IntOp.andi x v reducesTo_S4096x128x4_S_d0_1_2 h_S_) main_v21 main_c_7
  let main_v23 : IVec S_ 1 := andi main_v16 main_v22
  let main_c_8 : IVec S_ 32 := constantI S_ 32 4294967295#32
  let main_v24 : IVec S9x2 32 := broadcastInDim S9x2 ![] bcast_S_S9x2 main_c_8
  let main_v25 : IVec S9x2 1 := cmpi .sge main_arg4 main_v24
  let main_c_9 : IVec S_ 32 := constantI S_ 32 1#32
  let main_v26 : IVec S9x2 32 := broadcastInDim S9x2 ![] bcast_S_S9x2 main_c_9
  let main_v27 : IVec S9x2 1 := cmpi .sle main_arg4 main_v26
  let main_v28 : IVec S9x2 1 := andi main_v25 main_v27
  let main_c_10 : IVec S_ 1 := constantI S_ 1 1#1
  let main_v29 : IVec S_ 1 := (fun x v => Host.reduce IntOp.andi x v reducesTo_S9x2_S_d0_1 h_S_) main_v28 main_c_10
  let main_v30 : IVec S_ 1 := andi main_v23 main_v29
  main_v30

def fn {F : FTy → Type} [FloatOps F] (main_arg0 : FVec F S4096x128x2 .f32) (main_arg1 : IVec S2000000x8 32) (main_arg2 : IVec S4096x128 1) (main_arg3 : IVec S4096x128x4 32) (main_arg4 : IVec S9x2 32) : IVec S_ 1 :=
  let main_v0 : IVec S2000000x1 32 := (extractStridedSlice S2000000x1 ![0, 0] · slices_S2000000x8_S2000000x1_0_0) main_arg1
  let main_v1 : IVec S2000000 32 := shapeCast S2000000 main_v0 shapeCasts_S2000000x1_S2000000
  let main_v2 : IVec S2000000x1 32 := (extractStridedSlice S2000000x1 ![0, 7] · slices_S2000000x8_S2000000x1_0_7) main_arg1
  let main_v3 : IVec S2000000 32 := shapeCast S2000000 main_v2 shapeCasts_S2000000x1_S2000000
  let main_c : IVec S_ 32 := constantI S_ 32 0#32
  let main_v4 : IVec S2000000 32 := broadcastInDim S2000000 ![] bcast_S_S2000000 main_c
  let main_v5 : IVec S2000000 1 := cmpi .sge main_v1 main_v4
  let main_c_0 : IVec S_ 32 := constantI S_ 32 128#32
  let main_v6 : IVec S2000000 32 := broadcastInDim S2000000 ![] bcast_S_S2000000 main_c_0
  let main_v7 : IVec S2000000 1 := cmpi .slt main_v1 main_v6
  let main_v8 : IVec S2000000 1 := andi main_v5 main_v7
  let main_c_1 : IVec S_ 1 := constantI S_ 1 1#1
  let main_v9 : IVec S_ 1 := (fun x v => Host.reduce IntOp.andi x v reducesTo_S2000000_S_d0 h_S_) main_v8 main_c_1
  let main_c_2 : IVec S_ 32 := constantI S_ 32 0#32
  let main_v10 : IVec S2000000 32 := broadcastInDim S2000000 ![] bcast_S_S2000000 main_c_2
  let main_v11 : IVec S2000000 1 := cmpi .sge main_v3 main_v10
  let main_c_3 : IVec S_ 32 := constantI S_ 32 128#32
  let main_v12 : IVec S2000000 32 := broadcastInDim S2000000 ![] bcast_S_S2000000 main_c_3
  let main_v13 : IVec S2000000 1 := cmpi .slt main_v3 main_v12
  let main_v14 : IVec S2000000 1 := andi main_v11 main_v13
  let main_c_4 : IVec S_ 1 := constantI S_ 1 1#1
  let main_v15 : IVec S_ 1 := (fun x v => Host.reduce IntOp.andi x v reducesTo_S2000000_S_d0 h_S_) main_v14 main_c_4
  let main_v16 : IVec S_ 1 := andi main_v9 main_v15
  let main_c_5 : IVec S_ 32 := constantI S_ 32 0#32
  fn_part1 (F := F) main_arg3 main_arg4 main_v16 main_c_5
-- ==== Kernel.lean ====
abbrev S4096x128x2 : Shape := ⟨3, ![4096, 128, 2]⟩
abbrev S2000000x8 : Shape := ⟨2, ![2000000, 8]⟩
abbrev S4096x128 : Shape := ⟨2, ![4096, 128]⟩
abbrev S4096x128x4 : Shape := ⟨3, ![4096, 128, 4]⟩
abbrev S9x2 : Shape := ⟨2, ![9, 2]⟩
abbrev S4096x128x1 : Shape := ⟨3, ![4096, 128, 1]⟩
abbrev S128x128 : Shape := ⟨2, ![128, 128]⟩
abbrev S1x1 : Shape := ⟨2, ![1, 1]⟩
abbrev S2000000x1 : Shape := ⟨2, ![2000000, 1]⟩
abbrev S2000000 : Shape := ⟨1, ![2000000]⟩
abbrev S7680 : Shape := ⟨1, ![7680]⟩
abbrev S_ : Shape := ⟨0, ![]⟩
abbrev S16 : Shape := ⟨1, ![16]⟩

abbrev nBuf : Table → Nat
  | .hbm => 56
  | .local .tc .vmem => 20
  | .local .tc .smem => 1
  | .local .scVector .vmem => 10
  | _ => 0

abbrev bufTy : (tb : Table) → Fin (nBuf tb) → BufTy
  | .hbm, ⟨0, _⟩ => ⟨S4096x128x2, .f32⟩
  | .hbm, ⟨1, _⟩ => ⟨S2000000x8, .i32⟩
  | .hbm, ⟨2, _⟩ => ⟨S4096x128, .i1⟩
  | .hbm, ⟨3, _⟩ => ⟨S4096x128x4, .i32⟩
  | .hbm, ⟨4, _⟩ => ⟨S9x2, .i32⟩
  | .hbm, ⟨5, _⟩ => ⟨S4096x128x1, .i32⟩
  | .hbm, ⟨6, _⟩ => ⟨S4096x128, .i32⟩
  | .hbm, ⟨7, _⟩ => ⟨S4096x128x1, .i32⟩
  | .hbm, ⟨8, _⟩ => ⟨S4096x128, .i32⟩
  | .hbm, ⟨9, _⟩ => ⟨S4096x128x1, .i32⟩
  | .hbm, ⟨10, _⟩ => ⟨S4096x128, .i32⟩
  | .hbm, ⟨11, _⟩ => ⟨S4096x128x1, .i32⟩
  | .hbm, ⟨12, _⟩ => ⟨S4096x128, .i32⟩
  | .hbm, ⟨13, _⟩ => ⟨S4096x128x1, .f32⟩
  | .hbm, ⟨14, _⟩ => ⟨S4096x128, .f32⟩
  | .hbm, ⟨15, _⟩ => ⟨S4096x128x1, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S128x128, .i32⟩
  | .hbm, ⟨21, _⟩ => ⟨S128x128, .i32⟩
  | .hbm, ⟨22, _⟩ => ⟨S4096x128x1, .f32⟩
  | .hbm, ⟨23, _⟩ => ⟨S4096x128x1, .f32⟩
  | .hbm, ⟨24, _⟩ => ⟨S4096x128x2, .f32⟩
  | .hbm, ⟨25, _⟩ => ⟨S2000000x1, .i32⟩
  | .hbm, ⟨26, _⟩ => ⟨S2000000, .i32⟩
  | .hbm, ⟨27, _⟩ => ⟨S2000000x1, .i32⟩
  | .hbm, ⟨28, _⟩ => ⟨S2000000, .i32⟩
  | .hbm, ⟨29, _⟩ => ⟨S2000000x1, .i32⟩
  | .hbm, ⟨30, _⟩ => ⟨S2000000, .i32⟩
  | .hbm, ⟨31, _⟩ => ⟨S2000000x1, .i32⟩
  | .hbm, ⟨32, _⟩ => ⟨S2000000, .i32⟩
  | .hbm, ⟨33, _⟩ => ⟨S2000000, .i32⟩
  | .hbm, ⟨34, _⟩ => ⟨S2000000, .i32⟩
  | .hbm, ⟨35, _⟩ => ⟨S2000000x1, .i32⟩
  | .hbm, ⟨36, _⟩ => ⟨S2000000, .i32⟩
  | .hbm, ⟨37, _⟩ => ⟨S2000000x1, .i32⟩
  | .hbm, ⟨38, _⟩ => ⟨S2000000, .i32⟩
  | .hbm, ⟨39, _⟩ => ⟨S2000000x1, .i32⟩
  | .hbm, ⟨40, _⟩ => ⟨S2000000, .i32⟩
  | .hbm, ⟨41, _⟩ => ⟨S2000000x1, .i32⟩
  | .hbm, ⟨42, _⟩ => ⟨S2000000, .i32⟩
  | .hbm, ⟨43, _⟩ => ⟨S2000000x1, .i32⟩
  | .hbm, ⟨44, _⟩ => ⟨S2000000, .i32⟩
  | .hbm, ⟨45, _⟩ => ⟨S2000000x1, .i32⟩
  | .hbm, ⟨46, _⟩ => ⟨S2000000, .i32⟩
  | .hbm, ⟨47, _⟩ => ⟨S2000000x1, .i32⟩
  | .hbm, ⟨48, _⟩ => ⟨S2000000x1, .i32⟩
  | .hbm, ⟨49, _⟩ => ⟨S2000000x1, .i32⟩
  | .hbm, ⟨50, _⟩ => ⟨S2000000x1, .i32⟩
  | .hbm, ⟨51, _⟩ => ⟨S2000000x1, .i32⟩
  | .hbm, ⟨52, _⟩ => ⟨S2000000x1, .i32⟩
  | .hbm, ⟨53, _⟩ => ⟨S2000000x1, .i32⟩
  | .hbm, ⟨54, _⟩ => ⟨S2000000x1, .i32⟩
  | .hbm, ⟨55, _⟩ => ⟨S2000000x8, .i32⟩
  | .local .tc .vmem, ⟨0, _⟩ => ⟨S128x128, .i32⟩
  | .local .tc .vmem, ⟨1, _⟩ => ⟨S128x128, .i32⟩
  | .local .tc .vmem, ⟨2, _⟩ => ⟨S128x128, .i32⟩
  | .local .tc .vmem, ⟨3, _⟩ => ⟨S128x128, .i32⟩
  | .local .tc .vmem, ⟨4, _⟩ => ⟨S128x128, .i32⟩
  | .local .tc .vmem, ⟨5, _⟩ => ⟨S128x128, .i32⟩
  | .local .tc .vmem, ⟨6, _⟩ => ⟨S128x128, .i32⟩
  | .local .tc .vmem, ⟨7, _⟩ => ⟨S128x128, .i32⟩
  | .local .tc .vmem, ⟨8, _⟩ => ⟨S128x128, .f32⟩
  | .local .tc .vmem, ⟨9, _⟩ => ⟨S128x128, .f32⟩
  | .local .tc .vmem, ⟨10, _⟩ => ⟨S128x128, .f32⟩
  | .local .tc .vmem, ⟨11, _⟩ => ⟨S128x128, .f32⟩
  | .local .tc .vmem, ⟨12, _⟩ => ⟨S128x128, .f32⟩
  | .local .tc .vmem, ⟨13, _⟩ => ⟨S128x128, .f32⟩
  | .local .tc .vmem, ⟨14, _⟩ => ⟨S128x128, .f32⟩
  | .local .tc .vmem, ⟨15, _⟩ => ⟨S128x128, .f32⟩
  | .local .tc .vmem, ⟨16, _⟩ => ⟨S128x128, .f32⟩
  | .local .tc .vmem, ⟨17, _⟩ => ⟨S128x128, .f32⟩
  | .local .tc .vmem, ⟨18, _⟩ => ⟨S128x128, .i32⟩
  | .local .tc .vmem, ⟨19, _⟩ => ⟨S128x128, .i32⟩
  | .local .tc .smem, ⟨0, _⟩ => ⟨S9x2, .i32⟩
  | .local .scVector .vmem, ⟨0, _⟩ => ⟨S128x128, .i32⟩
  | .local .scVector .vmem, ⟨1, _⟩ => ⟨S128x128, .i32⟩
  | .local .scVector .vmem, ⟨2, _⟩ => ⟨S7680, .i32⟩
  | .local .scVector .vmem, ⟨3, _⟩ => ⟨S7680, .i32⟩
  | .local .scVector .vmem, ⟨4, _⟩ => ⟨S7680, .i32⟩
  | .local .scVector .vmem, ⟨5, _⟩ => ⟨S7680, .i32⟩
  | .local .scVector .vmem, ⟨6, _⟩ => ⟨S7680, .i32⟩
  | .local .scVector .vmem, ⟨7, _⟩ => ⟨S7680, .i32⟩
  | .local .scVector .vmem, ⟨8, _⟩ => ⟨S7680, .i32⟩
  | .local .scVector .vmem, ⟨9, _⟩ => ⟨S7680, .i32⟩
  | _, _ => ⟨S4096x128x2, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => false
  | ⟨22, _⟩ => false
  | ⟨23, _⟩ => false
  | ⟨24, _⟩ => false
  | ⟨25, _⟩ => false
  | ⟨26, _⟩ => false
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev main_v12_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v17_scv : Ref sig .scVector := ⟨.hbm, 26, rfl⟩
abbrev main_v19_scv : Ref sig .scVector := ⟨.hbm, 28, rfl⟩
abbrev main_v21_scv : Ref sig .scVector := ⟨.hbm, 30, rfl⟩
abbrev main_v23_scv : Ref sig .scVector := ⟨.hbm, 32, rfl⟩
abbrev main_v12_3_scv : Ref sig .scVector := ⟨.hbm, 20, rfl⟩
abbrev main_v12_4_scv : Ref sig .scVector := ⟨.hbm, 21, rfl⟩
abbrev main_v24_0_scv : Ref sig .scVector := ⟨.hbm, 33, rfl⟩
abbrev main_v24_1_scv : Ref sig .scVector := ⟨.hbm, 34, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg0_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_48 : BitVec 32 := 0#32
  let v186 : BitVec 1 := Scalar.cmpi .eq arg0 c0_i32_48
  let v187 : BitVec 32 := Scalar.extui v186
  let c0_i32_49 : BitVec 32 := 0#32
  let v188 : BitVec 1 := Scalar.cmpi .ne v187 c0_i32_49
  v188

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S9x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S128x128 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨2, ![2, 16], ![false, false]⟩

def k1_mult1 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  v21
def k1_mult2 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c0_i32_5 : BitVec 32 := 0#32
  let c54832_i32 : BitVec 32 := 54832#32
  let v23 : BitVec 32 := Scalar.minsi c0_i32_5 c54832_i32
  let v24 : BitVec 32 := Scalar.addi v22 v23
  v24
def k1_off1 (i : grid1.Coords) (c0_i32_5 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c54832_i32 : BitVec 32 := 54832#32
  let v23 : BitVec 32 := Scalar.minsi c0_i32_5 c54832_i32
  let v24 : BitVec 32 := Scalar.addi v22 v23
  let v25 : BitVec 32 := v24
  ![v25.toNat]
def k1_mult3 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c7680_i32 : BitVec 32 := 7680#32
  let c54832_i32_6 : BitVec 32 := 54832#32
  let v34 : BitVec 32 := Scalar.minsi c7680_i32 c54832_i32_6
  let v35 : BitVec 32 := Scalar.addi v22 v34
  v35
def k1_mult4 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c0_i32_7 : BitVec 32 := 0#32
  let c54832_i32_8 : BitVec 32 := 54832#32
  let v45 : BitVec 32 := Scalar.minsi c0_i32_7 c54832_i32_8
  let v46 : BitVec 32 := Scalar.addi v22 v45
  v46
@[reducible] def k1_t1_loop : Scf.Loop 32 :=
  let c0_i32_10 : BitVec 32 := 0#32
  let c480_i32 : BitVec 32 := 480#32
  let v56 : BitVec 32 := Scalar.addi c0_i32_10 c480_i32
  let c1_i32_11 : BitVec 32 := 1#32
  ⟨c0_i32_10, v56, c1_i32_11⟩
def k1_off2 (k1_t1 : Fin k1_t1_loop.trips) : Fin 1 → Nat :=
  let c0_i32_10 : BitVec 32 := 0#32
  let c1_i32_11 : BitVec 32 := 1#32
  let arg24 : BitVec 32 := Scf.iv c0_i32_10 c1_i32_11 k1_t1
  let c16_i32 : BitVec 32 := 16#32
  let v356 : BitVec 32 := Scalar.muli arg24 c16_i32
  let v357 : Index := Scalar.indexCast v356
  ![v357.toNat]

def k1_chk1 (v358 : IVec S16 32) (v360 : IVec S16 32) : Prop :=
  (∀ a x, ((![v358, v360] : Fin 2 → IVec S16 32) a x).toNat < S128x128.size a) ∧
  (∀ a x, ((![v358, v360] : Fin 2 → IVec S16 32) a x).toNat < S128x128.size a)
theorem k1_idx1_inb : ∀ (v358 : IVec S16 32) (v360 : IVec S16 32) (k1_hw1 : k1_chk1 v358 v360), ∀ a x, ((![v358, v360] : Fin 2 → IVec S16 32) a x).toNat < S128x128.size a := fun v358 v360 k1_hw1 => k1_hw1.1
theorem k1_idx2_inb : ∀ (v358 : IVec S16 32) (v360 : IVec S16 32) (k1_hw1 : k1_chk1 v358 v360), ∀ a x, ((![v358, v360] : Fin 2 → IVec S16 32) a x).toNat < S128x128.size a := fun v358 v360 k1_hw1 => k1_hw1.2
def k1_off3 (k1_t1 : Fin k1_t1_loop.trips) : Fin 1 → Nat :=
  let c0_i32_10 : BitVec 32 := 0#32
  let c1_i32_11 : BitVec 32 := 1#32
  let arg24 : BitVec 32 := Scf.iv c0_i32_10 c1_i32_11 k1_t1
  let c16_i32 : BitVec 32 := 16#32
  let v356 : BitVec 32 := Scalar.muli arg24 c16_i32
  let v363 : Index := Scalar.indexCast v356
  ![v363.toNat]
def k1_mult5 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c0_i32_13 : BitVec 32 := 0#32
  let c54832_i32_14 : BitVec 32 := 54832#32
  let v57 : BitVec 32 := Scalar.minsi c0_i32_13 c54832_i32_14
  let v58 : BitVec 32 := Scalar.addi v22 v57
  v58
def k1_mult6 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c0_i32_15 : BitVec 32 := 0#32
  let c54832_i32_16 : BitVec 32 := 54832#32
  let v64 : BitVec 32 := Scalar.minsi c0_i32_15 c54832_i32_16
  let v65 : BitVec 32 := Scalar.addi v22 v64
  v65
def k1_mult7 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c15360_i32 : BitVec 32 := 15360#32
  let c54832_i32_17 : BitVec 32 := 54832#32
  let v71 : BitVec 32 := Scalar.minsi c15360_i32 c54832_i32_17
  let v72 : BitVec 32 := Scalar.addi v22 v71
  v72
def k1_mult8 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c7680_i32_18 : BitVec 32 := 7680#32
  let c54832_i32_19 : BitVec 32 := 54832#32
  let v82 : BitVec 32 := Scalar.minsi c7680_i32_18 c54832_i32_19
  let v83 : BitVec 32 := Scalar.addi v22 v82
  v83
@[reducible] def k1_t2_loop : Scf.Loop 32 :=
  let c0_i32_21 : BitVec 32 := 0#32
  let c480_i32_22 : BitVec 32 := 480#32
  let v93 : BitVec 32 := Scalar.addi c0_i32_21 c480_i32_22
  let c1_i32_23 : BitVec 32 := 1#32
  ⟨c0_i32_21, v93, c1_i32_23⟩
def k1_off4 (k1_t2 : Fin k1_t2_loop.trips) : Fin 1 → Nat :=
  let c0_i32_21 : BitVec 32 := 0#32
  let c1_i32_23 : BitVec 32 := 1#32
  let arg24 : BitVec 32 := Scf.iv c0_i32_21 c1_i32_23 k1_t2
  let c16_i32 : BitVec 32 := 16#32
  let v356 : BitVec 32 := Scalar.muli arg24 c16_i32
  let v357 : Index := Scalar.indexCast v356
  ![v357.toNat]

def k1_chk2 (v358 : IVec S16 32) (v360 : IVec S16 32) : Prop :=
  (∀ a x, ((![v358, v360] : Fin 2 → IVec S16 32) a x).toNat < S128x128.size a) ∧
  (∀ a x, ((![v358, v360] : Fin 2 → IVec S16 32) a x).toNat < S128x128.size a)
theorem k1_idx3_inb : ∀ (v358 : IVec S16 32) (v360 : IVec S16 32) (k1_hw2 : k1_chk2 v358 v360), ∀ a x, ((![v358, v360] : Fin 2 → IVec S16 32) a x).toNat < S128x128.size a := fun v358 v360 k1_hw2 => k1_hw2.1
theorem k1_idx4_inb : ∀ (v358 : IVec S16 32) (v360 : IVec S16 32) (k1_hw2 : k1_chk2 v358 v360), ∀ a x, ((![v358, v360] : Fin 2 → IVec S16 32) a x).toNat < S128x128.size a := fun v358 v360 k1_hw2 => k1_hw2.2
def k1_off5 (k1_t2 : Fin k1_t2_loop.trips) : Fin 1 → Nat :=
  let c0_i32_21 : BitVec 32 := 0#32
  let c1_i32_23 : BitVec 32 := 1#32
  let arg24 : BitVec 32 := Scf.iv c0_i32_21 c1_i32_23 k1_t2
  let c16_i32 : BitVec 32 := 16#32
  let v356 : BitVec 32 := Scalar.muli arg24 c16_i32
  let v363 : Index := Scalar.indexCast v356
  ![v363.toNat]
def k1_mult9 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c7680_i32_25 : BitVec 32 := 7680#32
  let c54832_i32_26 : BitVec 32 := 54832#32
  let v94 : BitVec 32 := Scalar.minsi c7680_i32_25 c54832_i32_26
  let v95 : BitVec 32 := Scalar.addi v22 v94
  v95
def k1_mult10 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c7680_i32_27 : BitVec 32 := 7680#32
  let c54832_i32_28 : BitVec 32 := 54832#32
  let v101 : BitVec 32 := Scalar.minsi c7680_i32_27 c54832_i32_28
  let v102 : BitVec 32 := Scalar.addi v22 v101
  v102
def k1_mult11 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c23040_i32 : BitVec 32 := 23040#32
  let c54832_i32_29 : BitVec 32 := 54832#32
  let v108 : BitVec 32 := Scalar.minsi c23040_i32 c54832_i32_29
  let v109 : BitVec 32 := Scalar.addi v22 v108
  v109
def k1_mult12 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c15360_i32_30 : BitVec 32 := 15360#32
  let c54832_i32_31 : BitVec 32 := 54832#32
  let v119 : BitVec 32 := Scalar.minsi c15360_i32_30 c54832_i32_31
  let v120 : BitVec 32 := Scalar.addi v22 v119
  v120
@[reducible] def k1_t3_loop : Scf.Loop 32 :=
  let c0_i32_33 : BitVec 32 := 0#32
  let c480_i32_34 : BitVec 32 := 480#32
  let v130 : BitVec 32 := Scalar.addi c0_i32_33 c480_i32_34
  let c1_i32_35 : BitVec 32 := 1#32
  ⟨c0_i32_33, v130, c1_i32_35⟩
def k1_off6 (k1_t3 : Fin k1_t3_loop.trips) : Fin 1 → Nat :=
  let c0_i32_33 : BitVec 32 := 0#32
  let c1_i32_35 : BitVec 32 := 1#32
  let arg24 : BitVec 32 := Scf.iv c0_i32_33 c1_i32_35 k1_t3
  let c16_i32 : BitVec 32 := 16#32
  let v356 : BitVec 32 := Scalar.muli arg24 c16_i32
  let v357 : Index := Scalar.indexCast v356
  ![v357.toNat]

def k1_chk3 (v358 : IVec S16 32) (v360 : IVec S16 32) : Prop :=
  (∀ a x, ((![v358, v360] : Fin 2 → IVec S16 32) a x).toNat < S128x128.size a) ∧
  (∀ a x, ((![v358, v360] : Fin 2 → IVec S16 32) a x).toNat < S128x128.size a)
theorem k1_idx5_inb : ∀ (v358 : IVec S16 32) (v360 : IVec S16 32) (k1_hw3 : k1_chk3 v358 v360), ∀ a x, ((![v358, v360] : Fin 2 → IVec S16 32) a x).toNat < S128x128.size a := fun v358 v360 k1_hw3 => k1_hw3.1
theorem k1_idx6_inb : ∀ (v358 : IVec S16 32) (v360 : IVec S16 32) (k1_hw3 : k1_chk3 v358 v360), ∀ a x, ((![v358, v360] : Fin 2 → IVec S16 32) a x).toNat < S128x128.size a := fun v358 v360 k1_hw3 => k1_hw3.2
def k1_off7 (k1_t3 : Fin k1_t3_loop.trips) : Fin 1 → Nat :=
  let c0_i32_33 : BitVec 32 := 0#32
  let c1_i32_35 : BitVec 32 := 1#32
  let arg24 : BitVec 32 := Scf.iv c0_i32_33 c1_i32_35 k1_t3
  let c16_i32 : BitVec 32 := 16#32
  let v356 : BitVec 32 := Scalar.muli arg24 c16_i32
  let v363 : Index := Scalar.indexCast v356
  ![v363.toNat]
def k1_mult13 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c15360_i32_37 : BitVec 32 := 15360#32
  let c54832_i32_38 : BitVec 32 := 54832#32
  let v131 : BitVec 32 := Scalar.minsi c15360_i32_37 c54832_i32_38
  let v132 : BitVec 32 := Scalar.addi v22 v131
  v132
def k1_mult14 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c15360_i32_39 : BitVec 32 := 15360#32
  let c54832_i32_40 : BitVec 32 := 54832#32
  let v138 : BitVec 32 := Scalar.minsi c15360_i32_39 c54832_i32_40
  let v139 : BitVec 32 := Scalar.addi v22 v138
  v139
def k1_mult15 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c30720_i32 : BitVec 32 := 30720#32
  let c54832_i32_41 : BitVec 32 := 54832#32
  let v145 : BitVec 32 := Scalar.minsi c30720_i32 c54832_i32_41
  let v146 : BitVec 32 := Scalar.addi v22 v145
  v146
def k1_mult16 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c23040_i32_42 : BitVec 32 := 23040#32
  let c54832_i32_43 : BitVec 32 := 54832#32
  let v156 : BitVec 32 := Scalar.minsi c23040_i32_42 c54832_i32_43
  let v157 : BitVec 32 := Scalar.addi v22 v156
  v157
@[reducible] def k1_t4_loop : Scf.Loop 32 :=
  let c0_i32_45 : BitVec 32 := 0#32
  let c480_i32_46 : BitVec 32 := 480#32
  let v167 : BitVec 32 := Scalar.addi c0_i32_45 c480_i32_46
  let c1_i32_47 : BitVec 32 := 1#32
  ⟨c0_i32_45, v167, c1_i32_47⟩
def k1_off8 (k1_t4 : Fin k1_t4_loop.trips) : Fin 1 → Nat :=
  let c0_i32_45 : BitVec 32 := 0#32
  let c1_i32_47 : BitVec 32 := 1#32
  let arg24 : BitVec 32 := Scf.iv c0_i32_45 c1_i32_47 k1_t4
  let c16_i32 : BitVec 32 := 16#32
  let v356 : BitVec 32 := Scalar.muli arg24 c16_i32
  let v357 : Index := Scalar.indexCast v356
  ![v357.toNat]

def k1_chk4 (v358 : IVec S16 32) (v360 : IVec S16 32) : Prop :=
  (∀ a x, ((![v358, v360] : Fin 2 → IVec S16 32) a x).toNat < S128x128.size a) ∧
  (∀ a x, ((![v358, v360] : Fin 2 → IVec S16 32) a x).toNat < S128x128.size a)
theorem k1_idx7_inb : ∀ (v358 : IVec S16 32) (v360 : IVec S16 32) (k1_hw4 : k1_chk4 v358 v360), ∀ a x, ((![v358, v360] : Fin 2 → IVec S16 32) a x).toNat < S128x128.size a := fun v358 v360 k1_hw4 => k1_hw4.1
theorem k1_idx8_inb : ∀ (v358 : IVec S16 32) (v360 : IVec S16 32) (k1_hw4 : k1_chk4 v358 v360), ∀ a x, ((![v358, v360] : Fin 2 → IVec S16 32) a x).toNat < S128x128.size a := fun v358 v360 k1_hw4 => k1_hw4.2
def k1_off9 (k1_t4 : Fin k1_t4_loop.trips) : Fin 1 → Nat :=
  let c0_i32_45 : BitVec 32 := 0#32
  let c1_i32_47 : BitVec 32 := 1#32
  let arg24 : BitVec 32 := Scf.iv c0_i32_45 c1_i32_47 k1_t4
  let c16_i32 : BitVec 32 := 16#32
  let v356 : BitVec 32 := Scalar.muli arg24 c16_i32
  let v363 : Index := Scalar.indexCast v356
  ![v363.toNat]
def k1_mult17 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c23040_i32_49 : BitVec 32 := 23040#32
  let c54832_i32_50 : BitVec 32 := 54832#32
  let v168 : BitVec 32 := Scalar.minsi c23040_i32_49 c54832_i32_50
  let v169 : BitVec 32 := Scalar.addi v22 v168
  v169
def k1_mult18 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c23040_i32_51 : BitVec 32 := 23040#32
  let c54832_i32_52 : BitVec 32 := 54832#32
  let v175 : BitVec 32 := Scalar.minsi c23040_i32_51 c54832_i32_52
  let v176 : BitVec 32 := Scalar.addi v22 v175
  v176
def k1_mult19 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c38400_i32 : BitVec 32 := 38400#32
  let c54832_i32_53 : BitVec 32 := 54832#32
  let v182 : BitVec 32 := Scalar.minsi c38400_i32 c54832_i32_53
  let v183 : BitVec 32 := Scalar.addi v22 v182
  v183
def k1_mult20 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c30720_i32_54 : BitVec 32 := 30720#32
  let c54832_i32_55 : BitVec 32 := 54832#32
  let v193 : BitVec 32 := Scalar.minsi c30720_i32_54 c54832_i32_55
  let v194 : BitVec 32 := Scalar.addi v22 v193
  v194
@[reducible] def k1_t5_loop : Scf.Loop 32 :=
  let c0_i32_57 : BitVec 32 := 0#32
  let c480_i32_58 : BitVec 32 := 480#32
  let v204 : BitVec 32 := Scalar.addi c0_i32_57 c480_i32_58
  let c1_i32_59 : BitVec 32 := 1#32
  ⟨c0_i32_57, v204, c1_i32_59⟩
def k1_off10 (k1_t5 : Fin k1_t5_loop.trips) : Fin 1 → Nat :=
  let c0_i32_57 : BitVec 32 := 0#32
  let c1_i32_59 : BitVec 32 := 1#32
  let arg24 : BitVec 32 := Scf.iv c0_i32_57 c1_i32_59 k1_t5
  let c16_i32 : BitVec 32 := 16#32
  let v356 : BitVec 32 := Scalar.muli arg24 c16_i32
  let v357 : Index := Scalar.indexCast v356
  ![v357.toNat]

def k1_chk5 (v358 : IVec S16 32) (v360 : IVec S16 32) : Prop :=
  (∀ a x, ((![v358, v360] : Fin 2 → IVec S16 32) a x).toNat < S128x128.size a) ∧
  (∀ a x, ((![v358, v360] : Fin 2 → IVec S16 32) a x).toNat < S128x128.size a)
theorem k1_idx9_inb : ∀ (v358 : IVec S16 32) (v360 : IVec S16 32) (k1_hw5 : k1_chk5 v358 v360), ∀ a x, ((![v358, v360] : Fin 2 → IVec S16 32) a x).toNat < S128x128.size a := fun v358 v360 k1_hw5 => k1_hw5.1
theorem k1_idx10_inb : ∀ (v358 : IVec S16 32) (v360 : IVec S16 32) (k1_hw5 : k1_chk5 v358 v360), ∀ a x, ((![v358, v360] : Fin 2 → IVec S16 32) a x).toNat < S128x128.size a := fun v358 v360 k1_hw5 => k1_hw5.2
def k1_off11 (k1_t5 : Fin k1_t5_loop.trips) : Fin 1 → Nat :=
  let c0_i32_57 : BitVec 32 := 0#32
  let c1_i32_59 : BitVec 32 := 1#32
  let arg24 : BitVec 32 := Scf.iv c0_i32_57 c1_i32_59 k1_t5
  let c16_i32 : BitVec 32 := 16#32
  let v356 : BitVec 32 := Scalar.muli arg24 c16_i32
  let v363 : Index := Scalar.indexCast v356
  ![v363.toNat]
def k1_mult21 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c30720_i32_61 : BitVec 32 := 30720#32
  let c54832_i32_62 : BitVec 32 := 54832#32
  let v205 : BitVec 32 := Scalar.minsi c30720_i32_61 c54832_i32_62
  let v206 : BitVec 32 := Scalar.addi v22 v205
  v206
def k1_mult22 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c30720_i32_63 : BitVec 32 := 30720#32
  let c54832_i32_64 : BitVec 32 := 54832#32
  let v212 : BitVec 32 := Scalar.minsi c30720_i32_63 c54832_i32_64
  let v213 : BitVec 32 := Scalar.addi v22 v212
  v213
def k1_mult23 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c46080_i32 : BitVec 32 := 46080#32
  let c54832_i32_65 : BitVec 32 := 54832#32
  let v219 : BitVec 32 := Scalar.minsi c46080_i32 c54832_i32_65
  let v220 : BitVec 32 := Scalar.addi v22 v219
  v220
def k1_mult24 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c38400_i32_66 : BitVec 32 := 38400#32
  let c54832_i32_67 : BitVec 32 := 54832#32
  let v230 : BitVec 32 := Scalar.minsi c38400_i32_66 c54832_i32_67
  let v231 : BitVec 32 := Scalar.addi v22 v230
  v231
@[reducible] def k1_t6_loop : Scf.Loop 32 :=
  let c0_i32_69 : BitVec 32 := 0#32
  let c480_i32_70 : BitVec 32 := 480#32
  let v241 : BitVec 32 := Scalar.addi c0_i32_69 c480_i32_70
  let c1_i32_71 : BitVec 32 := 1#32
  ⟨c0_i32_69, v241, c1_i32_71⟩
def k1_off12 (k1_t6 : Fin k1_t6_loop.trips) : Fin 1 → Nat :=
  let c0_i32_69 : BitVec 32 := 0#32
  let c1_i32_71 : BitVec 32 := 1#32
  let arg24 : BitVec 32 := Scf.iv c0_i32_69 c1_i32_71 k1_t6
  let c16_i32 : BitVec 32 := 16#32
  let v356 : BitVec 32 := Scalar.muli arg24 c16_i32
  let v357 : Index := Scalar.indexCast v356
  ![v357.toNat]

def k1_chk6 (v358 : IVec S16 32) (v360 : IVec S16 32) : Prop :=
  (∀ a x, ((![v358, v360] : Fin 2 → IVec S16 32) a x).toNat < S128x128.size a) ∧
  (∀ a x, ((![v358, v360] : Fin 2 → IVec S16 32) a x).toNat < S128x128.size a)
theorem k1_idx11_inb : ∀ (v358 : IVec S16 32) (v360 : IVec S16 32) (k1_hw6 : k1_chk6 v358 v360), ∀ a x, ((![v358, v360] : Fin 2 → IVec S16 32) a x).toNat < S128x128.size a := fun v358 v360 k1_hw6 => k1_hw6.1
theorem k1_idx12_inb : ∀ (v358 : IVec S16 32) (v360 : IVec S16 32) (k1_hw6 : k1_chk6 v358 v360), ∀ a x, ((![v358, v360] : Fin 2 → IVec S16 32) a x).toNat < S128x128.size a := fun v358 v360 k1_hw6 => k1_hw6.2
def k1_off13 (k1_t6 : Fin k1_t6_loop.trips) : Fin 1 → Nat :=
  let c0_i32_69 : BitVec 32 := 0#32
  let c1_i32_71 : BitVec 32 := 1#32
  let arg24 : BitVec 32 := Scf.iv c0_i32_69 c1_i32_71 k1_t6
  let c16_i32 : BitVec 32 := 16#32
  let v356 : BitVec 32 := Scalar.muli arg24 c16_i32
  let v363 : Index := Scalar.indexCast v356
  ![v363.toNat]
def k1_mult25 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c38400_i32_73 : BitVec 32 := 38400#32
  let c54832_i32_74 : BitVec 32 := 54832#32
  let v242 : BitVec 32 := Scalar.minsi c38400_i32_73 c54832_i32_74
  let v243 : BitVec 32 := Scalar.addi v22 v242
  v243
def k1_mult26 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c38400_i32_75 : BitVec 32 := 38400#32
  let c54832_i32_76 : BitVec 32 := 54832#32
  let v249 : BitVec 32 := Scalar.minsi c38400_i32_75 c54832_i32_76
  let v250 : BitVec 32 := Scalar.addi v22 v249
  v250
def k1_mult27 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c53760_i32 : BitVec 32 := 53760#32
  let c54832_i32_77 : BitVec 32 := 54832#32
  let v256 : BitVec 32 := Scalar.minsi c53760_i32 c54832_i32_77
  let v257 : BitVec 32 := Scalar.addi v22 v256
  v257
def k1_mult28 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c46080_i32_78 : BitVec 32 := 46080#32
  let c54832_i32_79 : BitVec 32 := 54832#32
  let v267 : BitVec 32 := Scalar.minsi c46080_i32_78 c54832_i32_79
  let v268 : BitVec 32 := Scalar.addi v22 v267
  v268
@[reducible] def k1_t7_loop : Scf.Loop 32 :=
  let c0_i32_81 : BitVec 32 := 0#32
  let c480_i32_82 : BitVec 32 := 480#32
  let v278 : BitVec 32 := Scalar.addi c0_i32_81 c480_i32_82
  let c1_i32_83 : BitVec 32 := 1#32
  ⟨c0_i32_81, v278, c1_i32_83⟩
def k1_off14 (k1_t7 : Fin k1_t7_loop.trips) : Fin 1 → Nat :=
  let c0_i32_81 : BitVec 32 := 0#32
  let c1_i32_83 : BitVec 32 := 1#32
  let arg24 : BitVec 32 := Scf.iv c0_i32_81 c1_i32_83 k1_t7
  let c16_i32 : BitVec 32 := 16#32
  let v356 : BitVec 32 := Scalar.muli arg24 c16_i32
  let v357 : Index := Scalar.indexCast v356
  ![v357.toNat]

def k1_chk7 (v358 : IVec S16 32) (v360 : IVec S16 32) : Prop :=
  (∀ a x, ((![v358, v360] : Fin 2 → IVec S16 32) a x).toNat < S128x128.size a) ∧
  (∀ a x, ((![v358, v360] : Fin 2 → IVec S16 32) a x).toNat < S128x128.size a)
theorem k1_idx13_inb : ∀ (v358 : IVec S16 32) (v360 : IVec S16 32) (k1_hw7 : k1_chk7 v358 v360), ∀ a x, ((![v358, v360] : Fin 2 → IVec S16 32) a x).toNat < S128x128.size a := fun v358 v360 k1_hw7 => k1_hw7.1
theorem k1_idx14_inb : ∀ (v358 : IVec S16 32) (v360 : IVec S16 32) (k1_hw7 : k1_chk7 v358 v360), ∀ a x, ((![v358, v360] : Fin 2 → IVec S16 32) a x).toNat < S128x128.size a := fun v358 v360 k1_hw7 => k1_hw7.2
def k1_off15 (k1_t7 : Fin k1_t7_loop.trips) : Fin 1 → Nat :=
  let c0_i32_81 : BitVec 32 := 0#32
  let c1_i32_83 : BitVec 32 := 1#32
  let arg24 : BitVec 32 := Scf.iv c0_i32_81 c1_i32_83 k1_t7
  let c16_i32 : BitVec 32 := 16#32
  let v356 : BitVec 32 := Scalar.muli arg24 c16_i32
  let v363 : Index := Scalar.indexCast v356
  ![v363.toNat]
def k1_mult29 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c46080_i32_85 : BitVec 32 := 46080#32
  let c54832_i32_86 : BitVec 32 := 54832#32
  let v279 : BitVec 32 := Scalar.minsi c46080_i32_85 c54832_i32_86
  let v280 : BitVec 32 := Scalar.addi v22 v279
  v280
def k1_mult30 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c46080_i32_87 : BitVec 32 := 46080#32
  let c54832_i32_88 : BitVec 32 := 54832#32
  let v286 : BitVec 32 := Scalar.minsi c46080_i32_87 c54832_i32_88
  let v287 : BitVec 32 := Scalar.addi v22 v286
  v287
def k1_mult31 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c61440_i32 : BitVec 32 := 61440#32
  let c54832_i32_89 : BitVec 32 := 54832#32
  let v293 : BitVec 32 := Scalar.minsi c61440_i32 c54832_i32_89
  let v294 : BitVec 32 := Scalar.addi v22 v293
  v294
def k1_mult32 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c53760_i32_90 : BitVec 32 := 53760#32
  let c54832_i32_91 : BitVec 32 := 54832#32
  let v304 : BitVec 32 := Scalar.minsi c53760_i32_90 c54832_i32_91
  let v305 : BitVec 32 := Scalar.addi v22 v304
  v305
@[reducible] def k1_t8_loop : Scf.Loop 32 :=
  let c0_i32_93 : BitVec 32 := 0#32
  let c480_i32_94 : BitVec 32 := 480#32
  let v315 : BitVec 32 := Scalar.addi c0_i32_93 c480_i32_94
  let c1_i32_95 : BitVec 32 := 1#32
  ⟨c0_i32_93, v315, c1_i32_95⟩
def k1_off16 (k1_t8 : Fin k1_t8_loop.trips) : Fin 1 → Nat :=
  let c0_i32_93 : BitVec 32 := 0#32
  let c1_i32_95 : BitVec 32 := 1#32
  let arg24 : BitVec 32 := Scf.iv c0_i32_93 c1_i32_95 k1_t8
  let c16_i32 : BitVec 32 := 16#32
  let v356 : BitVec 32 := Scalar.muli arg24 c16_i32
  let v357 : Index := Scalar.indexCast v356
  ![v357.toNat]

def k1_chk8 (v358 : IVec S16 32) (v360 : IVec S16 32) : Prop :=
  (∀ a x, ((![v358, v360] : Fin 2 → IVec S16 32) a x).toNat < S128x128.size a) ∧
  (∀ a x, ((![v358, v360] : Fin 2 → IVec S16 32) a x).toNat < S128x128.size a)
theorem k1_idx15_inb : ∀ (v358 : IVec S16 32) (v360 : IVec S16 32) (k1_hw8 : k1_chk8 v358 v360), ∀ a x, ((![v358, v360] : Fin 2 → IVec S16 32) a x).toNat < S128x128.size a := fun v358 v360 k1_hw8 => k1_hw8.1
theorem k1_idx16_inb : ∀ (v358 : IVec S16 32) (v360 : IVec S16 32) (k1_hw8 : k1_chk8 v358 v360), ∀ a x, ((![v358, v360] : Fin 2 → IVec S16 32) a x).toNat < S128x128.size a := fun v358 v360 k1_hw8 => k1_hw8.2
def k1_off17 (k1_t8 : Fin k1_t8_loop.trips) : Fin 1 → Nat :=
  let c0_i32_93 : BitVec 32 := 0#32
  let c1_i32_95 : BitVec 32 := 1#32
  let arg24 : BitVec 32 := Scf.iv c0_i32_93 c1_i32_95 k1_t8
  let c16_i32 : BitVec 32 := 16#32
  let v356 : BitVec 32 := Scalar.muli arg24 c16_i32
  let v363 : Index := Scalar.indexCast v356
  ![v363.toNat]
def k1_mult33 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c53760_i32_97 : BitVec 32 := 53760#32
  let c54832_i32_98 : BitVec 32 := 54832#32
  let v316 : BitVec 32 := Scalar.minsi c53760_i32_97 c54832_i32_98
  let v317 : BitVec 32 := Scalar.addi v22 v316
  v317
def k1_mult34 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c61440_i32_99 : BitVec 32 := 61440#32
  let c54832_i32_100 : BitVec 32 := 54832#32
  let v323 : BitVec 32 := Scalar.minsi c61440_i32_99 c54832_i32_100
  let v324 : BitVec 32 := Scalar.addi v22 v323
  v324
@[reducible] def k1_t9_loop : Scf.Loop 32 :=
  let c0_i32_102 : BitVec 32 := 0#32
  let c480_i32_103 : BitVec 32 := 480#32
  let v334 : BitVec 32 := Scalar.addi c0_i32_102 c480_i32_103
  let c1_i32_104 : BitVec 32 := 1#32
  ⟨c0_i32_102, v334, c1_i32_104⟩
def k1_off18 (k1_t9 : Fin k1_t9_loop.trips) : Fin 1 → Nat :=
  let c0_i32_102 : BitVec 32 := 0#32
  let c1_i32_104 : BitVec 32 := 1#32
  let arg24 : BitVec 32 := Scf.iv c0_i32_102 c1_i32_104 k1_t9
  let c16_i32 : BitVec 32 := 16#32
  let v356 : BitVec 32 := Scalar.muli arg24 c16_i32
  let v357 : Index := Scalar.indexCast v356
  ![v357.toNat]

def k1_chk9 (v358 : IVec S16 32) (v360 : IVec S16 32) : Prop :=
  (∀ a x, ((![v358, v360] : Fin 2 → IVec S16 32) a x).toNat < S128x128.size a) ∧
  (∀ a x, ((![v358, v360] : Fin 2 → IVec S16 32) a x).toNat < S128x128.size a)
theorem k1_idx17_inb : ∀ (v358 : IVec S16 32) (v360 : IVec S16 32) (k1_hw9 : k1_chk9 v358 v360), ∀ a x, ((![v358, v360] : Fin 2 → IVec S16 32) a x).toNat < S128x128.size a := fun v358 v360 k1_hw9 => k1_hw9.1
theorem k1_idx18_inb : ∀ (v358 : IVec S16 32) (v360 : IVec S16 32) (k1_hw9 : k1_chk9 v358 v360), ∀ a x, ((![v358, v360] : Fin 2 → IVec S16 32) a x).toNat < S128x128.size a := fun v358 v360 k1_hw9 => k1_hw9.2
def k1_off19 (k1_t9 : Fin k1_t9_loop.trips) : Fin 1 → Nat :=
  let c0_i32_102 : BitVec 32 := 0#32
  let c1_i32_104 : BitVec 32 := 1#32
  let arg24 : BitVec 32 := Scf.iv c0_i32_102 c1_i32_104 k1_t9
  let c16_i32 : BitVec 32 := 16#32
  let v356 : BitVec 32 := Scalar.muli arg24 c16_i32
  let v363 : Index := Scalar.indexCast v356
  ![v363.toNat]
def k1_mult35 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c61440_i32_106 : BitVec 32 := 61440#32
  let c54832_i32_107 : BitVec 32 := 54832#32
  let v335 : BitVec 32 := Scalar.minsi c61440_i32_106 c54832_i32_107
  let v336 : BitVec 32 := Scalar.addi v22 v335
  v336
def k1_mult36 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c61440_i32_108 : BitVec 32 := 61440#32
  let c54832_i32_109 : BitVec 32 := 54832#32
  let v342 : BitVec 32 := Scalar.minsi c61440_i32_108 c54832_i32_109
  let v343 : BitVec 32 := Scalar.addi v22 v342
  v343
def k1_mult37 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62500_i32 : BitVec 32 := 62500#32
  let v2 : BitVec 32 := Scalar.muli v1 c62500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c1937488_i32 : BitVec 32 := 1937488#32
  let v21 : BitVec 32 := Scalar.minsi v20 c1937488_i32
  let v22 : BitVec 32 := v21
  let c53760_i32_110 : BitVec 32 := 53760#32
  let c54832_i32_111 : BitVec 32 := 54832#32
  let v349 : BitVec 32 := Scalar.minsi c53760_i32_110 c54832_i32_111
  let v350 : BitVec 32 := Scalar.addi v22 v349
  v350
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x128x2 : Shape := ⟨3, ![4096, 128, 2]⟩
abbrev S2000000x8 : Shape := ⟨2, ![2000000, 8]⟩
abbrev S4096x128 : Shape := ⟨2, ![4096, 128]⟩
abbrev S4096x128x4 : Shape := ⟨3, ![4096, 128, 4]⟩
abbrev S9x2 : Shape := ⟨2, ![9, 2]⟩
abbrev S4096x128x1x2 : Shape := ⟨4, ![4096, 128, 1, 2]⟩
abbrev S1x1x9x2 : Shape := ⟨4, ![1, 1, 9, 2]⟩
abbrev S4096x128x9x2 : Shape := ⟨4, ![4096, 128, 9, 2]⟩
abbrev S_ : Shape := ⟨0, ![]⟩
abbrev S4096x128x9 : Shape := ⟨3, ![4096, 128, 9]⟩
abbrev S4096x128x1 : Shape := ⟨3, ![4096, 128, 1]⟩
abbrev S2000000x1 : Shape := ⟨2, ![2000000, 1]⟩
abbrev S2000000 : Shape := ⟨1, ![2000000]⟩
abbrev S2000000x2 : Shape := ⟨2, ![2000000, 2]⟩
abbrev S1 : Shape := ⟨1, ![1]⟩

abbrev nBuf : Space → Nat
  | .hbm => 72
  | .vmem => 0
  | .smem => 0
  | _ => 0

abbrev bufTy : (tb : Table) → Fin (tcTables nBuf tb) → BufTy
  | .hbm, ⟨0, _⟩ => ⟨S4096x128x2, .f32⟩
  | .hbm, ⟨1, _⟩ => ⟨S2000000x8, .i32⟩
  | .hbm, ⟨2, _⟩ => ⟨S4096x128, .i1⟩
  | .hbm, ⟨3, _⟩ => ⟨S4096x128x4, .i32⟩
  | .hbm, ⟨4, _⟩ => ⟨S9x2, .i32⟩
  | .hbm, ⟨5, _⟩ => ⟨S4096x128x2, .i32⟩
  | .hbm, ⟨6, _⟩ => ⟨S4096x128x2, .i32⟩
  | .hbm, ⟨7, _⟩ => ⟨S4096x128x1x2, .i32⟩
  | .hbm, ⟨8, _⟩ => ⟨S1x1x9x2, .i32⟩
  | .hbm, ⟨9, _⟩ => ⟨S4096x128x9x2, .i32⟩
  | .hbm, ⟨10, _⟩ => ⟨S4096x128x9x2, .i32⟩
  | .hbm, ⟨11, _⟩ => ⟨S4096x128x9x2, .i32⟩
  | .hbm, ⟨12, _⟩ => ⟨S4096x128x1x2, .i32⟩
  | .hbm, ⟨13, _⟩ => ⟨S4096x128x9x2, .i32⟩
  | .hbm, ⟨14, _⟩ => ⟨S4096x128x9x2, .i32⟩
  | .hbm, ⟨15, _⟩ => ⟨S4096x128x9x2, .f32⟩
  | .hbm, ⟨16, _⟩ => ⟨S4096x128x9x2, .f32⟩
  | .hbm, ⟨17, _⟩ => ⟨S_, .f32⟩
  | .hbm, ⟨18, _⟩ => ⟨S4096x128x9, .f32⟩
  | .hbm, ⟨19, _⟩ => ⟨S4096x128x9, .f32⟩
  | .hbm, ⟨20, _⟩ => ⟨S4096x128x9, .i32⟩
  | .hbm, ⟨21, _⟩ => ⟨S_, .f32⟩
  | .hbm, ⟨22, _⟩ => ⟨S_, .i32⟩
  | .hbm, ⟨23, _⟩ => ⟨S4096x128, .f32⟩
  | .hbm, ⟨24, _⟩ => ⟨S4096x128, .i32⟩
  | .hbm, ⟨25, _⟩ => ⟨S_, .i32⟩
  | .hbm, ⟨26, _⟩ => ⟨S4096x128, .i32⟩
  | .hbm, ⟨27, _⟩ => ⟨S4096x128, .i1⟩
  | .hbm, ⟨28, _⟩ => ⟨S_, .i32⟩
  | .hbm, ⟨29, _⟩ => ⟨S4096x128, .i32⟩
  | .hbm, ⟨30, _⟩ => ⟨S4096x128, .i32⟩
  | .hbm, ⟨31, _⟩ => ⟨S4096x128, .i32⟩
  | .hbm, ⟨32, _⟩ => ⟨S4096x128x1, .i32⟩
  | .hbm, ⟨33, _⟩ => ⟨S4096x128x2, .i32⟩
  | .hbm, ⟨34, _⟩ => ⟨S_, .i32⟩
  | .hbm, ⟨35, _⟩ => ⟨S4096x128x2, .i32⟩
  | .hbm, ⟨36, _⟩ => ⟨S4096x128x2, .i1⟩
  | .hbm, ⟨37, _⟩ => ⟨S_, .i32⟩
  | .hbm, ⟨38, _⟩ => ⟨S4096x128x2, .i32⟩
  | .hbm, ⟨39, _⟩ => ⟨S4096x128x2, .i32⟩
  | .hbm, ⟨40, _⟩ => ⟨S4096x128x2, .f32⟩
  | .hbm, ⟨41, _⟩ => ⟨S4096x128x2, .f32⟩
  | .hbm, ⟨42, _⟩ => ⟨S2000000x1, .i32⟩
  | .hbm, ⟨43, _⟩ => ⟨S2000000, .i32⟩
  | .hbm, ⟨44, _⟩ => ⟨S2000000x1, .i32⟩
  | .hbm, ⟨45, _⟩ => ⟨S2000000, .i32⟩
  | .hbm, ⟨46, _⟩ => ⟨S_, .i32⟩
  | .hbm, ⟨47, _⟩ => ⟨S2000000, .i32⟩
  | .hbm, ⟨48, _⟩ => ⟨S2000000, .i1⟩
  | .hbm, ⟨49, _⟩ => ⟨S_, .i32⟩
  | .hbm, ⟨50, _⟩ => ⟨S2000000, .i32⟩
  | .hbm, ⟨51, _⟩ => ⟨S2000000, .i32⟩
  | .hbm, ⟨52, _⟩ => ⟨S2000000, .i32⟩
  | .hbm, ⟨53, _⟩ => ⟨S_, .i32⟩
  | .hbm, ⟨54, _⟩ => ⟨S2000000, .i32⟩
  | .hbm, ⟨55, _⟩ => ⟨S2000000, .i1⟩
  | .hbm, ⟨56, _⟩ => ⟨S_, .i32⟩
  | .hbm, ⟨57, _⟩ => ⟨S2000000, .i32⟩
  | .hbm, ⟨58, _⟩ => ⟨S2000000, .i32⟩
  | .hbm, ⟨59, _⟩ => ⟨S2000000, .i32⟩
  | .hbm, ⟨60, _⟩ => ⟨S2000000x1, .i32⟩
  | .hbm, ⟨61, _⟩ => ⟨S2000000x1, .i32⟩
  | .hbm, ⟨62, _⟩ => ⟨S2000000x2, .i32⟩
  | .hbm, ⟨63, _⟩ => ⟨S2000000x2, .i32⟩
  | .hbm, ⟨64, _⟩ => ⟨S_, .i32⟩
  | .hbm, ⟨65, _⟩ => ⟨S1, .i32⟩
  | .hbm, ⟨66, _⟩ => ⟨S2000000x8, .i32⟩
  | .hbm, ⟨67, _⟩ => ⟨S4096x128x2, .f32⟩
  | .hbm, ⟨68, _⟩ => ⟨S4096x128x2, .f32⟩
  | .hbm, ⟨69, _⟩ => ⟨S_, .f32⟩
  | .hbm, ⟨70, _⟩ => ⟨S4096x128, .f32⟩
  | .hbm, ⟨71, _⟩ => ⟨S4096x128, .f32⟩
  | _, _ => ⟨S4096x128x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_v11 : Ref sig .tc := ⟨.hbm, 19, rfl⟩
abbrev main_call1_v0 : Ref sig .tc := ⟨.hbm, 20, rfl⟩
abbrev main_call1_cst : Ref sig .tc := ⟨.hbm, 21, rfl⟩
abbrev main_call1_c : Ref sig .tc := ⟨.hbm, 22, rfl⟩
abbrev main_call1_v1_0 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_3 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call3_v0 : Ref sig .tc := ⟨.hbm, 68, rfl⟩
abbrev main_call3_cst : Ref sig .tc := ⟨.hbm, 69, rfl⟩
abbrev main_call3_v1 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.Common.lean ====
/-
  What the proofs about the SparseCore kernel share: the program as the launch theorem takes it, and the ghost state —
  the TensorCore pipeline's rounds, the handshakes' rounds, the library's write mode and its counters.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.WriteMode
public import Idealize.ShloMosaic.Lib.Batch
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Sc

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the program with its one TensorCore pipeline. -/
abbrev ΛP : Labels := Pipeline.Sig Λ₀ (Fin 1) fun p => (pcfgs (F := F) p).Adm
/-- The SparseCore calls of the program: one. -/
abbrev K : SparseCore.Cfg τ sig (ΛP (F := F)) 1 := sc (F := F)
/-- The tables of the program's regions. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake's semaphores are where the launch theorem wants them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' rounds. -/
abbrev UH : Type := URounds (GSem nD τ sig) ℕ
/-- The whole user algebra: the TensorCore pipeline's rounds, the handshakes', write mode, counters. -/
abbrev UU (F : FTy → Type) : Type := UR sig nD τ × (UH × (WmRA nD τ sig (Elt F) × Counters))

local notation "𝕄" => MT nD τ sig (HIx 1) (Elt F) ℕ (UU F) ℕ

/-- Where the TensorCore pipeline's rounds sit; -/
def EP : Emb (UR sig nD τ) 𝕄 :=
  (Emb.inl : Emb (UR sig nD τ) (UU F)).trans (uEmb (nD := nD) (τ := τ) (sig := sig) (Ix := HIx 1) (Val := Elt F) (Name := ℕ) (U := UU F) (Lvl := ℕ)).toEmb
/-- where the handshakes' do; -/
def EH : Emb UH 𝕄 :=
  (((Emb.inl : Emb UH (UH × (WmRA nD τ sig (Elt F) × Counters))).trans Emb.inr : Emb UH (UU F))).trans
    (uEmb (nD := nD) (τ := τ) (sig := sig) (Ix := HIx 1) (Val := Elt F) (Name := ℕ) (U := UU F) (Lvl := ℕ)).toEmb
/-- where write mode does; -/
def EW : UEmb (WmRA nD τ sig (Elt F)) (UU F) := (UEmb.inl.trans UEmb.inr).trans UEmb.inr
/-- and where the counters do. -/
abbrev EC : UEmb Counters 𝕄 := countersEmb

instance EP_landsIn : (EP (F := F)).LandsIn (upEmb : UEmb _ 𝕄) := by unfold EP; infer_instance
instance EH_landsIn : (EH (F := F)).LandsIn (upEmb : UEmb _ 𝕄) := by unfold EH; infer_instance
instance EC_landsIn : (EC (F := F)).LandsIn (upEmb : UEmb _ 𝕄) := inferInstance

end Cert.Proof.Sc
-- ==== Proof.Moves.lean ====
/-
  The move of one agent in one environment, as the TensorCore call computes it: the direction whose squared distance to the
  target is the least as a signed word, the first of equal ones, and no move along an axis whose coordinate is −100.
-/
module

public import proofs.«01_k».proof.Proof.Common

@[expose] public section

noncomputable section

namespace Cert.Proof.Sc

open Cert.KernelIdeal Cert.KernelIdeal.Gen
open Idealize.ShloMosaic

/-- Where direction `k`'s axis `a` stands in the table of directions. -/
abbrev dirIx (k : Fin 9) (a : Fin 2) : S9x2.Idx := fun | 0 => k | 1 => a

abbrev Dirs : Type := S9x2.Idx → BitVec 32

/-- The squared distance to the target after direction `k`. -/
def sqd (dirs : Dirs) (cx cy tx ty : BitVec 32) (k : Fin 9) : BitVec 32 :=
  (cx + dirs (dirIx k 0) - tx) * (cx + dirs (dirIx k 0) - tx) + (cy + dirs (dirIx k 1) - ty) * (cy + dirs (dirIx k 1) - ty)

/-- The best so far — its squared distance and its two axes — after direction `k` is looked at. -/
def look (dirs : Dirs) (cx cy tx ty : BitVec 32) (s : BitVec 32 × BitVec 32 × BitVec 32) (k : Fin 9) : BitVec 32 × BitVec 32 × BitVec 32 :=
  let c := IntOp.cmpi .slt (sqd dirs cx cy tx ty k) s.1
  (Scalar.select c (sqd dirs cx cy tx ty k) s.1, Scalar.select c (dirs (dirIx k 0)) s.2.1, Scalar.select c (dirs (dirIx k 1)) s.2.2)

/-- The best of the first `n` directions. -/
def upto (dirs : Dirs) (cx cy tx ty : BitVec 32) : ℕ → BitVec 32 × BitVec 32 × BitVec 32
  | 0 => (2147483647#32, 0#32, 0#32)
  | n + 1 => look dirs cx cy tx ty (upto dirs cx cy tx ty n) (Fin.ofNat 9 n)

/-- The move along each axis. -/
def moveX (dirs : Dirs) (cx cy tx ty : BitVec 32) : BitVec 32 := Scalar.select (IntOp.cmpi .eq cx 4294967196#32) 0#32 (upto dirs cx cy tx ty 9).2.1
def moveY (dirs : Dirs) (cx cy tx ty : BitVec 32) : BitVec 32 := Scalar.select (IntOp.cmpi .eq cy 4294967196#32) 0#32 (upto dirs cx cy tx ty 9).2.2

end Cert.Proof.Sc
-- ==== Proof.TcRun.lean ====
/-
  The TensorCore call's body: run at any twelve whole buffers. The nine directions are looked at in turn, three to a part of
  the body; the running best is named after each part, so that no part's values are opened in the next.
-/
module

public import proofs.«01_k».proof.Proof.Moves
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Value
public import Idealize.ShloMosaic.Lib.Tactic
public import Idealize.ShloMosaic.Lib.WholeRead
public import Idealize.ShloMosaic.Lib.VecWindow
public import Idealize.ShloMosaic.Lib.Pipeline.ValueKit.Acc

@[expose] public section

noncomputable section

namespace Cert.Proof.Sc

open Cert.KernelIdeal Cert.KernelIdeal.Gen
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
variable {F : FTy → Type}
variable [FloatOps F]

local notation "𝕄" => MT nD τ sig (HIx 1) (Elt F) ℕ (UU F) ℕ

abbrev Mb (e : EltTy) : Type := Memref sig .tc .vmem S128x128 e
abbrev ptT (c : Dev nD) {sp : Space} {S : Shape} {e : EltTy} (M : Memref sig .tc sp S e) (f : Buf (Elt F) (M.view.loc (c : Thread nD τ))) : sProp 𝕄 :=
  M.view.loc (c : Thread nD τ) ↦{fullShare} f

/-! ### The values -/

/-- The four blocks the call is at: an agent's place and its target's, along each axis. -/
structure Blk where
  cx : S128x128.Idx → BitVec 32
  cy : S128x128.Idx → BitVec 32
  tx : S128x128.Idx → BitVec 32
  ty : S128x128.Idx → BitVec 32

/-- The moves of a block. -/
def Blk.mx (B : Blk) (dirs : Dirs) : IVec S128x128 32 := fun j => moveX dirs (B.cx j) (B.cy j) (B.tx j) (B.ty j)
def Blk.my (B : Blk) (dirs : Dirs) : IVec S128x128 32 := fun j => moveY dirs (B.cx j) (B.cy j) (B.tx j) (B.ty j)
/-- Places after the move, and the length of the move. -/
def placed (a : FVec F S128x128 .f32) (m : IVec S128x128 32) : FVec F S128x128 .f32 := addf a (sitofp .f32 m)
def len (x y : IVec S128x128 32) : FVec F S128x128 .f32 := sqrt (sitofp .f32 (addi (muli x x) (muli y y)))

/-- The blocks are taken as they are. -/
theorem cast_block {e : EltTy} (v : Vec F S128x128 e) (h) : shapeCast S128x128 v h = v := shapeCast_self v h

theorem pay2_eq (v : Vec F S128x128 .i32) : k0_pay2 v = v := cast_block v _
theorem pay3_eq (v : Vec F S128x128 .i32) : k0_pay3 v = v := cast_block v _
theorem pay4_eq (v : Vec F S128x128 .i32) : k0_pay4 v = v := cast_block v _
theorem pay5_eq (v : Vec F S128x128 .i32) : k0_pay5 v = v := cast_block v _

/-- Where a word of the table of directions is loaded. -/
theorem word_at (n m : ℕ) (hn : n < 9) (hm : m < 2) (h : ∀ b, (![n, m] : Fin 2 → ℕ) b + (![1, 1] : Fin 2 → ℕ) b ≤ S9x2.size b) (h') :
    (Rect.unit (s := S9x2) ![n, m] ![1, 1] h).idx (Shape.Idx.first (s := (Rect.unit (s := S9x2) ![n, m] ![1, 1] h).toLoadRect.shape) h') = dirIx ⟨n, hn⟩ ⟨m, hm⟩ :=
  funext fun b => by fin_cases b <;> exact Fin.ext (Nat.add_zero _)

/-! ### The running best, part by part of the body -/

variable (B : Blk) (d : Dirs)

/-- The best so far over a block, after `n` directions, and a direction's squared distances. -/
def Blk.bst (n : ℕ) : IVec S128x128 32 := fun j => (upto d (B.cx j) (B.cy j) (B.tx j) (B.ty j) n).1
def Blk.bx (n : ℕ) : IVec S128x128 32 := fun j => (upto d (B.cx j) (B.cy j) (B.tx j) (B.ty j) n).2.1
def Blk.by (n : ℕ) : IVec S128x128 32 := fun j => (upto d (B.cx j) (B.cy j) (B.tx j) (B.ty j) n).2.2
def Blk.sq (k : Fin 9) : IVec S128x128 32 := fun j => sqd d (B.cx j) (B.cy j) (B.tx j) (B.ty j) k

theorem pay7_eq (x y : BitVec 32) : k0_pay7 (F := F) B.cx B.cy B.tx B.ty x y = fun j => (B.cx j + x - B.tx j) * (B.cx j + x - B.tx j) + (B.cy j + y - B.ty j) * (B.cy j + y - B.ty j) := by
  unfold k0_pay7; rw [pay2_eq, pay3_eq, pay4_eq, pay5_eq]; rfl
theorem pay12_eq (x y : BitVec 32) : k0_pay12 (F := F) B.cx B.cy B.tx B.ty x y = fun j => (B.cx j + x - B.tx j) * (B.cx j + x - B.tx j) + (B.cy j + y - B.ty j) * (B.cy j + y - B.ty j) := by
  unfold k0_pay12; rw [pay2_eq, pay3_eq, pay4_eq, pay5_eq]; rfl

theorem part1_best : k0_pay9 (F := F) B.cx B.cy B.tx B.ty (d (dirIx 0 0)) (d (dirIx 0 1)) = B.bst d 1 := by unfold k0_pay9 k0_pay8; rw [pay7_eq]; rfl
theorem part1_x : k0_pay10 (F := F) B.cx B.cy B.tx B.ty (d (dirIx 0 0)) (d (dirIx 0 1)) = B.bx d 1 := by unfold k0_pay10 k0_pay8; rw [pay7_eq]; rfl
theorem part1_y : k0_pay11 (F := F) B.cx B.cy B.tx B.ty (d (dirIx 0 0)) (d (dirIx 0 1)) = B.by d 1 := by unfold k0_pay11 k0_pay8; rw [pay7_eq]; rfl
theorem part1_sq : k0_pay12 (F := F) B.cx B.cy B.tx B.ty (d (dirIx 1 0)) (d (dirIx 1 1)) = B.sq d 1 := by rw [pay12_eq]; rfl
theorem part1_cmp : k0_pay13 (F := F) B.cx B.cy B.tx B.ty (d (dirIx 0 0)) (d (dirIx 0 1)) (d (dirIx 1 0)) (d (dirIx 1 1)) = cmpi .slt (B.sq d 1) (B.bst d 1) := by
  unfold k0_pay13; rw [part1_best, part1_sq]

/-- One more direction, over the block: its squared distances, and the best with it. -/
theorem sq_eq (k : Fin 9) : B.sq d k = addi (muli (subi (addi B.cx (broadcast S128x128 (d (dirIx k 0)))) B.tx) (subi (addi B.cx (broadcast S128x128 (d (dirIx k 0)))) B.tx))
    (muli (subi (addi B.cy (broadcast S128x128 (d (dirIx k 1)))) B.ty) (subi (addi B.cy (broadcast S128x128 (d (dirIx k 1)))) B.ty)) := rfl
theorem bst_succ (n : ℕ) (k : Fin 9) (hk : Fin.ofNat 9 n = k) : B.bst d (n + 1) = select (cmpi .slt (B.sq d k) (B.bst d n)) (B.sq d k) (B.bst d n) := by subst hk; rfl
theorem bx_succ (n : ℕ) (k : Fin 9) (hk : Fin.ofNat 9 n = k) : B.bx d (n + 1) = select (cmpi .slt (B.sq d k) (B.bst d n)) (broadcast S128x128 (d (dirIx k 0))) (B.bx d n) := by subst hk; rfl
theorem by_succ (n : ℕ) (k : Fin 9) (hk : Fin.ofNat 9 n = k) : B.by d (n + 1) = select (cmpi .slt (B.sq d k) (B.bst d n)) (broadcast S128x128 (d (dirIx k 1))) (B.by d n) := by subst hk; rfl

theorem part2_best : k0_pay20 (F := F) B.cx B.cy B.tx B.ty (B.bst d 1) (B.sq d 1) (cmpi .slt (B.sq d 1) (B.bst d 1)) (d (dirIx 2 0)) (d (dirIx 2 1)) (d (dirIx 3 0)) (d (dirIx 3 1)) = B.bst d 4 := by
  rw [bst_succ B d 3 3 rfl, bst_succ B d 2 2 rfl, bst_succ B d 1 1 rfl, sq_eq B d 3, sq_eq B d 2]; rfl
theorem part2_x : k0_pay21 (F := F) B.cx B.cy B.tx B.ty (B.bst d 1) (B.bx d 1) (d (dirIx 1 0)) (B.sq d 1) (cmpi .slt (B.sq d 1) (B.bst d 1)) (d (dirIx 2 0)) (d (dirIx 2 1)) (d (dirIx 3 0)) (d (dirIx 3 1)) = B.bx d 4 := by
  rw [bx_succ B d 3 3 rfl, bx_succ B d 2 2 rfl, bx_succ B d 1 1 rfl, bst_succ B d 2 2 rfl, bst_succ B d 1 1 rfl, sq_eq B d 3, sq_eq B d 2]; rfl
theorem part2_y : k0_pay22 (F := F) B.cx B.cy B.tx B.ty (B.bst d 1) (B.by d 1) (d (dirIx 1 1)) (B.sq d 1) (cmpi .slt (B.sq d 1) (B.bst d 1)) (d (dirIx 2 0)) (d (dirIx 2 1)) (d (dirIx 3 0)) (d (dirIx 3 1)) = B.by d 4 := by
  rw [by_succ B d 3 3 rfl, by_succ B d 2 2 rfl, by_succ B d 1 1 rfl, bst_succ B d 2 2 rfl, bst_succ B d 1 1 rfl, sq_eq B d 3, sq_eq B d 2]; rfl

theorem part3_best : k0_pay33 (F := F) B.cx B.cy B.tx B.ty (B.bst d 4) (k0_pay23 (F := F) B.cy B.ty (d (dirIx 4 1))) (k0_pay24 (F := F) B.cx B.tx (d (dirIx 4 0))) (d (dirIx 5 0)) (d (dirIx 5 1)) (d (dirIx 6 0)) (d (dirIx 6 1)) = B.bst d 7 := by
  rw [bst_succ B d 6 6 rfl, bst_succ B d 5 5 rfl, bst_succ B d 4 4 rfl, sq_eq B d 6, sq_eq B d 5, sq_eq B d 4]; rfl
theorem part3_x : k0_pay34 (F := F) B.cx B.cy B.tx B.ty (B.bst d 4) (B.bx d 4) (d (dirIx 4 0)) (k0_pay23 (F := F) B.cy B.ty (d (dirIx 4 1))) (k0_pay24 (F := F) B.cx B.tx (d (dirIx 4 0))) (d (dirIx 5 0)) (d (dirIx 5 1)) (d (dirIx 6 0)) (d (dirIx 6 1)) = B.bx d 7 := by
  rw [bx_succ B d 6 6 rfl, bx_succ B d 5 5 rfl, bx_succ B d 4 4 rfl, bst_succ B d 5 5 rfl, bst_succ B d 4 4 rfl, sq_eq B d 6, sq_eq B d 5, sq_eq B d 4]; rfl
theorem part3_y : k0_pay35 (F := F) B.cx B.cy B.tx B.ty (B.bst d 4) (B.by d 4) (d (dirIx 4 1)) (k0_pay23 (F := F) B.cy B.ty (d (dirIx 4 1))) (k0_pay24 (F := F) B.cx B.tx (d (dirIx 4 0))) (d (dirIx 5 0)) (d (dirIx 5 1)) (d (dirIx 6 0)) (d (dirIx 6 1)) = B.by d 7 := by
  rw [by_succ B d 6 6 rfl, by_succ B d 5 5 rfl, by_succ B d 4 4 rfl, bst_succ B d 5 5 rfl, bst_succ B d 4 4 rfl, sq_eq B d 6, sq_eq B d 5, sq_eq B d 4]; rfl

theorem part4_x : k0_pay42 (F := F) B.cx B.cy B.tx B.ty (B.bst d 7) (B.bx d 7) (d (dirIx 7 0)) (k0_pay36 (F := F) B.cx B.tx (d (dirIx 7 0))) (k0_pay37 (F := F) (d (dirIx 7 1))) (d (dirIx 8 0)) (d (dirIx 8 1)) = B.mx d := by
  change _ = select (cmpi .eq B.cx (broadcast S128x128 4294967196#32)) (broadcast S128x128 0#32) (B.bx d 9)
  rw [bx_succ B d 8 8 rfl, bx_succ B d 7 7 rfl, bst_succ B d 7 7 rfl, sq_eq B d 8, sq_eq B d 7]; rfl
theorem part4_y : k0_pay43 (F := F) B.cx B.cy B.tx B.ty (B.bst d 7) (B.by d 7) (d (dirIx 7 1)) (k0_pay36 (F := F) B.cx B.tx (d (dirIx 7 0))) (k0_pay37 (F := F) (d (dirIx 7 1))) (d (dirIx 8 0)) (d (dirIx 8 1)) = B.my d := by
  change _ = select (cmpi .eq B.cy (broadcast S128x128 4294967196#32)) (broadcast S128x128 0#32) (B.by d 9)
  rw [by_succ B d 8 8 rfl, by_succ B d 7 7 rfl, bst_succ B d 7 7 rfl, sq_eq B d 8, sq_eq B d 7]; rfl

/-! ### The body -/

/-- A whole buffer at contents that read `X`; and what is read of one of two contents. -/
theorem holds_unread (c : Dev nD) {sp : Space} {S : Shape} {e : EltTy} (m : Memref sig .tc sp S e) (h : m.IsWhole) {f : Buf (Elt F) (m.view.loc (c : Thread nD τ))} {X : S.Idx → Elt F e} (hf : m.view.read (Elt F) f = X) :
    (ptT c m f : sProp (MT nD τ sig (HIx 1) (Elt F) ℕ (UU F) ℕ)) ⊢ ptT c m (h.unread X) := by rw [h.eq_unread hf]

theorem read_ite {sp : Space} {S : Shape} {e : EltTy} {m : Memref sig .tc sp S e} {p : Prop} [Decidable p] {f g : m.view.ty.Contents (Elt F)} {X Y : S.Idx → Elt F e} (hf : p → m.view.read (Elt F) f = X) (hg : ¬ p → m.view.read (Elt F) g = Y) :
    m.view.read (Elt F) (if p then f else g) = if p then X else Y := by
  by_cases h : p
  · rw [if_pos h, if_pos h, hf h]
  · rw [if_neg h, if_neg h, hg h]

set_option maxHeartbeats 4000000
/-- The body run: the blocks of inputs stay, the outputs are the moves', and the two tables are those of the first block. -/
theorem tc_run (c : Dev nD) (i : grid0.Coords) (m1 : Memref sig .tc .smem S9x2 .i32) (h1 : m1.IsWhole) (m2 : Mb .i32) (h2 : m2.IsWhole) (m3 : Mb .i32) (h3 : m3.IsWhole) (m4 : Mb .i32) (h4 : m4.IsWhole) (m5 : Mb .i32) (h5 : m5.IsWhole) (m6 : Mb .f32) (h6 : m6.IsWhole) (m7 : Mb .f32) (h7 : m7.IsWhole) (m8 : Mb .f32) (h8 : m8.IsWhole) (m9 : Mb .f32) (h9 : m9.IsWhole) (m10 : Mb .f32) (h10 : m10.IsWhole) (m11 : Mb .i32) (h11 : m11.IsWhole) (m12 : Mb .i32) (h12 : m12.IsWhole)
    (x1 : S9x2.Idx → Elt F .i32) (B : Blk) (x6 x7 x8 x9 x10 : S128x128.Idx → Elt F .f32) (x11 x12 : S128x128.Idx → Elt F .i32) (E : Set ℕ) (Q : PUnit → sProp (MT nD τ sig (HIx 1) (Elt F) ℕ (UU F) ℕ)) :
    iprop(ptT c m1 (h1.unread x1) ∗ ptT c m2 (h2.unread B.cx) ∗ ptT c m3 (h3.unread B.cy) ∗ ptT c m4 (h4.unread B.tx) ∗ ptT c m5 (h5.unread B.ty) ∗ ptT c m6 (h6.unread x6) ∗ ptT c m7 (h7.unread x7) ∗ ptT c m8 (h8.unread x8) ∗ ptT c m9 (h9.unread x9) ∗ ptT c m10 (h10.unread x10) ∗ ptT c m11 (h11.unread x11) ∗ ptT c m12 (h12.unread x12)
      ∗ (iprop(ptT c m1 (h1.unread x1) ∗ ptT c m2 (h2.unread B.cx) ∗ ptT c m3 (h3.unread B.cy) ∗ ptT c m4 (h4.unread B.tx) ∗ ptT c m5 (h5.unread B.ty) ∗ ptT c m6 (h6.unread x6) ∗ ptT c m7 (h7.unread x7)
          ∗ ptT c m8 (h8.unread (placed x6 (B.mx x1))) ∗ ptT c m9 (h9.unread (placed x7 (B.my x1))) ∗ ptT c m10 (h10.unread (len (B.mx x1) (B.my x1)))
          ∗ ptT c m11 (h11.unread (if k0_cond1 i = 1#1 then B.mx x1 else x11)) ∗ ptT c m12 (h12.unread (if k0_cond1 i = 1#1 then B.my x1 else x12))) -∗ Q ⟨⟩))
    ⊢ wp frame (wpE (defs₀ (F := F)) 𝒱₀ (c : Thread nD τ) none) E (cc0__tc_body i m1 h1 m2 h2 m3 h3 m4 h4 m5 h5 m6 h6 m7 h7 m8 h8 m9 h9 m10 h10 m11 h11 m12 h12) Q := by
  rw [cc0__tc_body_eq_skeleton]
  unfold cc0__tc_body_skel
  rw [k0_part1_eq_skeleton, k0_part2_eq_skeleton, k0_part3_eq_skeleton, k0_part4_eq_skeleton]
  unfold k0_part1_skel k0_part2_skel k0_part3_skel k0_part4_skel
  iintro ⟨H1, H2, H3, H4, H5, H6, H7, H8, H9, H10, H11, H12, Hk⟩
  sl_exec!
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; on_goal 1 => refine holds_unread c m8 h8 ?_
  rotate_left 1
  isplitl [H9]; on_goal 1 => refine holds_unread c m9 h9 ?_
  rotate_left 1
  isplitl [H10]; on_goal 1 => refine holds_unread c m10 h10 ?_
  rotate_left 1
  isplitl [H11]; on_goal 1 => refine holds_unread c m11 h11 (read_ite (fun _ => ?_) fun _ => h11.read_unread _)
  rotate_left 1
  on_goal 1 => refine holds_unread c m12 h12 (read_ite (fun _ => ?_) fun _ => h12.read_unread _)
  all_goals
    frame_open
    rw [View.read_writes_full]
    frame_out
    simp only [pay2_eq, pay3_eq, pay4_eq, pay5_eq, k0_pay44, k0_pay45, cast_block]
    simp (disch := decide) only [View.ld, word_at]
    simp only [Fin.reduceFinMk, Fin.zero_eta, Fin.mk_one]
    simp only [part1_best, part1_x, part1_y, part1_sq, part1_cmp, part2_best, part2_x, part2_y, part3_best, part3_x, part3_y, part4_x, part4_y]
    try first | rfl | (rw [cast_block]; first | done | rfl)

end Cert.Proof.Sc
-- ==== Proof.TcRegion.lean ====
/-
  The TensorCore call as a region of the program: entered from any contents of the buffers, it leaves the two placed arrays,
  the lengths of the moves and the two tables of moves, each as a function of the arrays it reads, and every other buffer as
  it was. The two tables are written at the first point of the grid alone, from the first block of agents, and written back
  after the last; at every point between, their staging buffers are as the first point left them.
-/
module

public import proofs.«01_k».proof.Proof.TcRun
public import Idealize.ShloMosaic.Lib.Pipeline.FrameBody
public import Idealize.ShloMosaic.Lib.Pipeline.ValueKit

@[expose] public section

noncomputable section

namespace Cert.Proof.Sc

open Cert.KernelIdeal Cert.KernelIdeal.Gen
open Idealize.ShloMosaic Idealize.ShloMosaic.TcCoe Idealize.ShloMosaic.Tactic
open Idealize.ShloMosaic.SparseCore.Cfg (HIx Pay)
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
variable {F : FTy → Type}
variable [FloatOps F]

local notation "𝕄" => MT nD τ sig (HIx 1) (Elt F) ℕ (UU F) ℕ

/-- The contents of a core's buffers. -/
abbrev Vals (F : FTy → Type) : Type := (c : Dev nD) → (b : Ref sig .tc) → Buf (Elt F) ((c : Thread nD τ).loc b)

variable (V : Vals F)

/-! ## The blocks -/

/-- The block of the directions, and the four blocks of places at a point. -/
abbrev dirsOf (c : Dev nD) (t : Fin cfg0.N) : Dirs := ((cfg0.win 0).blk t).view.read (Elt F) (V c main_arg4)
def blkOf (c : Dev nD) (t : Fin cfg0.N) : Blk where
  cx := ((cfg0.win 1).blk t).view.read (Elt F) (V c main_v1)
  cy := ((cfg0.win 2).blk t).view.read (Elt F) (V c main_v3)
  tx := ((cfg0.win 3).blk t).view.read (Elt F) (V c main_v5)
  ty := ((cfg0.win 4).blk t).view.read (Elt F) (V c main_v7)
abbrev axOf (c : Dev nD) (t : Fin cfg0.N) : FVec F S128x128 .f32 := ((cfg0.win 5).blk t).view.read (Elt F) (V c main_v9)
abbrev ayOf (c : Dev nD) (t : Fin cfg0.N) : FVec F S128x128 .f32 := ((cfg0.win 6).blk t).view.read (Elt F) (V c main_v11)
/-- The first point of the grid. -/
abbrev tZero : Fin cfg0.N := ⟨0, by decide⟩
/-- The moves at a point. -/
abbrev mxOf (c : Dev nD) (t : Fin cfg0.N) : IVec S128x128 32 := (blkOf V c t).mx (dirsOf V c t)
abbrev myOf (c : Dev nD) (t : Fin cfg0.N) : IVec S128x128 32 := (blkOf V c t).my (dirsOf V c t)

/-- What the core may have waited on before: nothing above the handshakes' own bound. -/
def before₀ (c : Dev nD) : Set (SemLoc sig × HIx 1) := {p | (K (F := F)).lev ((c : Thread nD τ), p.1) p.2 ≤ 0}

/-- The region's data. -/
def dat (c : Dev nD) : Dat τ (Elt F) (HIx 1) ℕ (UU F) ℕ cfg0 c where
  A w := V c (Pipeline.arrRef spec0 w)
  after w t := match w with
    | ⟨0, _⟩ => dirsOf V c t
    | ⟨1, _⟩ => (blkOf V c t).cx
    | ⟨2, _⟩ => (blkOf V c t).cy
    | ⟨3, _⟩ => (blkOf V c t).tx
    | ⟨4, _⟩ => (blkOf V c t).ty
    | ⟨5, _⟩ => axOf V c t
    | ⟨6, _⟩ => ayOf V c t
    | ⟨7, _⟩ => placed (axOf V c t) (mxOf V c t)
    | ⟨8, _⟩ => placed (ayOf V c t) (myOf V c t)
    | ⟨9, _⟩ => len (F := F) (mxOf V c t) (myOf V c t)
    | ⟨10, _⟩ => mxOf V c tZero
    | ⟨11, _⟩ => myOf V c tZero
  Φ _ := Pipeline.scopedRest (Ix := HIx 1) (Name := ℕ) (U := UU F) (Lvl := ℕ) (Val := Elt F) spec0 c
  q _ := fullShare
  owed _ := (K (F := F)).Otc (N := 1) c 0
  recorded _ := before₀ (F := F) c

abbrev adm : (p : Fin 1) → (pcfgs (F := F) p).Adm := fun p => (cfgs p).toPCfg_adm
def pdats : (p : Fin 1) → (c : Dev nD) → Dat τ (Elt F) (HIx 1) ℕ (UU F) ℕ (Pipeline.pin (pcfgs (F := F)) adm p) c
  | ⟨0, _⟩ => fun c => dat V c

/-! ## What the body finds -/

/-- The tables are written at the first point, and at no other. -/
theorem cond_iff : ∀ t : Fin cfg0.N, k0_cond1 (grid0.coords t) = 1#1 ↔ t.val = 0 :=
  (by decide +kernel : ∀ t : Fin grid0.N, k0_cond1 (grid0.coords t) = 1#1 ↔ t.val = 0)

theorem before_0 (c : Dev nD) (t : Fin cfg0.N) (d) : (dat V c).before 0 t d = dirsOf V c t :=
  (dat V c).before_in_eq_fetched 0 rfl (fun _ => rfl) (fun _ _ _ => rfl) (fun _ => rfl) t d
theorem before_1 (c : Dev nD) (t : Fin cfg0.N) (d) : (dat V c).before 1 t d = (blkOf V c t).cx := (dat V c).before_fetched 1 t (fetch0_1 t) d
theorem before_2 (c : Dev nD) (t : Fin cfg0.N) (d) : (dat V c).before 2 t d = (blkOf V c t).cy := (dat V c).before_fetched 2 t (fetch0_2 t) d
theorem before_3 (c : Dev nD) (t : Fin cfg0.N) (d) : (dat V c).before 3 t d = (blkOf V c t).tx := (dat V c).before_fetched 3 t (fetch0_3 t) d
theorem before_4 (c : Dev nD) (t : Fin cfg0.N) (d) : (dat V c).before 4 t d = (blkOf V c t).ty := (dat V c).before_fetched 4 t (fetch0_4 t) d
theorem before_5 (c : Dev nD) (t : Fin cfg0.N) (d) : (dat V c).before 5 t d = axOf V c t := (dat V c).before_fetched 5 t (fetch0_5 t) d
theorem before_6 (c : Dev nD) (t : Fin cfg0.N) (d) : (dat V c).before 6 t d = ayOf V c t := (dat V c).before_fetched 6 t (fetch0_6 t) d

/-- A window written at the first point alone and kept to the last holds, at every later point, what the first left. -/
theorem before_kept (c : Dev nD) (w : Fin cfg0.W) (X : (cfg0.win w).block.Idx → Elt F (cfg0.win w).elt) (hf : ∀ t, (cfg0.win w).fetch t = false)
    (hfl : ∀ t : Fin cfg0.N, (cfg0.win w).flush t = true ↔ t.val % 32 = 31)
    (hidle : ∀ t : Fin cfg0.N, cfg0.idle w (cfg0.grid.coords t) = true ↔ t.val ≠ 0) (hkept : ∀ t d, (dat V c).kept w t d = X) :
    ∀ (n : ℕ) (t : Fin cfg0.N), t.val = n + 1 → ∀ d, (dat V c).before w t d = X
  | n, t, ht, d => by
    have hlt : t.val < 32 := t.isLt.trans_eq N_0
    have hnf : (cfg0.win w).flush ⟨t.val - 1, Nat.lt_of_le_of_lt (Nat.sub_le _ _) t.isLt⟩ = false := by
      rw [← Bool.not_eq_true, hfl]; show ¬ (t.val - 1) % 32 = 31; omega
    rw [(dat V c).before_of_pos w t (by omega) (hf t) d, hnf, if_neg Bool.false_ne_true]
    unfold Dat.left
    match n with
    | 0 =>
      have hi : cfg0.idle w (cfg0.grid.coords ⟨t.val - 1, Nat.lt_of_le_of_lt (Nat.sub_le _ _) t.isLt⟩) = false := by
        rw [← Bool.not_eq_true, hidle]; show ¬ (t.val - 1 ≠ 0); omega
      rw [hi]; exact hkept _ _
    | n + 1 =>
      have hi : cfg0.idle w (cfg0.grid.coords ⟨t.val - 1, Nat.lt_of_le_of_lt (Nat.sub_le _ _) t.isLt⟩) = true := by
        rw [hidle]; show t.val - 1 ≠ 0; omega
      rw [hi]; exact before_kept c w X hf hfl hidle hkept n _ (show t.val - 1 = n + 1 by omega) d

theorem idle_10 (t : Fin cfg0.N) : cfg0.idle 10 (cfg0.grid.coords t) = true ↔ t.val ≠ 0 := by
  rw [show cfg0.idle 10 (cfg0.grid.coords t) = !(k0_cond1 (grid0.coords t) == 1#1) from rfl, Bool.not_eq_true', beq_eq_false_iff_ne, ne_eq, cond_iff]
theorem idle_11 (t : Fin cfg0.N) : cfg0.idle 11 (cfg0.grid.coords t) = true ↔ t.val ≠ 0 := by
  rw [show cfg0.idle 11 (cfg0.grid.coords t) = !(k0_cond1 (grid0.coords t) == 1#1) from rfl, Bool.not_eq_true', beq_eq_false_iff_ne, ne_eq, cond_iff]

theorem before_10 (c : Dev nD) (t : Fin cfg0.N) (h : t.val ≠ 0) (d) : (dat V c).before 10 t d = mxOf V c tZero :=
  before_kept V c 10 _ (fun _ => rfl) flush0_10 idle_10 (fun _ _ => rfl) (t.val - 1) t (by omega) d
theorem before_11 (c : Dev nD) (t : Fin cfg0.N) (h : t.val ≠ 0) (d) : (dat V c).before 11 t d = myOf V c tZero :=
  before_kept V c 11 _ (fun _ => rfl) flush0_11 idle_11 (fun _ _ => rfl) (t.val - 1) t (by omega) d

/-! ## The body -/

/-- A whole buffer owned at its values is its contents, and back. -/
theorem owns_at (c : Dev nD) {sp : Space} {S : Shape} {e : EltTy} (M : Memref sig .tc sp S e) (h : M.IsWhole) (X : S.Idx → Elt F e) :
    (owns (c : Thread nD τ) M fullShare X : sProp (MT nD τ sig (HIx 1) (Elt F) ℕ (UU F) ℕ)) ⊢ ptT c M (h.unread X) := by
  unfold owns; rw [h.set_eq_univ]
  iintro ⟨%f, %hf, H⟩
  obtain rfl := h.eq_unread hf
  iexact H
theorem at_owns (c : Dev nD) {sp : Space} {S : Shape} {e : EltTy} (M : Memref sig .tc sp S e) (h : M.IsWhole) (X : S.Idx → Elt F e) :
    (ptT c M (h.unread X) : sProp (MT nD τ sig (HIx 1) (Elt F) ℕ (UU F) ℕ)) ⊢ owns (c : Thread nD τ) M fullShare X := by
  unfold owns; rw [h.set_eq_univ]
  iintro H
  iexists _; isplitr; swap; (· iexact H); ipureintro; exact h.read_unread X

end Cert.Proof.Sc
-- ==== Proof.TcBody.lean ====
/-
  The TensorCore call's obligation at every point of its grid, from the run of its body.
-/
module

public import proofs.«01_k».proof.Proof.TcRegion

@[expose] public section

noncomputable section

namespace Cert.Proof.Sc

open Cert.KernelIdeal Cert.KernelIdeal.Gen
open Idealize.ShloMosaic Idealize.ShloMosaic.TcCoe Idealize.ShloMosaic.Tactic
open Idealize.ShloMosaic.SparseCore.Cfg (HIx Pay)
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
variable {F : FTy → Type}
variable [FloatOps F]

local notation "𝕄" => MT nD τ sig (HIx 1) (Elt F) ℕ (UU F) ℕ

variable (V : Vals F)

/-- A table's staging buffer after the body: at a point that writes it, or at one that does not, it is what the library asks. -/
theorem leaves_table (c : Dev nD) (w : Fin cfg0.W) (t : Fin cfg0.N) (d X : (cfg0.win w).block.Idx → Elt F (cfg0.win w).elt)
    (hidle : ∀ t : Fin cfg0.N, cfg0.idle w (cfg0.grid.coords t) = true ↔ t.val ≠ 0)
    (hafter : (dat V c).after w t = X) (hbefore : t.val ≠ 0 → (dat V c).before w t d = X) :
    (owns (c : Thread nD τ) ((cfg0.win w).stage (cfg0.slots t w)) fullShare X : sProp (MT nD τ sig (HIx 1) (Elt F) ℕ (UU F) ℕ)) ⊢ (dat V c).leavesExact w t := by
  unfold Dat.leavesExact
  by_cases h : t.val = 0
  · rw [show cfg0.idle w (cfg0.grid.coords t) = false by rw [← Bool.not_eq_true, hidle]; exact not_not.mpr h, hafter]
  · rw [(hidle t).mpr h]
    cases (cfg0.win w).flush t
    · iintro H; iexists d; rw [hbefore h]; iexact H
    · rw [hafter]

theorem body_obligation (c : Dev nD) : BodyObligation (dat V c) (defs₀ (F := F)) 𝒱₀ none Set.univ := fun t => by
  rw [bigSep_W0, bigSep_W0]
  simp only [before_0, before_1, before_2, before_3, before_4, before_5, before_6]
  rw [show (dat V c).Φ t.succ = (dat V c).Φ t.castSucc from rfl, show (dat V c).owesAt none t.succ = (dat V c).owesAt none t.castSucc from rfl]
  have e10 : ∀ d, (if k0_cond1 (grid0.coords t) = 1#1 then mxOf V c t else (dat V c).before 10 t d) = mxOf V c tZero := fun d => by
    by_cases h : t.val = 0
    · rw [if_pos ((cond_iff t).mpr h), show t = tZero from Fin.ext h]
    · rw [if_neg (mt (cond_iff t).mp h), before_10 V c t h d]
  have e11 : ∀ d, (if k0_cond1 (grid0.coords t) = 1#1 then myOf V c t else (dat V c).before 11 t d) = myOf V c tZero := fun d => by
    by_cases h : t.val = 0
    · rw [if_pos ((cond_iff t).mpr h), show t = tZero from Fin.ext h]
    · rw [if_neg (mt (cond_iff t).mp h), before_11 V c t h d]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave H0 := owns_at c ((cfg0.win 0).stage (cfg0.slots t 0)) (hstage0_0 ((cfg0.slots t 0).cast nbuf0_0)) _ $$ H0
  ihave H1 := owns_at c ((cfg0.win 1).stage (cfg0.slots t 1)) (hstage0_1 ((cfg0.slots t 1).cast nbuf0_1)) _ $$ H1
  ihave H2 := owns_at c ((cfg0.win 2).stage (cfg0.slots t 2)) (hstage0_2 ((cfg0.slots t 2).cast nbuf0_2)) _ $$ H2
  ihave H3 := owns_at c ((cfg0.win 3).stage (cfg0.slots t 3)) (hstage0_3 ((cfg0.slots t 3).cast nbuf0_3)) _ $$ H3
  ihave H4 := owns_at c ((cfg0.win 4).stage (cfg0.slots t 4)) (hstage0_4 ((cfg0.slots t 4).cast nbuf0_4)) _ $$ H4
  ihave H5 := owns_at c ((cfg0.win 5).stage (cfg0.slots t 5)) (hstage0_5 ((cfg0.slots t 5).cast nbuf0_5)) _ $$ H5
  ihave H6 := owns_at c ((cfg0.win 6).stage (cfg0.slots t 6)) (hstage0_6 ((cfg0.slots t 6).cast nbuf0_6)) _ $$ H6
  ihave H7 := owns_at c ((cfg0.win 7).stage (cfg0.slots t 7)) (hstage0_7 ((cfg0.slots t 7).cast nbuf0_7)) _ $$ H7
  ihave H8 := owns_at c ((cfg0.win 8).stage (cfg0.slots t 8)) (hstage0_8 ((cfg0.slots t 8).cast nbuf0_8)) _ $$ H8
  ihave H9 := owns_at c ((cfg0.win 9).stage (cfg0.slots t 9)) (hstage0_9 ((cfg0.slots t 9).cast nbuf0_9)) _ $$ H9
  ihave H10 := owns_at c ((cfg0.win 10).stage (cfg0.slots t 10)) (hstage0_10 ((cfg0.slots t 10).cast nbuf0_10)) _ $$ H10
  ihave H11 := owns_at c ((cfg0.win 11).stage (cfg0.slots t 11)) (hstage0_11 ((cfg0.slots t 11).cast nbuf0_11)) _ $$ H11
  have run := tc_run c (grid0.coords t) ((cfg0.win 0).stage (cfg0.slots t 0)) (hstage0_0 ((cfg0.slots t 0).cast nbuf0_0)) ((cfg0.win 1).stage (cfg0.slots t 1)) (hstage0_1 ((cfg0.slots t 1).cast nbuf0_1)) ((cfg0.win 2).stage (cfg0.slots t 2)) (hstage0_2 ((cfg0.slots t 2).cast nbuf0_2)) ((cfg0.win 3).stage (cfg0.slots t 3)) (hstage0_3 ((cfg0.slots t 3).cast nbuf0_3)) ((cfg0.win 4).stage (cfg0.slots t 4)) (hstage0_4 ((cfg0.slots t 4).cast nbuf0_4)) ((cfg0.win 5).stage (cfg0.slots t 5)) (hstage0_5 ((cfg0.slots t 5).cast nbuf0_5)) ((cfg0.win 6).stage (cfg0.slots t 6)) (hstage0_6 ((cfg0.slots t 6).cast nbuf0_6)) ((cfg0.win 7).stage (cfg0.slots t 7)) (hstage0_7 ((cfg0.slots t 7).cast nbuf0_7)) ((cfg0.win 8).stage (cfg0.slots t 8)) (hstage0_8 ((cfg0.slots t 8).cast nbuf0_8)) ((cfg0.win 9).stage (cfg0.slots t 9)) (hstage0_9 ((cfg0.slots t 9).cast nbuf0_9)) ((cfg0.win 10).stage (cfg0.slots t 10)) (hstage0_10 ((cfg0.slots t 10).cast nbuf0_10)) ((cfg0.win 11).stage (cfg0.slots t 11)) (hstage0_11 ((cfg0.slots t 11).cast nbuf0_11)) (dirsOf V c t) (blkOf V c t) (axOf V c t) (ayOf V c t) ((dat V c).before 7 t d7) ((dat V c).before 8 t d8) ((dat V c).before 9 t d9) ((dat V c).before 10 t d10) ((dat V c).before 11 t d11) Set.univ
  rw [e10, e11] at run
  iapply (run _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, H10, H11⟩
  ihave H0 := at_owns c ((cfg0.win 0).stage (cfg0.slots t 0)) (hstage0_0 ((cfg0.slots t 0).cast nbuf0_0)) _ $$ H0
  ihave H1 := at_owns c ((cfg0.win 1).stage (cfg0.slots t 1)) (hstage0_1 ((cfg0.slots t 1).cast nbuf0_1)) _ $$ H1
  ihave H2 := at_owns c ((cfg0.win 2).stage (cfg0.slots t 2)) (hstage0_2 ((cfg0.slots t 2).cast nbuf0_2)) _ $$ H2
  ihave H3 := at_owns c ((cfg0.win 3).stage (cfg0.slots t 3)) (hstage0_3 ((cfg0.slots t 3).cast nbuf0_3)) _ $$ H3
  ihave H4 := at_owns c ((cfg0.win 4).stage (cfg0.slots t 4)) (hstage0_4 ((cfg0.slots t 4).cast nbuf0_4)) _ $$ H4
  ihave H5 := at_owns c ((cfg0.win 5).stage (cfg0.slots t 5)) (hstage0_5 ((cfg0.slots t 5).cast nbuf0_5)) _ $$ H5
  ihave H6 := at_owns c ((cfg0.win 6).stage (cfg0.slots t 6)) (hstage0_6 ((cfg0.slots t 6).cast nbuf0_6)) _ $$ H6
  ihave H7 := at_owns c ((cfg0.win 7).stage (cfg0.slots t 7)) (hstage0_7 ((cfg0.slots t 7).cast nbuf0_7)) _ $$ H7
  ihave H8 := at_owns c ((cfg0.win 8).stage (cfg0.slots t 8)) (hstage0_8 ((cfg0.slots t 8).cast nbuf0_8)) _ $$ H8
  ihave H9 := at_owns c ((cfg0.win 9).stage (cfg0.slots t 9)) (hstage0_9 ((cfg0.slots t 9).cast nbuf0_9)) _ $$ H9
  ihave H10 := at_owns c ((cfg0.win 10).stage (cfg0.slots t 10)) (hstage0_10 ((cfg0.slots t 10).cast nbuf0_10)) _ $$ H10
  ihave H11 := at_owns c ((cfg0.win 11).stage (cfg0.slots t 11)) (hstage0_11 ((cfg0.slots t 11).cast nbuf0_11)) _ $$ H11
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply (leaves_table V c 10 t d10 (mxOf V c tZero) idle_10 rfl fun h => before_10 V c t h d10)
    iexact H10
  iapply (leaves_table V c 11 t d11 (myOf V c tZero) idle_11 rfl fun h => before_11 V c t h d11)
  iexact H11

end Cert.Proof.Sc
-- ==== Proof.TcSeg.lean ====
/-
  The TensorCore call as a region: what its result arrays hold at the end, and the region over the state "every buffer of the
  core at known contents".
-/
module

public import proofs.«01_k».proof.Proof.TcBody

@[expose] public section

noncomputable section

namespace Cert.Proof.Sc

open Cert.KernelIdeal Cert.KernelIdeal.Gen
open Idealize.ShloMosaic Idealize.ShloMosaic.TcCoe Idealize.ShloMosaic.Tactic
open Idealize.ShloMosaic.SparseCore.Cfg (HIx Pay)
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
variable {F : FTy → Type}
variable [FloatOps F]

local notation "𝕄" => MT nD τ sig (HIx 1) (Elt F) ℕ (UU F) ℕ

variable (V : Vals F)

/-! ## The result arrays -/

/-- The moves of all the agents. -/
def allX (c : Dev nD) : IVec S4096x128 32 := fun j => moveX (V c main_arg4) (V c main_v1 j) (V c main_v3 j) (V c main_v5 j) (V c main_v7 j)
def allY (c : Dev nD) : IVec S4096x128 32 := fun j => moveY (V c main_arg4) (V c main_v1 j) (V c main_v3 j) (V c main_v5 j) (V c main_v7 j)
/-- Their places after, the lengths of their moves, -/
def newX (c : Dev nD) : FVec F S4096x128 .f32 := addf (V c main_v9) (sitofp .f32 (allX V c))
def newY (c : Dev nD) : FVec F S4096x128 .f32 := addf (V c main_v11) (sitofp .f32 (allY V c))
def lens (c : Dev nD) : FVec F S4096x128 .f32 := sqrt (sitofp .f32 (addi (muli (allX V c) (allX V c)) (muli (allY V c) (allY V c))))
/-- and the tables of the moves of the first 128 rows. -/
def rowIx (j : S128x128.Idx) : S4096x128.Idx := fun | 0 => ⟨(j 0).val, Nat.lt_of_lt_of_le (j 0).isLt (by decide)⟩ | 1 => ⟨(j 1).val, (j 1).isLt⟩
def tabX (c : Dev nD) : IVec S128x128 32 := fun j => allX V c (rowIx j)
def tabY (c : Dev nD) : IVec S128x128 32 := fun j => allY V c (rowIx j)

/-- Row `y` of block `t`. -/
def atRow (t : Fin cfg0.N) (y : S128x128.Idx) : S4096x128.Idx :=
  fun | 0 => ⟨t.val * 128 + (y 0).val, by have h := t.isLt.trans_eq N_0; have h' : (y 0).val < 128 := (y 0).isLt; show _ < 4096; omega⟩ | 1 => ⟨(y 1).val, (y 1).isLt⟩

theorem emb_0 (t : Fin cfg0.N) (j : S9x2.Idx) : ((cfg0.win 0).blk t).view.emb j = j := by
  have e0 := (by decide +kernel : ∀ t : Fin grid0.N, win0_0.index t 0 = 0) t
  have e1 := (by decide +kernel : ∀ t : Fin grid0.N, win0_0.index t 1 = 0) t
  funext a; apply Fin.ext; fin_cases a <;> blk_simp <;> simp [e0, e1]
theorem emb_1 (t : Fin cfg0.N) (y : S128x128.Idx) : ((cfg0.win 1).blk t).view.emb y = atRow t y := by
  have e0 := (by decide +kernel : ∀ t : Fin grid0.N, win0_1.index t 0 = t.val) t
  have e1 := (by decide +kernel : ∀ t : Fin grid0.N, win0_1.index t 1 = 0) t
  funext a; apply Fin.ext; fin_cases a <;> blk_simp <;> simp [e0, e1, atRow]
theorem emb_2 (t : Fin cfg0.N) (y : S128x128.Idx) : ((cfg0.win 2).blk t).view.emb y = atRow t y := by
  have e0 := (by decide +kernel : ∀ t : Fin grid0.N, win0_2.index t 0 = t.val) t
  have e1 := (by decide +kernel : ∀ t : Fin grid0.N, win0_2.index t 1 = 0) t
  funext a; apply Fin.ext; fin_cases a <;> blk_simp <;> simp [e0, e1, atRow]
theorem emb_3 (t : Fin cfg0.N) (y : S128x128.Idx) : ((cfg0.win 3).blk t).view.emb y = atRow t y := by
  have e0 := (by decide +kernel : ∀ t : Fin grid0.N, win0_3.index t 0 = t.val) t
  have e1 := (by decide +kernel : ∀ t : Fin grid0.N, win0_3.index t 1 = 0) t
  funext a; apply Fin.ext; fin_cases a <;> blk_simp <;> simp [e0, e1, atRow]
theorem emb_4 (t : Fin cfg0.N) (y : S128x128.Idx) : ((cfg0.win 4).blk t).view.emb y = atRow t y := by
  have e0 := (by decide +kernel : ∀ t : Fin grid0.N, win0_4.index t 0 = t.val) t
  have e1 := (by decide +kernel : ∀ t : Fin grid0.N, win0_4.index t 1 = 0) t
  funext a; apply Fin.ext; fin_cases a <;> blk_simp <;> simp [e0, e1, atRow]
theorem emb_5 (t : Fin cfg0.N) (y : S128x128.Idx) : ((cfg0.win 5).blk t).view.emb y = atRow t y := by
  have e0 := (by decide +kernel : ∀ t : Fin grid0.N, win0_5.index t 0 = t.val) t
  have e1 := (by decide +kernel : ∀ t : Fin grid0.N, win0_5.index t 1 = 0) t
  funext a; apply Fin.ext; fin_cases a <;> blk_simp <;> simp [e0, e1, atRow]
theorem emb_6 (t : Fin cfg0.N) (y : S128x128.Idx) : ((cfg0.win 6).blk t).view.emb y = atRow t y := by
  have e0 := (by decide +kernel : ∀ t : Fin grid0.N, win0_6.index t 0 = t.val) t
  have e1 := (by decide +kernel : ∀ t : Fin grid0.N, win0_6.index t 1 = 0) t
  funext a; apply Fin.ext; fin_cases a <;> blk_simp <;> simp [e0, e1, atRow]
theorem emb_7 (t : Fin cfg0.N) (y : S128x128.Idx) : ((cfg0.win 7).blk t).view.emb y = atRow t y := by
  have e0 := (by decide +kernel : ∀ t : Fin grid0.N, win0_7.index t 0 = t.val) t
  have e1 := (by decide +kernel : ∀ t : Fin grid0.N, win0_7.index t 1 = 0) t
  funext a; apply Fin.ext; fin_cases a <;> blk_simp <;> simp [e0, e1, atRow]
theorem emb_8 (t : Fin cfg0.N) (y : S128x128.Idx) : ((cfg0.win 8).blk t).view.emb y = atRow t y := by
  have e0 := (by decide +kernel : ∀ t : Fin grid0.N, win0_8.index t 0 = t.val) t
  have e1 := (by decide +kernel : ∀ t : Fin grid0.N, win0_8.index t 1 = 0) t
  funext a; apply Fin.ext; fin_cases a <;> blk_simp <;> simp [e0, e1, atRow]
theorem emb_9 (t : Fin cfg0.N) (y : S128x128.Idx) : ((cfg0.win 9).blk t).view.emb y = atRow t y := by
  have e0 := (by decide +kernel : ∀ t : Fin grid0.N, win0_9.index t 0 = t.val) t
  have e1 := (by decide +kernel : ∀ t : Fin grid0.N, win0_9.index t 1 = 0) t
  funext a; apply Fin.ext; fin_cases a <;> blk_simp <;> simp [e0, e1, atRow]

theorem dirsOf_eq (c : Dev nD) (t : Fin cfg0.N) : dirsOf V c t = V c main_arg4 := funext fun j => congrArg (V c main_arg4) (emb_0 t j)
theorem cx_eq (c : Dev nD) (t : Fin cfg0.N) (y : S128x128.Idx) : (blkOf V c t).cx y = V c main_v1 (atRow t y) := congrArg (V c main_v1) (emb_1 t y)
theorem cy_eq (c : Dev nD) (t : Fin cfg0.N) (y : S128x128.Idx) : (blkOf V c t).cy y = V c main_v3 (atRow t y) := congrArg (V c main_v3) (emb_2 t y)
theorem tx_eq (c : Dev nD) (t : Fin cfg0.N) (y : S128x128.Idx) : (blkOf V c t).tx y = V c main_v5 (atRow t y) := congrArg (V c main_v5) (emb_3 t y)
theorem ty_eq (c : Dev nD) (t : Fin cfg0.N) (y : S128x128.Idx) : (blkOf V c t).ty y = V c main_v7 (atRow t y) := congrArg (V c main_v7) (emb_4 t y)
theorem ax_eq (c : Dev nD) (t : Fin cfg0.N) (y : S128x128.Idx) : axOf V c t y = V c main_v9 (atRow t y) := congrArg (V c main_v9) (emb_5 t y)
theorem ay_eq (c : Dev nD) (t : Fin cfg0.N) (y : S128x128.Idx) : ayOf V c t y = V c main_v11 (atRow t y) := congrArg (V c main_v11) (emb_6 t y)
theorem mx_eq (c : Dev nD) (t : Fin cfg0.N) (y : S128x128.Idx) : mxOf V c t y = allX V c (atRow t y) := by
  unfold mxOf Blk.mx allX; rw [dirsOf_eq, cx_eq, cy_eq, tx_eq, ty_eq]
theorem my_eq (c : Dev nD) (t : Fin cfg0.N) (y : S128x128.Idx) : myOf V c t y = allY V c (atRow t y) := by
  unfold myOf Blk.my allY; rw [dirsOf_eq, cx_eq, cy_eq, tx_eq, ty_eq]

theorem arr_7 (c : Dev nD) : (dat V c).arrAt 7 cfg0.N = newX V c := by
  refine (dat V c).arrAt_eq_of_covers 7 _ (by decide +kernel) fun t hf y => ?_
  rw [emb_7]
  show FloatOps.addf (axOf V c t y) (FloatOps.sitofp .f32 (mxOf V c t y)) = _
  rw [ax_eq, mx_eq]; rfl
theorem arr_8 (c : Dev nD) : (dat V c).arrAt 8 cfg0.N = newY V c := by
  refine (dat V c).arrAt_eq_of_covers 8 _ (by decide +kernel) fun t hf y => ?_
  rw [emb_8]
  show FloatOps.addf (ayOf V c t y) (FloatOps.sitofp .f32 (myOf V c t y)) = _
  rw [ay_eq, my_eq]; rfl
theorem arr_9 (c : Dev nD) : (dat V c).arrAt 9 cfg0.N = lens V c := by
  refine (dat V c).arrAt_eq_of_covers 9 _ (by decide +kernel) fun t hf y => ?_
  rw [emb_9]
  show FloatOps.sqrt (FloatOps.sitofp .f32 (mxOf V c t y * mxOf V c t y + myOf V c t y * myOf V c t y)) = _
  rw [mx_eq, my_eq]; rfl
theorem atRow_zero (j : S128x128.Idx) : atRow tZero j = rowIx j := by
  funext a; apply Fin.ext; fin_cases a
  · show 0 * 128 + (j 0).val = (j 0).val; omega
  · rfl
theorem arr_10 (c : Dev nD) : (dat V c).arrAt 10 cfg0.N = tabX V c := by
  refine (dat V c).arrAt_eq_of_after_last 10 ⟨31, by decide⟩ (by decide +kernel) _ fun j => ?_
  refine (mx_eq V c tZero _).trans ?_
  rw [atRow_zero]; rfl
theorem arr_11 (c : Dev nD) : (dat V c).arrAt 11 cfg0.N = tabY V c := by
  refine (dat V c).arrAt_eq_of_after_last 11 ⟨31, by decide⟩ (by decide +kernel) _ fun j => ?_
  refine (my_eq V c tZero _).trans ?_
  rw [atRow_zero]; rfl

/-! ## The region -/

/-- The call's five result arrays. -/
def tcOuts : Finset (Ref sig .tc) := {main_v12_0, main_v12_1, main_v12_2, main_v12_3, main_v12_4}

/-- What the core owes before the SparseCore call, with nothing above the handshakes' bound waited on. -/
def owesTc (c : Dev nD) : sProp 𝕄 := iprop(∃ W, ⌜(K (F := F)).WBelow (SparseCore.T c) W 0⌝ ∗ owes (SparseCore.T c) ((K (F := F)).Otc (N := 1) c 0) W)

theorem Otc_none (c : Dev nD) (g : GSem nD τ sig) : (K (F := F)).Otc (N := 1) c 0 g none = 0 := by
  by_contra h
  have h' := SparseCore.Cfg.lev_of_Otc_pos (K := K (F := F)) (Nat.pos_of_ne_zero h)
  rw [SparseCore.Cfg.lev_none] at h'
  omega

variable (Vp : Vals F)

set_option backward.isDefEq.respectTransparency.types false in
/-- The region over every unscoped buffer of the core at `V c`, what the core owes, and `R c` beside. -/
def reg (R : Dev nD → sProp (MT nD τ sig (HIx 1) (Elt F) ℕ (UU F) ℕ)) (h0 : ∀ c, Vp c main_v12_0 = newX V c) (h1 : ∀ c, Vp c main_v12_1 = newY V c) (h2 : ∀ c, Vp c main_v12_2 = lens V c)
    (h3 : ∀ c, Vp c main_v12_3 = tabX V c) (h4 : ∀ c, Vp c main_v12_4 = tabY V c) (hne : ∀ c (b : Ref sig .tc), b ∉ tcOuts → Vp c b = V c b) :
    Pipeline.RegionSeg (pcfgs (F := F)) adm (pdats V) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V c).loose
  hwaits c := Pipeline.cellsWaits_intro _ _ _ _ _ fun w s t => (K (F := F)).mayWait_none _ (Otc_none c)
  pre c := iprop(unscopedBufs c (V c) ∗ R c ∗ owesTc c)
  post c := iprop(unscopedBufs c (Vp c) ∗ R c ∗ owesTc c)
  X _ := BI.emp
  Y _ := BI.emp
  Z c := iprop(Pipeline.unscopedRest (Ix := HIx 1) (Name := ℕ) (U := UU F) (Lvl := ℕ) spec0 c (V c) ∗ R c)
  hentry c := by
    rw [Pipeline.ownSems0_none]
    have hsplit := Pipeline.arrays_of_unscopedBufs (p := 0) (pcfgs (F := F)) adm (pdats V) (launch0).win (launch0).arr_whole c
      ((pdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesTc
      icases HO with ⟨%W, %hW, HO⟩; iexists W; isplitr; · ipureintro; exact fun p hp => Or.inl (hW p hp)
      iexact HO
    isplitr; · iempintro
    isplitl [Hrest] <;> iassumption
  hin c := by
    rw [show (pdats V 0 c).Φ 0 = Pipeline.scopedRest (Ix := HIx 1) (Name := ℕ) (U := UU F) (Lvl := ℕ) (Val := Elt F) spec0 c from rfl]
    iintro ⟨-, -, Hr⟩; iexact Hr
  hout c := by
    rw [Pipeline.ownSems0_none, show (pdats V 0 c).Φ (Fin.last _) = Pipeline.scopedRest (Ix := HIx 1) (Name := ℕ) (U := UU F) (Lvl := ℕ) (Val := Elt F) spec0 c from rfl]
    iintro Hr
    isplitr; · iempintro
    isplitr; · iempintro
    iexact Hr
  hexit c := by
    have hin : ∀ (w : Fin cfg0.W) (hw : (cfg0.win w).isOut = false) (hb : Pipeline.arrRef spec0 w ∉ tcOuts), (dat V c).arrAt w cfg0.N = Vp c (Pipeline.arrRef spec0 w) :=
      fun w hw hb => ((dat V c).arrAt_in w hw _).trans (hne c _ hb).symm
    have hjoin := Pipeline.unscopedBufs_of_arrays (p := 0) (pcfgs (F := F)) adm (Ix := HIx 1) (Name := ℕ) (U := UU F) (Lvl := ℕ) (launch0).win (launch0).arr_whole c
      (pdats V) ((pdats V 0 c).share_full fun _ => rfl) (V c) (Vp c) ((pdats V 0 c).arrAt · cfg0.N)
      (fun w => by
        fin_cases w
        · exact hin 0 rfl (by decide)
        · exact hin 1 rfl (by decide)
        · exact hin 2 rfl (by decide)
        · exact hin 3 rfl (by decide)
        · exact hin 4 rfl (by decide)
        · exact hin 5 rfl (by decide)
        · exact hin 6 rfl (by decide)
        · exact (arr_7 V c).trans (h0 c).symm
        · exact (arr_8 V c).trans (h1 c).symm
        · exact (arr_9 V c).trans (h2 c).symm
        · exact (arr_10 V c).trans (h3 c).symm
        · exact (arr_11 V c).trans (h4 c).symm)
      (fun b hb => hne c b fun h => hb (by
        revert h; unfold tcOuts; intro h
        simp only [Finset.mem_insert, Finset.mem_singleton] at h
        rcases h with rfl | rfl | rfl | rfl | rfl
        · exact Finset.mem_image.mpr ⟨7, Finset.mem_univ _, rfl⟩
        · exact Finset.mem_image.mpr ⟨8, Finset.mem_univ _, rfl⟩
        · exact Finset.mem_image.mpr ⟨9, Finset.mem_univ _, rfl⟩
        · exact Finset.mem_image.mpr ⟨10, Finset.mem_univ _, rfl⟩
        · exact Finset.mem_image.mpr ⟨11, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin owesTc
    icases HO with ⟨%W, %hW, HO⟩; iexists W
    isplitr
    · ipureintro
      intro p hp
      rcases hW hp with h | ⟨w, s, h⟩
      · exact h
      · rw [h]; exact le_rfl
    iexact HO

end Cert.Proof.Sc
-- ==== Proof.Steps.lean ====
/-
  The steps of one tile that the nine chunks share: a buffer held at what it reads (`holds`), a copy in and a copy out
  started as members of a batch, and the waits that take a batch's deliveries back.
-/
module

public import proofs.«01_k».proof.Proof.Common

@[expose] public section

noncomputable section

namespace Cert.Proof.Sc

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ (UU F) ℕ

variable [FloatOps F]

section Steps

variable (c : Thread nD τ) {sp sp' : Space} {s : Shape} {e : EltTy}

/-- The thread holds the memref's whole buffer, which read through the memref is `w`. -/
def holds (d : Memref sig c.2.kind sp s e) (w : s.Idx → Elt F e) : sProp 𝕄 :=
  iprop(∃ f : Buf (Elt F) (d.view.loc c), ⌜d.view.read (Elt F) f = w⌝ ∗ (d.view.loc c ↦{fullShare} f))

instance holds_storable (d : Memref sig c.2.kind sp s e) (w : s.Idx → Elt F e) :
    Storable (upEmb : UEmb _ 𝕄) (holds (F := F) c d w) := by unfold holds; infer_instance

/-- What a copy in delivers: the share of the buffer it read, and the scratch holding what it read. -/
def delivIn (sl : Memref sig c.2.kind sp s e) (q : PosShare TreeShare) (fs : Buf (Elt F) (sl.view.loc c)) (d : Memref sig c.2.kind sp' s e) : sProp 𝕄 :=
  iprop((sl.view.loc c ↦{q} fs) ∗ holds (F := F) c d (sl.view.read (Elt F) fs))

instance delivIn_storable (sl : Memref sig c.2.kind sp s e) (q : PosShare TreeShare) (fs : Buf (Elt F) (sl.view.loc c)) (d : Memref sig c.2.kind sp' s e) :
    Storable (upEmb : UEmb _ 𝕄) (delivIn (F := F) c sl q fs d) := by unfold delivIn; infer_instance

/-- What a copy out delivers: the scratch back, and the output's elements under the copy marked written. -/
def delivOut (o : Memref sig c.2.kind sp s e) (w : s.Idx → Elt F e) (d : Memref sig c.2.kind sp' s e) (q : PosShare TreeShare)
    (f g : Buf (Elt F) (d.view.loc c)) (W : Finset (Idx (d.view.loc c))) : sProp 𝕄 :=
  iprop(willBeTo (Ix := HIx 1) EW (d.view.loc c) Finset.univ q f (fun i => some (g i)) (W ∪ d.view.set) ∗ holds (F := F) c o w)

instance delivOut_storable (o : Memref sig c.2.kind sp s e) (w : s.Idx → Elt F e) (d : Memref sig c.2.kind sp' s e) (q : PosShare TreeShare)
    (f g : Buf (Elt F) (d.view.loc c)) (W : Finset (Idx (d.view.loc c))) :
    Storable (upEmb : UEmb _ 𝕄) (delivOut (F := F) c o w d q f g W) := by unfold delivOut; infer_instance

/-- A started transfer joins its batch: the credit its completion will bring is owed to the batch's `j`-th member. -/
theorem batch_issue {n : ℕ} {sm : SemLoc sig} {N : ℕ} {Dl : Fin n → sProp 𝕄} {j u : ℕ} (hj : j < n) (hu : u ≤ j * N)
    {R₀ put : sProp 𝕄} (hres : iprop(put ∗ R₀) ⊢ Dl ⟨j, hj⟩) :
    iprop(Batch EC c sm none N Dl j u ∗ put)
      ⊢ iprop(creditUpdate (c, sm) N 0 R₀ ∗ (cred (tallyAt (c, sm) none N) -∗ Batch EC c sm none N Dl (j + 1) u)) := by
  unfold Batch
  iintro ⟨⟨%γ, %γ₀, %κ, #Hinv, HI, H0, Hcred⟩, Hput⟩
  ihave HI' := (show bigSep (pending j) (fun t => count EC (γ t) 0) ⊢ iprop(count EC (γ ⟨j, hj⟩) 0 ∗ bigSep (pending (j + 1)) (fun t => count EC (γ t) 0))
    from Entails.of_eq (by rw [pending_succ hj, bigSep_insert (not_mem_pending_succ hj)]; rfl)) $$ HI
  icases HI' with ⟨Ht, HI⟩
  isplitl [Ht Hput]
  · iapply (batch_creditUpdate_with EC ⟨j, hj⟩ hres)
    isplitr; · iexact Hinv
    isplitl [Ht] <;> iassumption
  iintro Hcred'
  iexists γ, γ₀, κ
  isplitr; · iexact Hinv
  isplitl [HI]; · iexact HI
  isplitl [H0]; · iexact H0
  rw [show (j + 1) * N - u = (j * N - u) + N by rw [Nat.succ_mul]; omega, ← tallyAt_add]
  icombine Hcred Hcred' as H
  iexact H

variable {Λ : Labels} {defs : Defs nD τ sig (Elt F) Λ} (𝒱' : Variants) (bd : Option 𝒱'.V) {α : Type}

/-- A copy in, started as the batch's next member: its source's whole buffer at a share, its destination in full. -/
theorem wp_issueIn {Ψ : α → sProp 𝕄} {n : ℕ} {sl : Memref sig c.2.kind sp s e} {d : Memref sig c.2.kind sp' s e} {sem : SemLoc sig}
    {hsrc : sl.view.WordExact} {hdst : d.view.WordExact} {hsem : DmaTarget.Typed (nD := nD) sp sem (.here d)}
    {k : PUnit → Prog (TpuEff nD τ sig (Elt F) Λ c.2) α} {q : PosShare TreeShare} {fs : Buf (Elt F) (sl.view.loc c)}
    {fd : Buf (Elt F) (d.view.loc c)} {Dl : Fin n → sProp 𝕄} {j u : ℕ} (N : ℕ) (hN : d.view.amount sem = N) (hj : j < n) (hu : u ≤ j * N)
    (hD : delivIn (F := F) c sl q fs d ⊢ Dl ⟨j, hj⟩) :
    iprop((sl.view.loc c ↦{q} fs) ∗ (d.view.loc c ↦{fullShare} fd) ∗ Batch EC c sem none N Dl j u)
      ⊢ iprop((Batch EC c sem none N Dl (j + 1) u -∗ wp frame (wpE defs 𝒱' c bd) Set.univ (k ⟨⟩) Ψ)
          -∗ wp frame (wpE defs 𝒱' c bd) Set.univ (.op (.enqueueDma sl (.here d) sem hsrc hdst hsem) k) Ψ) := by
  have hres : iprop((sl.view.loc c ↦[Finset.univ \ sl.view.set]{q} fs)
      ∗ (d.view.loc c ↦{fullShare} (d.view.write (Elt F) fd (sl.view.read (Elt F) fs) Finset.univ)) ∗ (sl.view.loc c ↦[sl.view.set]{q} fs)) ⊢ Dl ⟨j, hj⟩ := by
    refine BIBase.Entails.trans ?_ hD
    unfold delivIn holds
    iintro ⟨Hrest, Hd, Hs⟩
    isplitl [Hrest Hs]
    · iapply (pointsTo_split_subset (Finset.subset_univ sl.view.set)).2
      isplitl [Hs] <;> iassumption
    iexists (d.view.write (Elt F) fd (sl.view.read (Elt F) fs) Finset.univ)
    isplitr; · ipureintro; exact View.read_write_univ _ _
    iexact Hd
  iintro ⟨Hs, Hd, HB⟩ Hk
  ihave Hs' := (pointsTo_split_subset (Finset.subset_univ sl.view.set)).1 $$ Hs
  icases Hs' with ⟨Hs, Hrest⟩
  ihave H := (batch_issue (F := F) c (sm := sem) (N := N) (Dl := Dl) hj hu (put := (sl.view.loc c ↦[Finset.univ \ sl.view.set]{q} fs))
    (R₀ := iprop((d.view.loc c ↦{fullShare} (d.view.write (Elt F) fd (sl.view.read (Elt F) fs) Finset.univ)) ∗ (sl.view.loc c ↦[sl.view.set]{q} fs)))
    hres) $$ [HB Hrest]
  · isplitl [HB] <;> iassumption
  icases H with ⟨Hc, HB⟩
  iapply (wp_enqueueDma 𝒱' c bd Set.univ none N hN) $$ [Hs Hd] [Hc]
  · isplitl [Hs]; · iexact Hs
    iapply (pointsTo_writeUpdate c (Finset.subset_univ d.view.set)) $$ Hd
  · iexact Hc
  iintro Hcred
  iapply Hk
  iapply HB
  iexact Hcred

/-- A copy out, started as the batch's next member: a scratch in full, and the output in write mode at a share, the
    copied values the ones its targets name. -/
theorem wp_issueOut {Ψ : α → sProp 𝕄} {n : ℕ} {o : Memref sig c.2.kind sp s e} {d : Memref sig c.2.kind sp' s e} {sem : SemLoc sig}
    {hsrc : o.view.WordExact} {hdst : d.view.WordExact} {hsem : DmaTarget.Typed (nD := nD) sp sem (.here d)}
    {k : PUnit → Prog (TpuEff nD τ sig (Elt F) Λ c.2) α} {q : PosShare TreeShare} {w : s.Idx → Elt F e}
    {f g : Buf (Elt F) (d.view.loc c)} {W : Finset (Idx (d.view.loc c))} {Dl : Fin n → sProp 𝕄} {j u ιw : ℕ} (N : ℕ)
    (hN : d.view.amount sem = N) (hj : j < n) (hu : u ≤ j * N) (hw : w = d.view.read (Elt F) g)
    (hD : delivOut (F := F) c o w d q f g W ⊢ Dl ⟨j, hj⟩) :
    iprop(wmInv (Ix := HIx 1) (Lvl := ℕ) (EW (F := F)) ιw ∗ holds (F := F) c o w ∗ willBeTo (Ix := HIx 1) EW (d.view.loc c) Finset.univ q f (fun i => some (g i)) W
        ∗ Batch EC c sem none N Dl j u)
      ⊢ iprop((Batch EC c sem none N Dl (j + 1) u -∗ wp frame (wpE defs 𝒱' c bd) Set.univ (k ⟨⟩) Ψ)
          -∗ wp frame (wpE defs 𝒱' c bd) Set.univ (.op (.enqueueDma o (.here d) sem hsrc hdst hsem) k) Ψ) := by
  unfold holds
  iintro ⟨#Hw, ⟨%fs, %hfs, Hs⟩, Hd, HB⟩ Hk
  have hres : iprop((o.view.loc c ↦[Finset.univ \ o.view.set]{fullShare} fs)
      ∗ willBeTo (Ix := HIx 1) EW (d.view.loc c) Finset.univ q f (fun i => some (g i)) (W ∪ d.view.set) ∗ (o.view.loc c ↦[o.view.set]{fullShare} fs)) ⊢ Dl ⟨j, hj⟩ := by
    refine BIBase.Entails.trans ?_ hD
    unfold delivOut holds
    iintro ⟨Hrest, Hd, Hs⟩
    isplitl [Hd]; · iexact Hd
    iexists fs
    isplitr; · ipureintro; exact hfs
    iapply (pointsTo_split_subset (Finset.subset_univ o.view.set)).2
    isplitl [Hs] <;> iassumption
  ihave Hs' := (pointsTo_split_subset (Finset.subset_univ o.view.set)).1 $$ Hs
  icases Hs' with ⟨Hs, Hrest⟩
  ihave H := (batch_issue (F := F) c (sm := sem) (N := N) (Dl := Dl) hj hu (put := (o.view.loc c ↦[Finset.univ \ o.view.set]{fullShare} fs))
    (R₀ := iprop(willBeTo (Ix := HIx 1) EW (d.view.loc c) Finset.univ q f (fun i => some (g i)) (W ∪ d.view.set) ∗ (o.view.loc c ↦[o.view.set]{fullShare} fs)))
    hres) $$ [HB Hrest]
  · isplitl [HB] <;> iassumption
  icases H with ⟨Hc, HB⟩
  iapply (wp_enqueueDma 𝒱' c bd Set.univ none N hN) $$ [Hs Hd] [Hc]
  · isplitl [Hs]; · iexact Hs
    iapply (willBeTo_writeUpdate (Ix := HIx 1) (emb := EW) (ιwm := ιw) c (Finset.subset_univ d.view.set)
      (View.admitted_some_iff.mpr fun x _ => by rw [hfs, hw]))
    isplitr; · iexact Hw
    iexact Hd
  · iexact Hc
  iintro Hcred
  iapply Hk
  iapply HB
  iexact Hcred

end Steps

end Cert.Proof.Sc
-- ==== Proof.Loop.lean ====
/-
  One chunk's arithmetic on a tile: 480 trips of sixteen lanes, each adding to the two position columns the table
  entries that the trip's environment and agent name.
-/
module

public import proofs.«01_k».proof.Proof.Steps
public import Idealize.ShloMosaic.Lib.Pipeline.ValueKit

@[expose] public section

noncomputable section

namespace Cert.Proof.Sc

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ (UU F) ℕ

/-- The table entry an environment and an agent name (both taken within the table). -/
def cellIx (a b : BitVec 32) : S128x128.Idx :=
  fun | 0 => ⟨a.toNat % 128, Nat.mod_lt _ (by decide)⟩ | 1 => ⟨b.toNat % 128, Nat.mod_lt _ (by decide)⟩

/-- A column with each entry moved by the table entry that its environment and agent name. -/
def bump {s : Shape} (X : S128x128.Idx → BitVec 32) (wE wA w : s.Idx → BitVec 32) : s.Idx → BitVec 32 :=
  fun n => w n + X (cellIx (wE n) (wA n))

/-- The first `16 * t` entries new, the others old. -/
def upTo (t : ℕ) (new old : S7680.Idx → BitVec 32) : S7680.Idx → BitVec 32 :=
  fun n => if (n 0).val < 16 * t then new n else old n

theorem upTo_zero (new old : S7680.Idx → BitVec 32) : upTo 0 new old = old := by
  funext n; simp [upTo]

theorem upTo_all (new old : S7680.Idx → BitVec 32) : upTo 480 new old = new := by
  funext n
  have h : (n 0).val < 16 * 480 := (n 0).isLt
  simp only [upTo, if_pos h]

section

variable [FloatOps F]

/-- Sixteen lanes of a scratch, from `off` on. -/
abbrev lanes (off : Fin 1 → ℕ) (inb : ∀ a, off a + S16.size a ≤ S7680.size a) : Rect S7680 := Rect.unit (s := S7680) off S16.size inb

theorem lanes_emb_val (off : Fin 1 → ℕ) (inb : ∀ a, off a + S16.size a ≤ S7680.size a) (x : (lanes off inb).shape.Idx) :
    ((lanes off inb).emb x 0).val = off 0 + (x 0).val :=
  ValueKit.rect_emb_unit_val (s := S7680) off S16.size inb x 0

/-- Writing trip `t`'s lanes takes the first `16 * t` entries new to the first `16 * (t + 1)`. -/
theorem read_lanes_write {κ : Kind} {t : ℕ} (d : Memref sig κ .vmem S7680 .i32) (f : d.view.ty.Contents (Elt F)) (off : Fin 1 → ℕ)
    (inb : ∀ a, off a + S16.size a ≤ S7680.size a) (hoff : off 0 = 16 * t) (new old : S7680.Idx → BitVec 32)
    (w : (lanes off inb).shape.Idx → Elt F .i32) (hf : d.view.read (Elt F) f = upTo t new old) (hw : ∀ x, w x = new ((lanes off inb).emb x)) :
    d.view.read (Elt F) ((d.access (lanes off inb)).write (Elt F) f w Finset.univ) = upTo (t + 1) new old := by
  funext y
  by_cases hy : y ∈ Finset.univ.map (lanes off inb).emb
  · obtain ⟨x, hx, rfl⟩ := Finset.mem_map.mp hy
    rw [View.read_slice_write_emb _ _ _ hx, hw]
    have h1 := lanes_emb_val off inb x
    have h2 : (x 0).val < 16 := (x 0).isLt
    simp only [upTo]
    rw [if_pos (by omega)]
  · rw [View.read_slice_write_of_not_mem _ _ _ _ hy, hf]
    have hne : ¬ (16 * t ≤ (y 0).val ∧ (y 0).val < 16 * t + 16) := by
      rintro ⟨h1, h2⟩
      refine hy (Finset.mem_map.mpr ⟨(fun a => ⟨(y 0).val - 16 * t, ?_⟩ : (lanes off inb).shape.Idx), Finset.mem_univ _, ?_⟩)
      · obtain rfl : a = 0 := Subsingleton.elim _ _
        show (y 0).val - 16 * t < 16
        omega
      · funext a
        obtain rfl : a = 0 := Subsingleton.elim _ _
        apply Fin.ext
        rw [lanes_emb_val, hoff]
        show 16 * t + ((y 0).val - 16 * t) = (y 0).val
        omega
    simp only [upTo]
    by_cases h : (y 0).val < 16 * t
    · rw [if_pos h, if_pos (by omega)]
    · rw [if_neg h, if_neg (by omega)]

variable (i : grid1.Coords)

/-- The thread of the tile at grid coordinates `i`. -/
abbrev thr (d : Dev nD) : Thread nD τ := V d ((i 0).castLE hcore1) ((i 1).castLE hsub1)

variable (arg10 arg11 : Memref sig .scVector .vmem S128x128 .i32) (e a o p : Memref sig .scVector .vmem S7680 .i32)

/-- One trip: sixteen lanes' environments and agents, the two table entries each names, added to the two positions. -/
def trip (off off' : Fin 1 → ℕ) (inb : ∀ a, off a + S16.size a ≤ S7680.size a) (inb' : ∀ a, off' a + S16.size a ≤ S7680.size a) :
    Prog (TpuEff nD τ sig (Elt F) Λ₀ (.scVector ((i 0).castLE hcore1) ((i 1).castLE hsub1))) Unit := do
  let v358 : Vec F S16 .i32 ← Prog.lift (.load e (lanes off inb).toLoadRect (View.loadsAt_vmem h_S16))
  let v360 : Vec F S16 .i32 ← Prog.lift (.load a (lanes off inb).toLoadRect (View.loadsAt_vmem h_S16))
  have hw : k1_chk1 v358 v360 := (← Prog.lift (TpuEff.assume (k1_chk1 v358 v360) (k1_chk1.dec v358 v360))).down
  let v361 : Vec F S16 .i32 ← SparseCore.vectorLoadIdx arg10 ![v358, v360] (k1_idx1_inb v358 v360 hw) (View.loads_vmem h_S128x128)
  let v362 : Vec F S16 .i32 ← SparseCore.vectorLoadIdx arg11 ![v358, v360] (k1_idx2_inb v358 v360 hw) (View.loads_vmem h_S128x128)
  let v364 : Vec F S16 .i32 ← Prog.lift (.load o (lanes off' inb').toLoadRect (View.loadsAt_vmem h_S16))
  let _ : Vec F S16 .i32 ← Prog.lift (.load o (lanes off' inb').toLoadRect (View.loadsAt_vmem h_S16))
  Prog.lift (.store o (lanes off' inb') (k1_pay1 v361 v364) Finset.univ (View.stores_vmem_bits_univ h_S16 rfl) (.inl rfl))
  let v369 : Vec F S16 .i32 ← Prog.lift (.load p (lanes off' inb').toLoadRect (View.loadsAt_vmem h_S16))
  let _ : Vec F S16 .i32 ← Prog.lift (.load p (lanes off' inb').toLoadRect (View.loadsAt_vmem h_S16))
  Prog.lift (.store p (lanes off' inb') (k1_pay2 v362 v369) Finset.univ (View.stores_vmem_bits_univ h_S16 rfl) (.inl rfl))
  pure ⟨⟩

variable (d : Dev nD) (X Y : S128x128.Idx → BitVec 32) (wE wA w1 w2 : S7680.Idx → BitVec 32)

/-- The tile's six buffers before trip `t`. -/
def inv (t : ℕ) : sProp 𝕄 :=
  iprop(holds (F := F) (thr i d) arg10 X ∗ holds (F := F) (thr i d) arg11 Y ∗ holds (F := F) (thr i d) e wE ∗ holds (F := F) (thr i d) a wA
    ∗ holds (F := F) (thr i d) o (upTo t (bump X wE wA w1) w1) ∗ holds (F := F) (thr i d) p (upTo t (bump Y wE wA w2) w2))

/-- The environments and agents of a chunk name table entries. -/
def InTab (wE wA : S7680.Idx → BitVec 32) : Prop := ∀ n, (wE n).toNat < 128 ∧ (wA n).toNat < 128

variable {wE wA}

theorem chk_of (hE : InTab wE wA) (off : Fin 1 → ℕ) (inb : ∀ a, off a + S16.size a ≤ S7680.size a) :
    k1_chk1 (fun x => wE ((lanes off inb).emb x)) (fun x => wA ((lanes off inb).emb x)) := by
  have h : ∀ (b : Fin 2) (x : S16.Idx), (((![fun x => wE ((lanes off inb).emb x), fun x => wA ((lanes off inb).emb x)] : Fin 2 → IVec S16 32) b) x).toNat < S128x128.size b := by
    intro b x
    match b with
    | 0 => exact (hE _).1
    | 1 => exact (hE _).2
  exact ⟨h, h⟩

/-- Reading through the whole rectangle of a memref is reading through it. -/
theorem read_access_whole' {κ : Kind} {sp : Space} {s : Shape} {el : EltTy} (m : Memref sig κ sp s el) (f : m.view.ty.Contents (Elt F)) (y : s.Idx) :
    (m.access (.whole s)).read (Elt F) f y = m.view.read (Elt F) f y := by
  show m.view.read (Elt F) f ((Rect.whole s).emb y) = _
  rw [Rect.emb_whole_apply]

/-- The old entries are what a trip's lanes read before the trip. -/
theorem upTo_lanes (t : ℕ) (off : Fin 1 → ℕ) (inb : ∀ a, off a + S16.size a ≤ S7680.size a) (hoff : off 0 = 16 * t) (new old : S7680.Idx → BitVec 32)
    (x : (lanes off inb).shape.Idx) : upTo t new old ((lanes off inb).emb x) = old ((lanes off inb).emb x) := by
  have h := lanes_emb_val off inb x
  simp only [upTo]
  rw [if_neg (by omega)]

/-- One trip takes the invariant at `t` to the invariant at `t + 1`. -/
theorem trip_wp (hE : InTab wE wA) (t : ℕ) (off off' : Fin 1 → ℕ) (inb : ∀ a, off a + S16.size a ≤ S7680.size a) (inb' : ∀ a, off' a + S16.size a ≤ S7680.size a)
    (hoff : off = ![16 * t]) (hoff' : off' = ![16 * t]) (Ψ : Unit → sProp 𝕄) (hΨ : inv (F := F) i arg10 arg11 e a o p d X Y wE wA w1 w2 (t + 1) ⊢ Ψ ⟨⟩) :
    inv (F := F) i arg10 arg11 e a o p d X Y wE wA w1 w2 t
      ⊢ wp frame (wpE defs₀ 𝒱₀ (thr i d) none) Set.univ (trip (F := F) i arg10 arg11 e a o p off off' inb inb') Ψ := by
  subst hoff
  subst hoff'
  unfold inv trip
  simp only [Prog.lift, Prog.bind_op, Prog.bind_ret, Prog.pure_eq_ret]
  unfold holds
  iintro ⟨⟨%fX, %hX, HX⟩, ⟨%fY, %hY, HY⟩, ⟨%fE, %hfE, HE⟩, ⟨%fA, %hfA, HA⟩, ⟨%fo, %hfo, Ho⟩, ⟨%fp, %hfp, Hp⟩⟩
  iapply (wp_load 𝒱₀ (thr i d) none Set.univ (m := e) (Finset.subset_univ _)) $$ HE
  iintro HE
  iapply (wp_load 𝒱₀ (thr i d) none Set.univ (m := a) (Finset.subset_univ _)) $$ HA
  iintro HA
  have hrE : e.view.readAt (Elt F) (lanes _ inb).toLoadRect fE = fun x => wE ((lanes _ inb).emb x) := by rw [← hfE]; rfl
  have hrA : a.view.readAt (Elt F) (lanes _ inb).toLoadRect fA = fun x => wA ((lanes _ inb).emb x) := by rw [← hfA]; rfl
  rw [hrE, hrA]
  have hc := chk_of hE _ inb
  iapply (wp_assume 𝒱₀ (thr i d) none Set.univ hc)
  iapply (SparseCore.wp_vectorLoadIdx 𝒱₀ (thr i d) none Set.univ (base := arg10) (S := Finset.univ) (q := fullShare) (Finset.subset_univ _)) $$ HX
  iintro HX
  iapply (SparseCore.wp_vectorLoadIdx 𝒱₀ (thr i d) none Set.univ (base := arg11) (S := Finset.univ) (q := fullShare) (Finset.subset_univ _)) $$ HY
  iintro HY
  iapply (wp_load 𝒱₀ (thr i d) none Set.univ (m := o) (Finset.subset_univ _)) $$ Ho
  iintro Ho
  iapply (wp_load 𝒱₀ (thr i d) none Set.univ (m := o) (Finset.subset_univ _)) $$ Ho
  iintro Ho
  iapply (wp_store 𝒱₀ (thr i d) none Set.univ (m := o) (r := lanes _ inb') (S := Finset.univ) (f := fo) (Finset.subset_univ _)) $$ [Ho]
  · iexact Ho
  iintro Ho
  iapply (wp_load 𝒱₀ (thr i d) none Set.univ (m := p) (Finset.subset_univ _)) $$ Hp
  iintro Hp
  iapply (wp_load 𝒱₀ (thr i d) none Set.univ (m := p) (Finset.subset_univ _)) $$ Hp
  iintro Hp
  iapply (wp_store 𝒱₀ (thr i d) none Set.univ (m := p) (r := lanes _ inb') (S := Finset.univ) (f := fp) (Finset.subset_univ _)) $$ [Hp]
  · iexact Hp
  iintro Hp
  rw [wp_ret]; imodintro
  iapply hΨ
  unfold inv holds
  isplitl [HX]; · iexists fX; isplitr; · ipureintro; exact hX
                  iexact HX
  isplitl [HY]; · iexists fY; isplitr; · ipureintro; exact hY
                  iexact HY
  isplitl [HE]; · iexists fE; isplitr; · ipureintro; exact hfE
                  iexact HE
  isplitl [HA]; · iexists fA; isplitr; · ipureintro; exact hfA
                  iexact HA
  have hEx : ∀ x : S16.Idx, idxAt (s := S128x128) ![fun x => wE ((lanes _ inb).emb x), fun x => wA ((lanes _ inb).emb x)] hc.1 x = cellIx (wE ((lanes _ inb').emb x)) (wA ((lanes _ inb').emb x)) := by
    intro x
    funext b
    match b with
    | 0 => exact Fin.ext (Nat.mod_eq_of_lt (hE _).1).symm
    | 1 => exact Fin.ext (Nat.mod_eq_of_lt (hE _).2).symm
  isplitl [Ho]
  · iexists _
    isplitr
    rotate_left
    · iexact Ho
    · ipureintro
      refine read_lanes_write o fo _ inb' rfl _ _ _ hfo fun x => ?_
      refine congrArg₂ (fun a b : BitVec 32 => a + b) (?_ : o.view.read (Elt F) fo ((lanes _ inb').emb x) = _) (?_ : _ = _)
      · rw [hfo, upTo_lanes t _ inb' rfl]
      · refine (read_access_whole' arg10 fX _).trans ?_
        rw [hX]
        exact congrArg X (hEx x)
  · iexists _
    isplitr
    rotate_left
    · iexact Hp
    · ipureintro
      refine read_lanes_write p fp _ inb' rfl _ _ _ hfp fun x => ?_
      refine congrArg₂ (fun a b : BitVec 32 => a + b) (?_ : p.view.read (Elt F) fp ((lanes _ inb').emb x) = _) (?_ : _ = _)
      · rw [hfp, upTo_lanes t _ inb' rfl]
      · refine (read_access_whole' arg11 fY _).trans ?_
        rw [hY]
        exact congrArg Y (hEx x)

/-- The loop of a chunk: every entry of the two columns moved by the table entry it names. -/
theorem wp_loop (hE : InTab wE wA) (lb ub st : BitVec 32) (hok : Scf.OK lb ub st) (htr : Scf.trips lb ub st = 480)
    (body : Fin (Scf.trips lb ub st) → Unit → Prog (TpuEff nD τ sig (Elt F) Λ₀ (.scVector ((i 0).castLE hcore1) ((i 1).castLE hsub1))) Unit)
    (off off' : Fin (Scf.trips lb ub st) → Fin 1 → ℕ) (inb : ∀ t a, off t a + S16.size a ≤ S7680.size a) (inb' : ∀ t a, off' t a + S16.size a ≤ S7680.size a)
    (hoff : ∀ t, off t = ![16 * t.val]) (hoff' : ∀ t, off' t = ![16 * t.val])
    (hbody : ∀ t u, body t u = trip (F := F) i arg10 arg11 e a o p (off t) (off' t) (inb t) (inb' t))
    {α : Type} {kk : Unit → Prog (TpuEff nD τ sig (Elt F) Λ₀ (.scVector ((i 0).castLE hcore1) ((i 1).castLE hsub1))) α} (Ψ : α → sProp 𝕄) :
    iprop(holds (F := F) (thr i d) arg10 X ∗ holds (F := F) (thr i d) arg11 Y ∗ holds (F := F) (thr i d) e wE ∗ holds (F := F) (thr i d) a wA
        ∗ holds (F := F) (thr i d) o w1 ∗ holds (F := F) (thr i d) p w2)
      ⊢ iprop((iprop(holds (F := F) (thr i d) arg10 X ∗ holds (F := F) (thr i d) arg11 Y ∗ holds (F := F) (thr i d) e wE ∗ holds (F := F) (thr i d) a wA
            ∗ holds (F := F) (thr i d) o (bump X wE wA w1) ∗ holds (F := F) (thr i d) p (bump Y wE wA w2))
          -∗ wp frame (wpE defs₀ 𝒱₀ (thr i d) none) Set.univ (kk ⟨⟩) Ψ)
        -∗ wp frame (wpE defs₀ 𝒱₀ (thr i d) none) Set.univ (Scf.for lb ub st hok ⟨⟩ body >>= kk) Ψ) := by
  have h := Scf.wp_for_bind frame (wpE (defs₀ (F := F)) 𝒱₀ (thr i d) none) Set.univ lb ub st hok (⟨⟩ : Unit) body
    (fun t _ => inv (F := F) i arg10 arg11 e a o p d X Y wE wA w1 w2 t)
    (fun t u => by
      rw [hbody]
      exact trip_wp i arg10 arg11 e a o p d X Y w1 w2 hE t.val _ _ (inb t) (inb' t) (hoff t) (hoff' t) _ (BIBase.Entails.rfl))
    (kk := kk) (Q := Ψ)
  unfold inv at h
  rw [htr, upTo_zero, upTo_zero, upTo_all, upTo_all] at h
  refine h.trans ?_
  iintro H Hk
  iapply H
  iintro %_ HI
  iapply Hk
  iexact HI

end

end Cert.Proof.Sc
-- ==== Proof.Groups.lean ====
/-
  The groups of a chunk: four copies in on one semaphore and the four waits for them, two copies out on another and the
  two waits for them, each group one batch.
-/
module

public import proofs.«01_k».proof.Proof.Steps

@[expose] public section

noncomputable section

namespace Cert.Proof.Sc

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ (UU F) ℕ

variable [FloatOps F]

/-- What one, two or four transfers deliver. -/
def D1 (A : sProp 𝕄) : Fin 1 → sProp 𝕄 := fun _ => A
def D2 (A B : sProp 𝕄) : Fin 2 → sProp 𝕄 := ![A, B]
def D4 (A B C E : sProp 𝕄) : Fin 4 → sProp 𝕄 := ![A, B, C, E]

instance D1_storable (A : sProp 𝕄) [Storable (upEmb : UEmb _ 𝕄) A] (t : Fin 1) :
    Storable (upEmb : UEmb _ 𝕄) (D1 A t) := by assumption
instance D2_storable (A B : sProp 𝕄) [Storable (upEmb : UEmb _ 𝕄) A] [Storable (upEmb : UEmb _ 𝕄) B] (t : Fin 2) :
    Storable (upEmb : UEmb _ 𝕄) (D2 A B t) := by fin_cases t <;> assumption
instance D4_storable (A B C E : sProp 𝕄) [Storable (upEmb : UEmb _ 𝕄) A] [Storable (upEmb : UEmb _ 𝕄) B] [Storable (upEmb : UEmb _ 𝕄) C]
    [Storable (upEmb : UEmb _ 𝕄) E] (t : Fin 4) : Storable (upEmb : UEmb _ 𝕄) (D4 A B C E t) := by fin_cases t <;> assumption

theorem bigSep_D1 (A : sProp 𝕄) : bigSep Finset.univ (D1 A) ⊢ A :=
  Entails.of_eq (by rw [bigSep_pending_zero, bigSep_pending_last _ 0 (by omega) rfl]; rfl)
theorem bigSep_D2 (A B : sProp 𝕄) : bigSep Finset.univ (D2 A B) ⊢ iprop(A ∗ B) :=
  Entails.of_eq (by rw [bigSep_pending_zero, bigSep_pending_step _ 0 (by omega), bigSep_pending_last _ 1 (by omega) rfl]; rfl)
theorem bigSep_D4 (A B C E : sProp 𝕄) : bigSep Finset.univ (D4 A B C E) ⊢ iprop(A ∗ B ∗ C ∗ E) :=
  Entails.of_eq (by
    rw [bigSep_pending_zero, bigSep_pending_step _ 0 (by omega), bigSep_pending_step _ 1 (by omega), bigSep_pending_step _ 2 (by omega),
      bigSep_pending_last _ 3 (by omega) rfl]; rfl)

section Groups

variable (c : Thread nD τ)

/-- The thread owes `O`, having waited on nothing outside `W` but at the index no thread owes on. -/
def owesV (O : CellTallies nD τ sig (HIx 1)) (W : Waits sig (HIx 1)) : sProp 𝕄 :=
  iprop(∃ W', ⌜∀ p ∈ W', p ∈ W ∨ p.2 = none⌝ ∗ owes c O W')

/-- The levels of the launch. -/
abbrev levs : sProp 𝕄 := levAts (K (F := F)).L (K (F := F)).lev

/-- The thread holds the memref's whole buffer, at whatever contents. -/
def any {sp : Space} {s : Shape} {e : EltTy} (d : Memref sig c.2.kind sp s e) : sProp 𝕄 :=
  iprop(∃ f : Buf (Elt F) (d.view.loc c), d.view.loc c ↦{fullShare} f)

theorem any_of_holds {sp : Space} {s : Shape} {e : EltTy} (d : Memref sig c.2.kind sp s e) (w : s.Idx → Elt F e) :
    holds (F := F) c d w ⊢ any (F := F) c d := by
  unfold holds any
  iintro ⟨%f, -, H⟩
  iexists f
  iexact H

variable {Λ : Labels} {defs : Defs nD τ sig (Elt F) Λ} (𝒱' : Variants) (bd : Option 𝒱'.V)
variable {O : CellTallies nD τ sig (HIx 1)} {W : Waits sig (HIx 1)} (hO : ∀ g, O g none = 0) {α : Type}

include hO

/-- A wait that is not its batch's last. -/
theorem wp_waitMid {Ψ : α → sProp 𝕄} {n : ℕ} {sp sp' : Space} {s s' : Shape} {e e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} {N : ℕ} (hN : dstw.view.dmaCredit = N)
    {Dl : Fin n → sProp 𝕄} {u : ℕ} (hu : u + N < N * n) :
    iprop(levs (F := F) ∗ Batch EC c (.dma sem) none N Dl n u ∗ owesV (F := F) c O W)
      ⊢ iprop((iprop(Batch EC c (.dma sem) none N Dl n (u + N) ∗ owesV (F := F) c O W) -∗ wp frame (wpE defs 𝒱' c bd) Set.univ (k ⟨⟩) Ψ)
          -∗ wp frame (wpE defs 𝒱' c bd) Set.univ (.op (.waitDma2 sem srcw dstw hsrc hdst) k) Ψ) := by
  unfold owesV
  iintro ⟨#Hlv, HB, ⟨%W', %hW, HO⟩⟩ Hk
  ihave Hmw := ((K (F := F)).mayWait_none (thr := c) (SemLoc.dma sem) hO) $$ Hlv
  iapply (wp_waitBatchO EC 𝒱' c bd none hN hu) $$ [HB HO Hmw]
  · isplitl [HB]; · iexact HB
    isplitl [HO] <;> iassumption
  iintro ⟨HB, HO⟩
  iapply Hk
  isplitl [HB]; · iexact HB
  iexists (insert (SemLoc.dma sem, none) W')
  isplitr
  · ipureintro
    intro p hp
    rcases Finset.mem_insert.mp hp with rfl | hp
    · exact .inr rfl
    · exact hW p hp
  · iexact HO

/-- A batch's last wait: every delivery, and the counter at zero. -/
theorem wp_waitEnd {Ψ : α → sProp 𝕄} {n : ℕ} {sp sp' : Space} {s s' : Shape} {e e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} {N : ℕ} (hN : dstw.view.dmaCredit = N) (hN0 : 0 < N)
    {Dl : Fin n → sProp 𝕄} {u : ℕ} (hu : u + N = N * n) :
    iprop(levs (F := F) ∗ Batch EC c (.dma sem) none N Dl n u ∗ owesV (F := F) c O W)
      ⊢ iprop((iprop(bigSep Finset.univ Dl ∗ semVal (c, .dma sem) 0 ∗ owesV (F := F) c O W) -∗ wp frame (wpE defs 𝒱' c bd) Set.univ (k ⟨⟩) Ψ)
          -∗ wp frame (wpE defs 𝒱' c bd) Set.univ (.op (.waitDma2 sem srcw dstw hsrc hdst) k) Ψ) := by
  unfold owesV
  iintro ⟨#Hlv, HB, ⟨%W', %hW, HO⟩⟩ Hk
  ihave Hmw := ((K (F := F)).mayWait_none (thr := c) (SemLoc.dma sem) hO) $$ Hlv
  iapply (wp_waitBatchLastO EC 𝒱' c bd none hN hN0 hu) $$ [HB HO Hmw]
  · isplitl [HB]; · iexact HB
    isplitl [HO] <;> iassumption
  iintro ⟨HD, Hs, HO⟩
  iapply Hk
  isplitl [HD]; · iexact HD
  isplitl [Hs]; · iexact Hs
  iexists (insert (SemLoc.dma sem, none) W')
  isplitr
  · ipureintro
    intro p hp
    rcases Finset.mem_insert.mp hp with rfl | hp
    · exact .inr rfl
    · exact hW p hp
  · iexact HO

variable {N : ℕ}

/-- A table fetched: one copy in and the wait for it. -/
theorem wp_fetch {Ψ : α → sProp 𝕄} {sp sp' spw : Space} {s sw : Shape} {e ew : EltTy} {sem : DmaSem sig}
    {sl : Memref sig c.2.kind sp s e} {dd : Memref sig c.2.kind sp' s e} {q : PosShare TreeShare} {fs : Buf (Elt F) (sl.view.loc c)}
    {srcw : Memref sig c.2.kind spw sw ew}
    {h1 : sl.view.WordExact} {h2 : dd.view.WordExact} {h3 : DmaTarget.Typed (nD := nD) sp (.dma sem) (.here dd)} {h4 : srcw.view.WordExact} {h5 : dd.view.WordExact}
    {k : Prog (TpuEff nD τ sig (Elt F) Λ c.2) α} (hN : dd.view.amount (.dma sem) = N) (hN' : dd.view.dmaCredit = N) (hN0 : 0 < N) :
    iprop(levs (F := F) ∗ (sl.view.loc c ↦{q} fs) ∗ any (F := F) c dd ∗ semVal (c, .dma sem) 0 ∗ owesV (F := F) c O W)
      ⊢ iprop((iprop(delivIn (F := F) c sl q fs dd ∗ semVal (c, .dma sem) 0 ∗ owesV (F := F) c O W) -∗ wp frame (wpE defs 𝒱' c bd) Set.univ k Ψ)
          -∗ wp frame (wpE defs 𝒱' c bd) Set.univ
              (.op (.enqueueDma sl (.here dd) (.dma sem) h1 h2 h3) fun _ => .op (.waitDma2 sem srcw dd h4 h5) fun _ => k) Ψ) := by
  unfold any
  iintro ⟨#Hlv, Hs, ⟨%fd, Hd⟩, Hv, HO⟩ Hk
  imod (batch_alloc' EC c none N (D1 (delivIn (F := F) c sl q fs dd))) $$ Hv with HB
  iapply (wp_issueIn (F := F) c 𝒱' bd (q := q) (fs := fs) (fd := fd) (Dl := D1 (delivIn (F := F) c sl q fs dd)) (n := 1) (j := 0) (u := 0) N hN (by omega) (by omega) BIBase.Entails.rfl) $$ [Hs Hd HB]
  · isplitl [Hs]; · iexact Hs
    isplitl [Hd] <;> iassumption
  iintro HB
  iapply (wp_waitEnd (F := F) c 𝒱' bd hO (n := 1) (u := 0) hN' hN0 (by omega)) $$ [HB HO]
  · isplitr; · iexact Hlv
    isplitl [HB] <;> iassumption
  iintro ⟨HD, Hv, HO⟩
  iapply Hk
  isplitl [HD]; · iapply (bigSep_D1 _); iexact HD
  isplitl [Hv] <;> iassumption

omit hO in
/-- A chunk's four copies in. -/
theorem wp_in4 {Ψ : α → sProp 𝕄} {sp sp' : Space} {s : Shape} {e : EltTy} {sem : SemLoc sig}
    {s1 s2 s3 s4 : Memref sig c.2.kind sp s e} {d1 d2 d3 d4 : Memref sig c.2.kind sp' s e} {q : PosShare TreeShare}
    {f1 : Buf (Elt F) (s1.view.loc c)} {f2 : Buf (Elt F) (s2.view.loc c)} {f3 : Buf (Elt F) (s3.view.loc c)} {f4 : Buf (Elt F) (s4.view.loc c)}
    {a1 : s1.view.WordExact} {b1 : d1.view.WordExact} {t1 : DmaTarget.Typed (nD := nD) sp sem (.here d1)}
    {a2 : s2.view.WordExact} {b2 : d2.view.WordExact} {t2 : DmaTarget.Typed (nD := nD) sp sem (.here d2)}
    {a3 : s3.view.WordExact} {b3 : d3.view.WordExact} {t3 : DmaTarget.Typed (nD := nD) sp sem (.here d3)}
    {a4 : s4.view.WordExact} {b4 : d4.view.WordExact} {t4 : DmaTarget.Typed (nD := nD) sp sem (.here d4)}
    {k : Prog (TpuEff nD τ sig (Elt F) Λ c.2) α}
    (hN1 : d1.view.amount sem = N) (hN2 : d2.view.amount sem = N) (hN3 : d3.view.amount sem = N) (hN4 : d4.view.amount sem = N) :
    iprop(((s1.view.loc c ↦{q} f1) ∗ (s2.view.loc c ↦{q} f2) ∗ (s3.view.loc c ↦{q} f3) ∗ (s4.view.loc c ↦{q} f4))
        ∗ (any (F := F) c d1 ∗ any (F := F) c d2 ∗ any (F := F) c d3 ∗ any (F := F) c d4) ∗ semVal (c, sem) 0)
      ⊢ iprop((Batch EC c sem none N (D4 (delivIn (F := F) c s1 q f1 d1) (delivIn (F := F) c s2 q f2 d2) (delivIn (F := F) c s3 q f3 d3) (delivIn (F := F) c s4 q f4 d4)) 4 0
              -∗ wp frame (wpE defs 𝒱' c bd) Set.univ k Ψ)
          -∗ wp frame (wpE defs 𝒱' c bd) Set.univ
              (.op (.enqueueDma s1 (.here d1) sem a1 b1 t1) fun _ => .op (.enqueueDma s2 (.here d2) sem a2 b2 t2) fun _ =>
                .op (.enqueueDma s3 (.here d3) sem a3 b3 t3) fun _ => .op (.enqueueDma s4 (.here d4) sem a4 b4 t4) fun _ => k) Ψ) := by
  unfold any
  iintro ⟨⟨Hs1, Hs2, Hs3, Hs4⟩, ⟨⟨%g1, Hd1⟩, ⟨%g2, Hd2⟩, ⟨%g3, Hd3⟩, ⟨%g4, Hd4⟩⟩, Hv⟩ Hk
  imod (batch_alloc' EC c none N (D4 (delivIn (F := F) c s1 q f1 d1) (delivIn (F := F) c s2 q f2 d2) (delivIn (F := F) c s3 q f3 d3) (delivIn (F := F) c s4 q f4 d4))) $$ Hv with HB
  iapply (wp_issueIn (F := F) c 𝒱' bd (q := q) (fs := f1) (fd := g1) (Dl := (D4 (delivIn (F := F) c s1 q f1 d1) (delivIn (F := F) c s2 q f2 d2) (delivIn (F := F) c s3 q f3 d3) (delivIn (F := F) c s4 q f4 d4))) (n := 4) (j := 0) (u := 0) N hN1 (by omega) (by omega) BIBase.Entails.rfl) $$ [Hs1 Hd1 HB]
  · isplitl [Hs1]; · iexact Hs1
    isplitl [Hd1] <;> iassumption
  iintro HB
  iapply (wp_issueIn (F := F) c 𝒱' bd (q := q) (fs := f2) (fd := g2) (Dl := (D4 (delivIn (F := F) c s1 q f1 d1) (delivIn (F := F) c s2 q f2 d2) (delivIn (F := F) c s3 q f3 d3) (delivIn (F := F) c s4 q f4 d4))) (n := 4) (j := 1) (u := 0) N hN2 (by omega) (by omega) BIBase.Entails.rfl) $$ [Hs2 Hd2 HB]
  · isplitl [Hs2]; · iexact Hs2
    isplitl [Hd2] <;> iassumption
  iintro HB
  iapply (wp_issueIn (F := F) c 𝒱' bd (q := q) (fs := f3) (fd := g3) (Dl := (D4 (delivIn (F := F) c s1 q f1 d1) (delivIn (F := F) c s2 q f2 d2) (delivIn (F := F) c s3 q f3 d3) (delivIn (F := F) c s4 q f4 d4))) (n := 4) (j := 2) (u := 0) N hN3 (by omega) (by omega) BIBase.Entails.rfl) $$ [Hs3 Hd3 HB]
  · isplitl [Hs3]; · iexact Hs3
    isplitl [Hd3] <;> iassumption
  iintro HB
  iapply (wp_issueIn (F := F) c 𝒱' bd (q := q) (fs := f4) (fd := g4) (Dl := (D4 (delivIn (F := F) c s1 q f1 d1) (delivIn (F := F) c s2 q f2 d2) (delivIn (F := F) c s3 q f3 d3) (delivIn (F := F) c s4 q f4 d4))) (n := 4) (j := 3) (u := 0) N hN4 (by omega) (by omega) BIBase.Entails.rfl) $$ [Hs4 Hd4 HB]
  · isplitl [Hs4]; · iexact Hs4
    isplitl [Hd4] <;> iassumption
  iintro HB
  iapply Hk
  iexact HB

/-- The four waits for them. -/
theorem wp_inwait4 {Ψ : α → sProp 𝕄} {sp1 sp2 : Space} {s' : Shape} {e' : EltTy} {sem : DmaSem sig} {A B C E : sProp 𝕄}
    {w1 w2 w3 w4 : Memref sig c.2.kind sp1 s' e'} {x1 x2 x3 x4 : Memref sig c.2.kind sp2 s' e'}
    {a1 : w1.view.WordExact} {b1 : x1.view.WordExact} {a2 : w2.view.WordExact} {b2 : x2.view.WordExact}
    {a3 : w3.view.WordExact} {b3 : x3.view.WordExact} {a4 : w4.view.WordExact} {b4 : x4.view.WordExact}
    {k : Prog (TpuEff nD τ sig (Elt F) Λ c.2) α}
    (hN1 : x1.view.dmaCredit = N) (hN2 : x2.view.dmaCredit = N) (hN3 : x3.view.dmaCredit = N) (hN4 : x4.view.dmaCredit = N) (hN0 : 0 < N) :
    iprop(levs (F := F) ∗ Batch EC c (.dma sem) none N (D4 A B C E) 4 0 ∗ owesV (F := F) c O W)
      ⊢ iprop((iprop((A ∗ B ∗ C ∗ E) ∗ semVal (c, .dma sem) 0 ∗ owesV (F := F) c O W) -∗ wp frame (wpE defs 𝒱' c bd) Set.univ k Ψ)
          -∗ wp frame (wpE defs 𝒱' c bd) Set.univ
              (.op (.waitDma2 sem w1 x1 a1 b1) fun _ => .op (.waitDma2 sem w2 x2 a2 b2) fun _ => .op (.waitDma2 sem w3 x3 a3 b3) fun _ =>
                .op (.waitDma2 sem w4 x4 a4 b4) fun _ => k) Ψ) := by
  iintro ⟨#Hlv, HB, HO⟩ Hk
  iapply (wp_waitMid (F := F) c 𝒱' bd hO (n := 4) (u := 0) hN1 (by omega)) $$ [HB HO]
  · isplitr; · iexact Hlv
    isplitl [HB] <;> iassumption
  iintro ⟨HB, HO⟩
  iapply (wp_waitMid (F := F) c 𝒱' bd hO (n := 4) (u := 0 + N) hN2 (by omega)) $$ [HB HO]
  · isplitr; · iexact Hlv
    isplitl [HB] <;> iassumption
  iintro ⟨HB, HO⟩
  iapply (wp_waitMid (F := F) c 𝒱' bd hO (n := 4) (u := 0 + N + N) hN3 (by omega)) $$ [HB HO]
  · isplitr; · iexact Hlv
    isplitl [HB] <;> iassumption
  iintro ⟨HB, HO⟩
  iapply (wp_waitEnd (F := F) c 𝒱' bd hO (n := 4) (u := 0 + N + N + N) hN4 hN0 (by omega)) $$ [HB HO]
  · isplitr; · iexact Hlv
    isplitl [HB] <;> iassumption
  iintro ⟨HD, Hv, HO⟩
  iapply Hk
  isplitl [HD]; · iapply (bigSep_D4 _ _ _ _); iexact HD
  isplitl [Hv] <;> iassumption

omit hO in
/-- A chunk's two copies out. -/
theorem wp_out2 {Ψ : α → sProp 𝕄} {sp sp' : Space} {s : Shape} {e : EltTy} {sem : SemLoc sig}
    {s1 s2 : Memref sig c.2.kind sp s e} {d1 d2 : Memref sig c.2.kind sp' s e} {q : PosShare TreeShare} {w1 w2 : s.Idx → Elt F e}
    {f1 g1 : Buf (Elt F) (d1.view.loc c)} {f2 g2 : Buf (Elt F) (d2.view.loc c)} {W1 : Finset (Idx (d1.view.loc c))} {W2 : Finset (Idx (d2.view.loc c))}
    {a1 : s1.view.WordExact} {b1 : d1.view.WordExact} {t1 : DmaTarget.Typed (nD := nD) sp sem (.here d1)}
    {a2 : s2.view.WordExact} {b2 : d2.view.WordExact} {t2 : DmaTarget.Typed (nD := nD) sp sem (.here d2)}
    {k : Prog (TpuEff nD τ sig (Elt F) Λ c.2) α} {ιw : ℕ}
    (hN1 : d1.view.amount sem = N) (hN2 : d2.view.amount sem = N) (hw1 : w1 = d1.view.read (Elt F) g1) (hw2 : w2 = d2.view.read (Elt F) g2) :
    iprop(wmInv (Ix := HIx 1) (Lvl := ℕ) (EW (F := F)) ιw ∗ (holds (F := F) c s1 w1 ∗ holds (F := F) c s2 w2)
        ∗ (willBeTo (Ix := HIx 1) EW (d1.view.loc c) Finset.univ q f1 (fun i => some (g1 i)) W1
          ∗ willBeTo (Ix := HIx 1) EW (d2.view.loc c) Finset.univ q f2 (fun i => some (g2 i)) W2) ∗ semVal (c, sem) 0)
      ⊢ iprop((Batch EC c sem none N (D2 (delivOut (F := F) c s1 w1 d1 q f1 g1 W1) (delivOut (F := F) c s2 w2 d2 q f2 g2 W2)) 2 0
              -∗ wp frame (wpE defs 𝒱' c bd) Set.univ k Ψ)
          -∗ wp frame (wpE defs 𝒱' c bd) Set.univ
              (.op (.enqueueDma s1 (.here d1) sem a1 b1 t1) fun _ => .op (.enqueueDma s2 (.here d2) sem a2 b2 t2) fun _ => k) Ψ) := by
  iintro ⟨#Hw, ⟨Hs1, Hs2⟩, ⟨Hd1, Hd2⟩, Hv⟩ Hk
  imod (batch_alloc' EC c none N (D2 (delivOut (F := F) c s1 w1 d1 q f1 g1 W1) (delivOut (F := F) c s2 w2 d2 q f2 g2 W2))) $$ Hv with HB
  iapply (wp_issueOut (F := F) c 𝒱' bd (w := w1) (q := q) (f := f1) (g := g1) (W := W1) (Dl := (D2 (delivOut (F := F) c s1 w1 d1 q f1 g1 W1) (delivOut (F := F) c s2 w2 d2 q f2 g2 W2))) (n := 2) (j := 0) (u := 0) (ιw := ιw) N hN1 (by omega) (by omega) hw1 BIBase.Entails.rfl) $$ [Hs1 Hd1 HB]
  · isplitr; · iexact Hw
    isplitl [Hs1]; · iexact Hs1
    isplitl [Hd1] <;> iassumption
  iintro HB
  iapply (wp_issueOut (F := F) c 𝒱' bd (w := w2) (q := q) (f := f2) (g := g2) (W := W2) (Dl := (D2 (delivOut (F := F) c s1 w1 d1 q f1 g1 W1) (delivOut (F := F) c s2 w2 d2 q f2 g2 W2))) (n := 2) (j := 1) (u := 0) (ιw := ιw) N hN2 (by omega) (by omega) hw2 BIBase.Entails.rfl) $$ [Hs2 Hd2 HB]
  · isplitr; · iexact Hw
    isplitl [Hs2]; · iexact Hs2
    isplitl [Hd2] <;> iassumption
  iintro HB
  iapply Hk
  iexact HB

/-- The two waits for them. -/
theorem wp_outwait2 {Ψ : α → sProp 𝕄} {sp1 sp2 : Space} {s' : Shape} {e' : EltTy} {sem : DmaSem sig} {A B : sProp 𝕄}
    {w1 w2 : Memref sig c.2.kind sp1 s' e'} {x1 x2 : Memref sig c.2.kind sp2 s' e'}
    {a1 : w1.view.WordExact} {b1 : x1.view.WordExact} {a2 : w2.view.WordExact} {b2 : x2.view.WordExact}
    {k : Prog (TpuEff nD τ sig (Elt F) Λ c.2) α}
    (hN1 : x1.view.dmaCredit = N) (hN2 : x2.view.dmaCredit = N) (hN0 : 0 < N) :
    iprop(levs (F := F) ∗ Batch EC c (.dma sem) none N (D2 A B) 2 0 ∗ owesV (F := F) c O W)
      ⊢ iprop((iprop((A ∗ B) ∗ semVal (c, .dma sem) 0 ∗ owesV (F := F) c O W) -∗ wp frame (wpE defs 𝒱' c bd) Set.univ k Ψ)
          -∗ wp frame (wpE defs 𝒱' c bd) Set.univ
              (.op (.waitDma2 sem w1 x1 a1 b1) fun _ => .op (.waitDma2 sem w2 x2 a2 b2) fun _ => k) Ψ) := by
  iintro ⟨#Hlv, HB, HO⟩ Hk
  iapply (wp_waitMid (F := F) c 𝒱' bd hO (n := 2) (u := 0) hN1 (by omega)) $$ [HB HO]
  · isplitr; · iexact Hlv
    isplitl [HB] <;> iassumption
  iintro ⟨HB, HO⟩
  iapply (wp_waitEnd (F := F) c 𝒱' bd hO (n := 2) (u := 0 + N) hN2 hN0 (by omega)) $$ [HB HO]
  · isplitr; · iexact Hlv
    isplitl [HB] <;> iassumption
  iintro ⟨HD, Hv, HO⟩
  iapply Hk
  isplitl [HD]; · iapply (bigSep_D2 _ _); iexact HD
  isplitl [Hv] <;> iassumption

end Groups

end Cert.Proof.Sc
-- ==== Proof.Round.lean ====
/-
  One chunk on a tile, over any slot of scratches: its copies in started, its work once they have landed (the loop, the
  copies out started), and the waits for its copies out.
-/
module

public import proofs.«01_k».proof.Proof.Loop
public import proofs.«01_k».proof.Proof.Groups

@[expose] public section

noncomputable section

namespace Cert.Proof.Sc

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ (UU F) ℕ

variable [FloatOps F] (i : grid1.Coords) (d : Dev nD)

/-- A column or a tile's output in HBM, and a tile's scratch for a chunk of one. -/
abbrev Col : Type := Memref sig .scVector .hbm S2000000 .i32
abbrev Scr : Type := Memref sig .scVector .vmem S7680 .i32

/-- Chunk `r` of a column, as the tile at `i` names it. -/
abbrev chunk (m : Col) (r : Fin 9) : Memref sig .scVector .hbm S7680 .i32 :=
  m.slice (Rect.unit (s := S2000000) (k1_off1 i (BitVec.ofNat 32 (7680 * r.val))) S7680.size (k1_off1_inb i r)) (fun _ => rfl)

/-- What the tile at `i` runs. -/
abbrev TProg (α : Type) : Type 1 := Prog (TpuEff nD τ sig (Elt F) Λ₀ (.scVector ((i 0).castLE hcore1) ((i 1).castLE hsub1))) α

section

variable (m2 m3 m4 m5 : Col) (fE : Buf (Elt F) (m2.view.loc (thr i d))) (fA : Buf (Elt F) (m3.view.loc (thr i d)))
  (f1 : Buf (Elt F) (m4.view.loc (thr i d))) (f2 : Buf (Elt F) (m5.view.loc (thr i d)))

/-- The four columns read, at a share. -/
def srcs (q : PosShare TreeShare) : sProp 𝕄 :=
  iprop((m2.view.loc (thr i d) ↦{q} fE) ∗ (m3.view.loc (thr i d) ↦{q} fA) ∗ (m4.view.loc (thr i d) ↦{q} f1) ∗ (m5.view.loc (thr i d) ↦{q} f2))

/-- Chunk `r`'s four copies in, on the way to a slot. -/
def inflight (q : PosShare TreeShare) (sem : DmaSem sig) (N : ℕ) (e a o p : Scr) (r : Fin 9) : sProp 𝕄 :=
  Batch EC (thr i d) (.dma sem) none N
    (D4 (delivIn (F := F) (thr i d) (chunk i m2 r) q fE e) (delivIn (F := F) (thr i d) (chunk i m3 r) q fA a)
      (delivIn (F := F) (thr i d) (chunk i m4 r) q f1 o) (delivIn (F := F) (thr i d) (chunk i m5 r) q f2 p)) 4 0

/-- The two outputs in write mode, at a share, with the elements known written. -/
def outs (m8 m9 : Col) (h1 g1 : Buf (Elt F) (m8.view.loc (thr i d))) (h2 g2 : Buf (Elt F) (m9.view.loc (thr i d))) (q : PosShare TreeShare)
    (W1 : Finset (Idx (m8.view.loc (thr i d)))) (W2 : Finset (Idx (m9.view.loc (thr i d)))) : sProp 𝕄 :=
  iprop(willBeTo (Ix := HIx 1) EW (m8.view.loc (thr i d)) Finset.univ q h1 (fun i => some (g1 i)) W1
    ∗ willBeTo (Ix := HIx 1) EW (m9.view.loc (thr i d)) Finset.univ q h2 (fun i => some (g2 i)) W2)

/-- The elements of an output under chunk `r`. -/
abbrev under (m : Col) (r : Fin 9) : Finset (Idx (m.view.loc (thr i d))) := (chunk i m r).view.set

/-- Chunk `r`'s two copies out, on the way from a slot. -/
def outflight (m8 m9 : Col) (h1 g1 : Buf (Elt F) (m8.view.loc (thr i d))) (h2 g2 : Buf (Elt F) (m9.view.loc (thr i d)))
    (q : PosShare TreeShare) (sem : DmaSem sig) (N : ℕ) (o p : Scr) (w1 w2 : S7680.Idx → BitVec 32) (r : Fin 9)
    (W1 : Finset (Idx (m8.view.loc (thr i d)))) (W2 : Finset (Idx (m9.view.loc (thr i d)))) : sProp 𝕄 :=
  Batch EC (thr i d) (.dma sem) none N
    (D2 (delivOut (F := F) (thr i d) o w1 (chunk i m8 r) q h1 g1 W1) (delivOut (F := F) (thr i d) p w2 (chunk i m9 r) q h2 g2 W2)) 2 0

/-- A slot's four scratches, at whatever contents. -/
def scr4 (e a o p : Scr) : sProp 𝕄 :=
  iprop(any (F := F) (thr i d) e ∗ any (F := F) (thr i d) a ∗ any (F := F) (thr i d) o ∗ any (F := F) (thr i d) p)

/-- Every entry of the two columns names a table entry. -/
def ColsInTab : Prop := ∀ n, (m2.view.read (Elt F) fE n : BitVec 32).toNat < 128 ∧ (m3.view.read (Elt F) fA n : BitVec 32).toNat < 128

/-- The two outputs' targets are the columns moved by the tables. -/
def Targets (m8 m9 : Col) (g1 : Buf (Elt F) (m8.view.loc (thr i d))) (g2 : Buf (Elt F) (m9.view.loc (thr i d))) (X Y : S128x128.Idx → BitVec 32) : Prop :=
  m8.view.read (Elt F) g1 = bump (s := S2000000) X (m2.view.read (Elt F) fE) (m3.view.read (Elt F) fA) (m4.view.read (Elt F) f1)
    ∧ m9.view.read (Elt F) g2 = bump (s := S2000000) Y (m2.view.read (Elt F) fE) (m3.view.read (Elt F) fA) (m5.view.read (Elt F) f2)

variable {m2 m3 m4 m5 fE fA f1 f2} {q : PosShare TreeShare} {m8 m9 : Col} {h1 g1 : Buf (Elt F) (m8.view.loc (thr i d))} {h2 g2 : Buf (Elt F) (m9.view.loc (thr i d))}
variable {e a o p : Scr} {sin sout : DmaSem sig} {N NB : ℕ} {α : Type}

/-- A chunk's copies in, started into a slot. -/
theorem wp_start {Ψ : α → sProp 𝕄} (r : Fin 9)
    {a1 : (chunk i m2 r).view.WordExact} {b1 : e.view.WordExact} {t1 : DmaTarget.Typed (nD := nD) .hbm (.dma sin) (DmaTarget.here (p := (thr i d).2) e)}
    {a2 : (chunk i m3 r).view.WordExact} {b2 : a.view.WordExact} {t2 : DmaTarget.Typed (nD := nD) .hbm (.dma sin) (DmaTarget.here (p := (thr i d).2) a)}
    {a3 : (chunk i m4 r).view.WordExact} {b3 : o.view.WordExact} {t3 : DmaTarget.Typed (nD := nD) .hbm (.dma sin) (DmaTarget.here (p := (thr i d).2) o)}
    {a4 : (chunk i m5 r).view.WordExact} {b4 : p.view.WordExact} {t4 : DmaTarget.Typed (nD := nD) .hbm (.dma sin) (DmaTarget.here (p := (thr i d).2) p)}
    {k : TProg (F := F) i α}
    (hN : ∀ x ∈ [e, a, o, p], x.view.dmaCredit = N) :
    iprop(srcs (F := F) i d m2 m3 m4 m5 fE fA f1 f2 q ∗ scr4 (F := F) i d e a o p ∗ semVal (thr i d, .dma sin) 0)
      ⊢ iprop((inflight (F := F) i d m2 m3 m4 m5 fE fA f1 f2 q sin N e a o p r -∗ wp frame (wpE defs₀ 𝒱₀ (thr i d) none) Set.univ k Ψ)
          -∗ wp frame (wpE defs₀ 𝒱₀ (thr i d) none) Set.univ
              (.op (.enqueueDma (chunk i m2 r) (.here e) (.dma sin) a1 b1 t1) fun _ => .op (.enqueueDma (chunk i m3 r) (.here a) (.dma sin) a2 b2 t2) fun _ =>
                .op (.enqueueDma (chunk i m4 r) (.here o) (.dma sin) a3 b3 t3) fun _ => .op (.enqueueDma (chunk i m5 r) (.here p) (.dma sin) a4 b4 t4) fun _ => k) Ψ) := by
  unfold srcs scr4 inflight
  have k1 : e.view.amount (.dma sin) = N := hN e (by simp)
  have k2 : a.view.amount (.dma sin) = N := hN a (by simp)
  have k3 : o.view.amount (.dma sin) = N := hN o (by simp)
  have k4 : p.view.amount (.dma sin) = N := hN p (by simp)
  exact wp_in4 (F := F) (sem := .dma sin) (s1 := chunk i m2 r) (s2 := chunk i m3 r) (s3 := chunk i m4 r) (s4 := chunk i m5 r)
    (d1 := e) (d2 := a) (d3 := o) (d4 := p) (q := q) (f1 := fE) (f2 := fA) (f3 := f1) (f4 := f2) (thr i d) 𝒱₀ none k1 k2 k3 k4

variable {O : CellTallies nD τ sig (HIx 1)} {W : Waits sig (HIx 1)} (hO : ∀ g, O g none = 0)

include hO

/-- A chunk's copies out waited for: its elements are written, and its position scratches are the tile's again. -/
theorem wp_drain {Ψ : α → sProp 𝕄} (r : Fin 9) {w1 w2 : S7680.Idx → BitVec 32} {W1 : Finset (Idx (m8.view.loc (thr i d)))} {W2 : Finset (Idx (m9.view.loc (thr i d)))}
    {a1 : o.view.WordExact} {b1 : (chunk i m8 r).view.WordExact} {a2 : p.view.WordExact} {b2 : (chunk i m9 r).view.WordExact}
    {k : TProg (F := F) i α} (hN1 : (chunk i m8 r).view.dmaCredit = NB) (hN2 : (chunk i m9 r).view.dmaCredit = NB) (hN0 : 0 < NB) :
    iprop(levs (F := F) ∗ outflight (F := F) i d m8 m9 h1 g1 h2 g2 q sout NB o p w1 w2 r W1 W2 ∗ owesV (F := F) (thr i d) O W)
      ⊢ iprop((iprop(outs (F := F) i d m8 m9 h1 g1 h2 g2 q (W1 ∪ under i d m8 r) (W2 ∪ under i d m9 r) ∗ any (F := F) (thr i d) o ∗ any (F := F) (thr i d) p
              ∗ semVal (thr i d, .dma sout) 0 ∗ owesV (F := F) (thr i d) O W) -∗ wp frame (wpE defs₀ 𝒱₀ (thr i d) none) Set.univ k Ψ)
          -∗ wp frame (wpE defs₀ 𝒱₀ (thr i d) none) Set.univ
              (.op (.waitDma2 sout o (chunk i m8 r) a1 b1) fun _ => .op (.waitDma2 sout p (chunk i m9 r) a2 b2) fun _ => k) Ψ) := by
  unfold outflight
  iintro ⟨#Hlv, HB, HO⟩ Hk
  iapply (wp_outwait2 (F := F) (thr i d) 𝒱₀ none hO hN1 hN2 hN0) $$ [HB HO]
  · isplitr; · iexact Hlv
    isplitl [HB]; · iexact HB
    iexact HO
  unfold delivOut
  iintro ⟨⟨⟨Hd1, Ho⟩, Hd2, Hp⟩, Hv, HO⟩
  iapply Hk
  unfold outs
  isplitl [Hd1 Hd2]; · isplitl [Hd1] <;> iassumption
  isplitl [Ho]; · iapply (any_of_holds (F := F) (thr i d)); iexact Ho
  isplitl [Hp]; · iapply (any_of_holds (F := F) (thr i d)); iexact Hp
  isplitl [Hv] <;> iassumption

variable {t10 t11 : Memref sig .scVector .vmem S128x128 .i32} {X Y : S128x128.Idx → BitVec 32}

/-- A chunk's work: its copies in waited for, the loop, its copies out started. -/
theorem wp_work {Ψ : α → sProp 𝕄} (r : Fin 9) {W1 : Finset (Idx (m8.view.loc (thr i d)))} {W2 : Finset (Idx (m9.view.loc (thr i d)))} {ιw : ℕ}
    (hin : ColsInTab (F := F) i d m2 m3 fE fA) (htg : Targets (F := F) i d m2 m3 m4 m5 fE fA f1 f2 m8 m9 g1 g2 X Y)
    {a1 : (chunk i m2 r).view.WordExact} {b1 : e.view.WordExact} {a2 : (chunk i m3 r).view.WordExact} {b2 : a.view.WordExact}
    {a3 : (chunk i m4 r).view.WordExact} {b3 : o.view.WordExact} {a4 : (chunk i m5 r).view.WordExact} {b4 : p.view.WordExact}
    {c1 : o.view.WordExact} {e1 : (chunk i m8 r).view.WordExact} {t1 : DmaTarget.Typed (nD := nD) .vmem (.dma sout) (DmaTarget.here (p := (thr i d).2) (chunk i m8 r))}
    {c2 : p.view.WordExact} {e2 : (chunk i m9 r).view.WordExact} {t2 : DmaTarget.Typed (nD := nD) .vmem (.dma sout) (DmaTarget.here (p := (thr i d).2) (chunk i m9 r))}
    {k : TProg (F := F) i α}
    (hN : ∀ x ∈ [e, a, o, p], x.view.dmaCredit = N) (hN0 : 0 < N) (hN1 : (chunk i m8 r).view.dmaCredit = NB) (hN2 : (chunk i m9 r).view.dmaCredit = NB)
    {lb ub st : BitVec 32} {hok : Scf.OK lb ub st} (htr : Scf.trips lb ub st = 480)
    {body : Fin (Scf.trips lb ub st) → Unit → TProg (F := F) i Unit}
    (off off' : Fin (Scf.trips lb ub st) → Fin 1 → ℕ) (inb : ∀ t a, off t a + S16.size a ≤ S7680.size a) (inb' : ∀ t a, off' t a + S16.size a ≤ S7680.size a)
    (hoff : ∀ t, off t = ![16 * t.val]) (hoff' : ∀ t, off' t = ![16 * t.val])
    (hbody : ∀ t u, body t u = trip (F := F) i t10 t11 e a o p (off t) (off' t) (inb t) (inb' t)) :
    iprop(levs (F := F) ∗ wmInv (Ix := HIx 1) (Lvl := ℕ) (EW (F := F)) ιw ∗ inflight (F := F) i d m2 m3 m4 m5 fE fA f1 f2 q sin N e a o p r
        ∗ holds (F := F) (thr i d) t10 X ∗ holds (F := F) (thr i d) t11 Y ∗ outs (F := F) i d m8 m9 h1 g1 h2 g2 q W1 W2
        ∗ semVal (thr i d, .dma sout) 0 ∗ owesV (F := F) (thr i d) O W)
      ⊢ iprop((iprop(srcs (F := F) i d m2 m3 m4 m5 fE fA f1 f2 q ∗ any (F := F) (thr i d) e ∗ any (F := F) (thr i d) a ∗ semVal (thr i d, .dma sin) 0
              ∗ holds (F := F) (thr i d) t10 X ∗ holds (F := F) (thr i d) t11 Y
              ∗ (∃ w1 w2, outflight (F := F) i d m8 m9 h1 g1 h2 g2 q sout NB o p w1 w2 r W1 W2)
              ∗ owesV (F := F) (thr i d) O W) -∗ wp frame (wpE defs₀ 𝒱₀ (thr i d) none) Set.univ k Ψ)
          -∗ wp frame (wpE defs₀ 𝒱₀ (thr i d) none) Set.univ
              (.op (.waitDma2 sin (chunk i m2 r) e a1 b1) fun _ => .op (.waitDma2 sin (chunk i m3 r) a a2 b2) fun _ =>
                .op (.waitDma2 sin (chunk i m4 r) o a3 b3) fun _ => .op (.waitDma2 sin (chunk i m5 r) p a4 b4) fun _ =>
                (Scf.for lb ub st hok ⟨⟩ body >>= fun _ => .op (.enqueueDma o (.here (chunk i m8 r)) (.dma sout) c1 e1 t1) fun _ =>
                  .op (.enqueueDma p (.here (chunk i m9 r)) (.dma sout) c2 e2 t2) fun _ => k)) Ψ) := by
  unfold inflight
  iintro ⟨#Hlv, #Hw, HB, HX, HY, Hout, Hv, HO⟩ Hk
  iapply (wp_inwait4 (F := F) (thr i d) 𝒱₀ none hO (hN e (by simp)) (hN a (by simp)) (hN o (by simp)) (hN p (by simp)) hN0) $$ [HB HO]
  · isplitr; · iexact Hlv
    isplitl [HB]; · iexact HB
    iexact HO
  unfold delivIn
  iintro ⟨⟨⟨Hs1, He⟩, ⟨Hs2, Ha⟩, ⟨Hs3, Ho⟩, Hs4, Hp⟩, Hvin, HO⟩
  have hE : InTab ((chunk i m2 r).view.read (Elt F) fE) ((chunk i m3 r).view.read (Elt F) fA) := fun n => hin _
  iapply (wp_loop (F := F) i t10 t11 e a o p d X Y _ _ hE lb ub st hok htr body off off' inb inb' hoff hoff' hbody) $$ [HX HY He Ha Ho Hp]
  · isplitl [HX]; · iexact HX
    isplitl [HY]; · iexact HY
    isplitl [He]; · iexact He
    isplitl [Ha]; · iexact Ha
    isplitl [Ho] <;> iassumption
  iintro ⟨HX, HY, He, Ha, Ho, Hp⟩
  have hw1 : bump X ((chunk i m2 r).view.read (Elt F) fE) ((chunk i m3 r).view.read (Elt F) fA) ((chunk i m4 r).view.read (Elt F) f1)
      = (chunk i m8 r).view.read (Elt F) g1 := funext fun n => (congrFun htg.1 _).symm
  have hw2 : bump Y ((chunk i m2 r).view.read (Elt F) fE) ((chunk i m3 r).view.read (Elt F) fA) ((chunk i m5 r).view.read (Elt F) f2)
      = (chunk i m9 r).view.read (Elt F) g2 := funext fun n => (congrFun htg.2 _).symm
  unfold outs
  iapply (wp_out2 (F := F) (sem := .dma sout) (thr i d) 𝒱₀ none (d1 := chunk i m8 r) (d2 := chunk i m9 r) (q := q) (f1 := h1) (g1 := g1) (f2 := h2) (g2 := g2) (W1 := W1) (W2 := W2)
    (ιw := ιw) (N := NB) hN1 hN2 hw1 hw2) $$ [Ho Hp Hout Hv]
  · isplitr; · iexact Hw
    isplitl [Ho Hp]; · isplitl [Ho] <;> iassumption
    isplitl [Hout] <;> iassumption
  iintro HB
  iapply Hk
  unfold srcs
  isplitl [Hs1 Hs2 Hs3 Hs4]
  · isplitl [Hs1]; · iexact Hs1
    isplitl [Hs2]; · iexact Hs2
    isplitl [Hs3] <;> iassumption
  isplitl [He]; · iapply (any_of_holds (F := F) (thr i d)); iexact He
  isplitl [Ha]; · iapply (any_of_holds (F := F) (thr i d)); iexact Ha
  isplitl [Hvin]; · iexact Hvin
  isplitl [HX]; · iexact HX
  isplitl [HY]; · iexact HY
  isplitl [HB]
  · iexists _, _
    unfold outflight
    iexact HB
  iexact HO

end

end Cert.Proof.Sc
-- ==== Proof.Tile.lean ====
/-
  What one tile runs, whole: the two tables fetched, then nine chunks through two slots of scratches, each chunk's copies
  in started a chunk ahead and its copies out waited for before the slot is filled again.
-/
module

public import proofs.«01_k».proof.Proof.Round

@[expose] public section

noncomputable section

namespace Cert.Proof.Sc

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ (UU F) ℕ

variable [FloatOps F] (i : grid1.Coords) (d : Dev nD)

/-- The elements of an output that the tile at `i` writes: those under its nine chunks. -/
def marks (m : Col) : Finset (Idx (m.view.loc (thr i d))) := Finset.univ.biUnion fun r : Fin 9 => under i d m r

/-- The chunks of the two slots are all of them. -/
theorem marks_slots (m : Col) :
    ((((((∅ : Finset (Idx (m.view.loc (thr i d)))) ∪ under i d m 0) ∪ under i d m 2) ∪ under i d m 4) ∪ under i d m 6) ∪ under i d m 8)
      ∪ (((((∅ : Finset (Idx (m.view.loc (thr i d)))) ∪ under i d m 1) ∪ under i d m 3) ∪ under i d m 5) ∪ under i d m 7) = marks i d m := by
  ext n
  simp only [marks, Finset.mem_union, Finset.mem_biUnion, Finset.mem_univ, true_and, Finset.notMem_empty, false_or]
  constructor
  · rintro (((((h | h) | h) | h) | h) | (((h | h) | h) | h)) <;> exact ⟨_, h⟩
  · rintro ⟨r, h⟩
    fin_cases r
    · exact .inl (.inl (.inl (.inl (.inl h))))
    · exact .inr (.inl (.inl (.inl h)))
    · exact .inl (.inl (.inl (.inl (.inr h))))
    · exact .inr (.inl (.inl (.inr h)))
    · exact .inl (.inl (.inl (.inr h)))
    · exact .inr (.inl (.inr h))
    · exact .inl (.inl (.inr h))
    · exact .inr (.inr h)
    · exact .inl (.inr h)

section

variable (arg2 : Col) (harg2 : arg2.IsWhole) (arg3 : Col) (harg3 : arg3.IsWhole) (arg4 : Col) (harg4 : arg4.IsWhole) (arg5 : Col) (harg5 : arg5.IsWhole) (arg6 : Memref sig .scVector .hbm S128x128 .i32) (harg6 : arg6.IsWhole) (arg7 : Memref sig .scVector .hbm S128x128 .i32) (harg7 : arg7.IsWhole) (arg8 : Col) (harg8 : arg8.IsWhole) (arg9 : Col) (harg9 : arg9.IsWhole) (arg10 : Memref sig .scVector .vmem S128x128 .i32) (harg10 : arg10.IsWhole) (arg11 : Memref sig .scVector .vmem S128x128 .i32) (harg11 : arg11.IsWhole) (arg12 : Scr) (harg12 : arg12.IsWhole) (arg13 : Scr) (harg13 : arg13.IsWhole) (arg14 : Scr) (harg14 : arg14.IsWhole) (arg15 : Scr) (harg15 : arg15.IsWhole) (arg16 : Scr) (harg16 : arg16.IsWhole) (arg17 : Scr) (harg17 : arg17.IsWhole) (arg18 : Scr) (harg18 : arg18.IsWhole) (arg19 : Scr) (harg19 : arg19.IsWhole) (arg20 arg21 arg22 arg23 v356_r0 v356_r1 : DmaSems sig S_)
variable (fE : Buf (Elt F) (arg2.view.loc (thr i d))) (fA : Buf (Elt F) (arg3.view.loc (thr i d))) (f1 : Buf (Elt F) (arg4.view.loc (thr i d)))
  (f2 : Buf (Elt F) (arg5.view.loc (thr i d))) (fX : Buf (Elt F) (arg6.view.loc (thr i d))) (fY : Buf (Elt F) (arg7.view.loc (thr i d)))
  (h1 g1 : Buf (Elt F) (arg8.view.loc (thr i d))) (h2 g2 : Buf (Elt F) (arg9.view.loc (thr i d)))

/-- What the tile holds of the arrays it shares: a share of the columns, of the tables, and of the outputs in write mode. -/
def shared (q : PosShare TreeShare) (W1 : Finset (Idx (arg8.view.loc (thr i d)))) (W2 : Finset (Idx (arg9.view.loc (thr i d)))) : sProp 𝕄 :=
  iprop(srcs (F := F) i d arg2 arg3 arg4 arg5 fE fA f1 f2 q ∗ ((arg6.view.loc (thr i d) ↦{q} fX) ∗ (arg7.view.loc (thr i d) ↦{q} fY))
    ∗ outs (F := F) i d arg8 arg9 h1 g1 h2 g2 q W1 W2)

/-- What it holds of its own: its scratches at whatever contents and its semaphores' counters at zero. -/
def own : sProp 𝕄 :=
  iprop((any (F := F) (thr i d) arg10 ∗ any (F := F) (thr i d) arg11) ∗ scr4 (F := F) i d arg12 arg13 arg14 arg15 ∗ scr4 (F := F) i d arg16 arg17 arg18 arg19
    ∗ semVal (thr i d, .dma arg20.sem) 0 ∗ semVal (thr i d, .dma arg21.sem) 0 ∗ semVal (thr i d, .dma arg22.sem) 0 ∗ semVal (thr i d, .dma arg23.sem) 0
    ∗ semVal (thr i d, .dma v356_r0.sem) 0 ∗ semVal (thr i d, .dma v356_r1.sem) 0)

theorem srcs_split (q : PosShare TreeShare) :
    srcs (F := F) i d arg2 arg3 arg4 arg5 fE fA f1 f2 q ⊢ iprop(srcs (F := F) i d arg2 arg3 arg4 arg5 fE fA f1 f2 q.left ∗ srcs (F := F) i d arg2 arg3 arg4 arg5 fE fA f1 f2 q.right) := by
  unfold srcs
  iintro ⟨Ha, Hb, Hc, Hd⟩
  ihave Ha' := (pointsTo_share (PosShare.mem_left_op_right q)).1 $$ Ha
  ihave Hb' := (pointsTo_share (PosShare.mem_left_op_right q)).1 $$ Hb
  ihave Hc' := (pointsTo_share (PosShare.mem_left_op_right q)).1 $$ Hc
  ihave Hd' := (pointsTo_share (PosShare.mem_left_op_right q)).1 $$ Hd
  icases Ha' with ⟨Ha, Ha'⟩
  icases Hb' with ⟨Hb, Hb'⟩
  icases Hc' with ⟨Hc, Hc'⟩
  icases Hd' with ⟨Hd, Hd'⟩
  isplitl [Ha Hb Hc Hd]
  · isplitl [Ha]; · iexact Ha
    isplitl [Hb]; · iexact Hb
    isplitl [Hc]; · iexact Hc
    iexact Hd
  · isplitl [Ha']; · iexact Ha'
    isplitl [Hb']; · iexact Hb'
    isplitl [Hc']; · iexact Hc'
    iexact Hd'

theorem srcs_join (q : PosShare TreeShare) :
    iprop(srcs (F := F) i d arg2 arg3 arg4 arg5 fE fA f1 f2 q.left ∗ srcs (F := F) i d arg2 arg3 arg4 arg5 fE fA f1 f2 q.right) ⊢ srcs (F := F) i d arg2 arg3 arg4 arg5 fE fA f1 f2 q := by
  unfold srcs
  iintro ⟨⟨Ha, Hb, Hc, Hd⟩, Ha', Hb', Hc', Hd'⟩
  isplitl [Ha Ha']
  · iapply (pointsTo_share (PosShare.mem_left_op_right q)).2
    isplitl [Ha]; · iexact Ha
    iexact Ha'
  isplitl [Hb Hb']
  · iapply (pointsTo_share (PosShare.mem_left_op_right q)).2
    isplitl [Hb]; · iexact Hb
    iexact Hb'
  isplitl [Hc Hc']
  · iapply (pointsTo_share (PosShare.mem_left_op_right q)).2
    isplitl [Hc]; · iexact Hc
    iexact Hc'
  · iapply (pointsTo_share (PosShare.mem_left_op_right q)).2
    isplitl [Hd]; · iexact Hd
    iexact Hd'

theorem outs_split (q : PosShare TreeShare) :
    outs (F := F) i d arg8 arg9 h1 g1 h2 g2 q ∅ ∅ ⊢ iprop(outs (F := F) i d arg8 arg9 h1 g1 h2 g2 q.left ∅ ∅ ∗ outs (F := F) i d arg8 arg9 h1 g1 h2 g2 q.right ∅ ∅) := by
  unfold outs
  iintro ⟨Ha, Hb⟩
  icases Ha with ⟨Ha, Ha'⟩
  icases Hb with ⟨Hb, Hb'⟩
  isplitl [Ha Hb]
  · isplitl [Ha]; · iexact Ha
    iexact Hb
  · isplitl [Ha']; · iexact Ha'
    iexact Hb'

theorem outs_join (q : PosShare TreeShare) (V1 W1 : Finset (Idx (arg8.view.loc (thr i d)))) (V2 W2 : Finset (Idx (arg9.view.loc (thr i d)))) :
    iprop(outs (F := F) i d arg8 arg9 h1 g1 h2 g2 q.left V1 V2 ∗ outs (F := F) i d arg8 arg9 h1 g1 h2 g2 q.right W1 W2) ⊢ outs (F := F) i d arg8 arg9 h1 g1 h2 g2 q (V1 ∪ W1) (V2 ∪ W2) := by
  unfold outs
  iintro ⟨⟨Ha, Hb⟩, Ha', Hb'⟩
  icombine Ha Ha' as Ha
  icombine Hb Hb' as Hb
  isplitl [Ha]; · iexact Ha
  iexact Hb

end

section

variable (arg2 : Col) (harg2 : arg2.IsWhole) (arg3 : Col) (harg3 : arg3.IsWhole) (arg4 : Col) (harg4 : arg4.IsWhole) (arg5 : Col) (harg5 : arg5.IsWhole) (arg6 : Memref sig .scVector .hbm S128x128 .i32) (harg6 : arg6.IsWhole) (arg7 : Memref sig .scVector .hbm S128x128 .i32) (harg7 : arg7.IsWhole) (arg8 : Col) (harg8 : arg8.IsWhole) (arg9 : Col) (harg9 : arg9.IsWhole) (arg10 : Memref sig .scVector .vmem S128x128 .i32) (harg10 : arg10.IsWhole) (arg11 : Memref sig .scVector .vmem S128x128 .i32) (harg11 : arg11.IsWhole) (arg12 : Scr) (harg12 : arg12.IsWhole) (arg13 : Scr) (harg13 : arg13.IsWhole) (arg14 : Scr) (harg14 : arg14.IsWhole) (arg15 : Scr) (harg15 : arg15.IsWhole) (arg16 : Scr) (harg16 : arg16.IsWhole) (arg17 : Scr) (harg17 : arg17.IsWhole) (arg18 : Scr) (harg18 : arg18.IsWhole) (arg19 : Scr) (harg19 : arg19.IsWhole) (arg20 arg21 arg22 arg23 v356_r0 v356_r1 : DmaSems sig S_)
variable (fE : Buf (Elt F) (arg2.view.loc (thr i d))) (fA : Buf (Elt F) (arg3.view.loc (thr i d))) (f1 : Buf (Elt F) (arg4.view.loc (thr i d)))
  (f2 : Buf (Elt F) (arg5.view.loc (thr i d))) (fX : Buf (Elt F) (arg6.view.loc (thr i d))) (fY : Buf (Elt F) (arg7.view.loc (thr i d)))
  (h1 g1 : Buf (Elt F) (arg8.view.loc (thr i d))) (h2 g2 : Buf (Elt F) (arg9.view.loc (thr i d)))

set_option maxHeartbeats 4000000 in
set_option maxRecDepth 65536 in
/-- THE TILE'S RUN: from shares of the columns and tables and of the outputs in write mode, the shares back with the tile's
    elements of both outputs marked written. -/
theorem tile_run {O : CellTallies nD τ sig (HIx 1)} {W : Waits sig (HIx 1)} (hO : ∀ g, O g none = 0) {q : PosShare TreeShare} {N NB NT ιw : ℕ}
    (hN0 : 0 < N) (hNB0 : 0 < NB) (hNT0 : 0 < NT)
    (hNA : ∀ x ∈ [arg12, arg13, arg14, arg15], x.view.dmaCredit = N) (hNB : ∀ x ∈ [arg16, arg17, arg18, arg19], x.view.dmaCredit = N)
    (hN8 : ∀ r, (chunk i arg8 r).view.dmaCredit = NB) (hN9 : ∀ r, (chunk i arg9 r).view.dmaCredit = NB)
    (hT10 : arg10.view.dmaCredit = NT) (hT11 : arg11.view.dmaCredit = NT)
    (hin : ColsInTab (F := F) i d arg2 arg3 fE fA)
    (htg : Targets (F := F) i d arg2 arg3 arg4 arg5 fE fA f1 f2 arg8 arg9 g1 g2 (arg6.view.read (Elt F) fX) (arg7.view.read (Elt F) fY)) :
    iprop(levs (F := F) ∗ wmInv (Ix := HIx 1) (Lvl := ℕ) (EW (F := F)) ιw ∗ shared (F := F) i d arg2 arg3 arg4 arg5 arg6 arg7 arg8 arg9 fE fA f1 f2 fX fY h1 g1 h2 g2 q ∅ ∅
        ∗ own (F := F) i d arg10 arg11 arg12 arg13 arg14 arg15 arg16 arg17 arg18 arg19 arg20 arg21 arg22 arg23 v356_r0 v356_r1 ∗ owesV (F := F) (thr i d) O W)
      ⊢ wp frame (wpE defs₀ 𝒱₀ (thr i d) none) Set.univ (cc1__sc_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v356_r0 v356_r1)
          fun _ => iprop(shared (F := F) i d arg2 arg3 arg4 arg5 arg6 arg7 arg8 arg9 fE fA f1 f2 fX fY h1 g1 h2 g2 q (marks i d arg8) (marks i d arg9)
            ∗ own (F := F) i d arg10 arg11 arg12 arg13 arg14 arg15 arg16 arg17 arg18 arg19 arg20 arg21 arg22 arg23 v356_r0 v356_r1 ∗ owesV (F := F) (thr i d) O W) := by
  rw [cc1__sc_body_eq_skeleton]
  simp only [cc1__sc_body_skel, k1_part1_eq_skeleton, k1_part2_eq_skeleton, k1_part3_eq_skeleton, k1_part4_eq_skeleton, k1_part5_eq_skeleton,
    k1_part6_eq_skeleton, k1_part7_eq_skeleton, k1_part8_eq_skeleton, k1_part9_eq_skeleton, k1_part10_eq_skeleton,
    k1_part1_skel, k1_part2_skel, k1_part3_skel, k1_part4_skel, k1_part5_skel, k1_part6_skel, k1_part7_skel, k1_part8_skel, k1_part9_skel, k1_part10_skel,
    Prog.lift, Prog.bind_op, Prog.bind_ret, Prog.pure_eq_ret, bind_assoc]
  unfold shared own
  iintro ⟨#Hlv, #Hw, ⟨Hsrc, ⟨HX, HY⟩, Hout⟩, ⟨⟨H10, H11⟩, HscrA, HscrB, HvA, HvB, HwA, HwB, Hr0, Hr1⟩, HO⟩
  ihave Hsrc := (srcs_split (F := F) i d arg2 arg3 arg4 arg5 fE fA f1 f2 q) $$ Hsrc
  icases Hsrc with ⟨HsrcA, HsrcB⟩
  ihave Hout := (outs_split (F := F) i d arg8 arg9 h1 g1 h2 g2 q) $$ Hout
  icases Hout with ⟨HoutA, HoutB⟩
  iapply (wp_fetch (F := F) (thr i d) 𝒱₀ none hO (sl := arg6) (dd := arg10) (q := q) (fs := fX) (N := NT) hT10 hT10 hNT0) $$ [HX H10 Hr0 HO]
  · isplitr; · iexact Hlv
    isplitl [HX]; · iexact HX
    isplitl [H10]; · iexact H10
    isplitl [Hr0]; · iexact Hr0
    iexact HO
  unfold delivIn
  iintro ⟨⟨HX, H10⟩, Hr0, HO⟩
  iapply (wp_fetch (F := F) (thr i d) 𝒱₀ none hO (sl := arg7) (dd := arg11) (q := q) (fs := fY) (N := NT) hT11 hT11 hNT0) $$ [HY H11 Hr1 HO]
  · isplitr; · iexact Hlv
    isplitl [HY]; · iexact HY
    isplitl [H11]; · iexact H11
    isplitl [Hr1]; · iexact Hr1
    iexact HO
  unfold delivIn
  iintro ⟨⟨HY, H11⟩, Hr1, HO⟩
  iapply (wp_start (F := F) i d (m2 := arg2) (m3 := arg3) (m4 := arg4) (m5 := arg5) (fE := fE) (fA := fA) (f1 := f1) (f2 := f2) (q := q.left) (e := arg12) (a := arg13) (o := arg14) (p := arg15) (sin := arg20.sem) (N := N) 0 hNA) $$ [HsrcA HscrA HvA]
  · isplitl [HsrcA]; · iexact HsrcA
    isplitl [HscrA]; · iexact HscrA
    iexact HvA
  iintro HBA
  iapply (wp_start (F := F) i d (m2 := arg2) (m3 := arg3) (m4 := arg4) (m5 := arg5) (fE := fE) (fA := fA) (f1 := f1) (f2 := f2) (q := q.right) (e := arg16) (a := arg17) (o := arg18) (p := arg19) (sin := arg21.sem) (N := N) 1 hNB) $$ [HsrcB HscrB HvB]
  · isplitl [HsrcB]; · iexact HsrcB
    isplitl [HscrB]; · iexact HscrB
    iexact HvB
  iintro HBB
  iapply (wp_work (F := F) i d (m2 := arg2) (m3 := arg3) (m4 := arg4) (m5 := arg5) (fE := fE) (fA := fA) (f1 := f1) (f2 := f2) (q := q.left) (m8 := arg8) (m9 := arg9)
      (h1 := h1) (g1 := g1) (h2 := h2) (g2 := g2) (e := arg12) (a := arg13) (o := arg14) (p := arg15) (sin := arg20.sem) (sout := arg22.sem) (N := N) (NB := NB) (t10 := arg10) (t11 := arg11) hO 0 (ιw := ιw)
      hin htg hNA hN0 (hN8 0) (hN9 0) (by decide) k1_off2 k1_off3 k1_off2_inb k1_off3_inb k1_off2_eq k1_off3_eq (fun _ _ => rfl)) $$ [HBA H10 H11 HoutA HwA HO]
  · isplitr; · iexact Hlv
    isplitr; · iexact Hw
    isplitl [HBA]; · iexact HBA
    isplitl [H10]; · iexact H10
    isplitl [H11]; · iexact H11
    isplitl [HoutA]; · iexact HoutA
    isplitl [HwA]; · iexact HwA
    iexact HO
  iintro ⟨HsrcA, HeA, HaA, HvA, H10, H11, ⟨%w0, %z0, HBA⟩, HO⟩
  iapply (wp_drain (F := F) i d (q := q.left) (m8 := arg8) (m9 := arg9) (h1 := h1) (g1 := g1) (h2 := h2) (g2 := g2) (o := arg14) (p := arg15) (sout := arg22.sem) (NB := NB) hO 0 (w1 := w0) (w2 := z0)
      (hN8 0) (hN9 0) hNB0) $$ [HBA HO]
  · isplitr; · iexact Hlv
    isplitl [HBA]; · iexact HBA
    iexact HO
  iintro ⟨HoutA, HoA, HpA, HwA, HO⟩
  ihave HscrA := (BIBase.Entails.rfl : scr4 (F := F) i d arg12 arg13 arg14 arg15 ⊢ _) $$ [HeA HaA HoA HpA]
  · unfold scr4
    isplitl [HeA]; · iexact HeA
    isplitl [HaA]; · iexact HaA
    isplitl [HoA]; · iexact HoA
    iexact HpA
  iapply (wp_start (F := F) i d (m2 := arg2) (m3 := arg3) (m4 := arg4) (m5 := arg5) (fE := fE) (fA := fA) (f1 := f1) (f2 := f2) (q := q.left) (e := arg12) (a := arg13) (o := arg14) (p := arg15) (sin := arg20.sem) (N := N) 2 hNA) $$ [HsrcA HscrA HvA]
  · isplitl [HsrcA]; · iexact HsrcA
    isplitl [HscrA]; · iexact HscrA
    iexact HvA
  iintro HBA
  iapply (wp_work (F := F) i d (m2 := arg2) (m3 := arg3) (m4 := arg4) (m5 := arg5) (fE := fE) (fA := fA) (f1 := f1) (f2 := f2) (q := q.right) (m8 := arg8) (m9 := arg9)
      (h1 := h1) (g1 := g1) (h2 := h2) (g2 := g2) (e := arg16) (a := arg17) (o := arg18) (p := arg19) (sin := arg21.sem) (sout := arg23.sem) (N := N) (NB := NB) (t10 := arg10) (t11 := arg11) hO 1 (ιw := ιw)
      hin htg hNB hN0 (hN8 1) (hN9 1) (by decide) k1_off4 k1_off5 k1_off4_inb k1_off5_inb k1_off4_eq k1_off5_eq (fun _ _ => rfl)) $$ [HBB H10 H11 HoutB HwB HO]
  · isplitr; · iexact Hlv
    isplitr; · iexact Hw
    isplitl [HBB]; · iexact HBB
    isplitl [H10]; · iexact H10
    isplitl [H11]; · iexact H11
    isplitl [HoutB]; · iexact HoutB
    isplitl [HwB]; · iexact HwB
    iexact HO
  iintro ⟨HsrcB, HeB, HaB, HvB, H10, H11, ⟨%w1, %z1, HBB⟩, HO⟩
  iapply (wp_drain (F := F) i d (q := q.right) (m8 := arg8) (m9 := arg9) (h1 := h1) (g1 := g1) (h2 := h2) (g2 := g2) (o := arg18) (p := arg19) (sout := arg23.sem) (NB := NB) hO 1 (w1 := w1) (w2 := z1)
      (hN8 1) (hN9 1) hNB0) $$ [HBB HO]
  · isplitr; · iexact Hlv
    isplitl [HBB]; · iexact HBB
    iexact HO
  iintro ⟨HoutB, HoB, HpB, HwB, HO⟩
  ihave HscrB := (BIBase.Entails.rfl : scr4 (F := F) i d arg16 arg17 arg18 arg19 ⊢ _) $$ [HeB HaB HoB HpB]
  · unfold scr4
    isplitl [HeB]; · iexact HeB
    isplitl [HaB]; · iexact HaB
    isplitl [HoB]; · iexact HoB
    iexact HpB
  iapply (wp_start (F := F) i d (m2 := arg2) (m3 := arg3) (m4 := arg4) (m5 := arg5) (fE := fE) (fA := fA) (f1 := f1) (f2 := f2) (q := q.right) (e := arg16) (a := arg17) (o := arg18) (p := arg19) (sin := arg21.sem) (N := N) 3 hNB) $$ [HsrcB HscrB HvB]
  · isplitl [HsrcB]; · iexact HsrcB
    isplitl [HscrB]; · iexact HscrB
    iexact HvB
  iintro HBB
  iapply (wp_work (F := F) i d (m2 := arg2) (m3 := arg3) (m4 := arg4) (m5 := arg5) (fE := fE) (fA := fA) (f1 := f1) (f2 := f2) (q := q.left) (m8 := arg8) (m9 := arg9)
      (h1 := h1) (g1 := g1) (h2 := h2) (g2 := g2) (e := arg12) (a := arg13) (o := arg14) (p := arg15) (sin := arg20.sem) (sout := arg22.sem) (N := N) (NB := NB) (t10 := arg10) (t11 := arg11) hO 2 (ιw := ιw)
      hin htg hNA hN0 (hN8 2) (hN9 2) (by decide) k1_off6 k1_off7 k1_off6_inb k1_off7_inb k1_off6_eq k1_off7_eq (fun _ _ => rfl)) $$ [HBA H10 H11 HoutA HwA HO]
  · isplitr; · iexact Hlv
    isplitr; · iexact Hw
    isplitl [HBA]; · iexact HBA
    isplitl [H10]; · iexact H10
    isplitl [H11]; · iexact H11
    isplitl [HoutA]; · iexact HoutA
    isplitl [HwA]; · iexact HwA
    iexact HO
  iintro ⟨HsrcA, HeA, HaA, HvA, H10, H11, ⟨%w2, %z2, HBA⟩, HO⟩
  iapply (wp_drain (F := F) i d (q := q.left) (m8 := arg8) (m9 := arg9) (h1 := h1) (g1 := g1) (h2 := h2) (g2 := g2) (o := arg14) (p := arg15) (sout := arg22.sem) (NB := NB) hO 2 (w1 := w2) (w2 := z2)
      (hN8 2) (hN9 2) hNB0) $$ [HBA HO]
  · isplitr; · iexact Hlv
    isplitl [HBA]; · iexact HBA
    iexact HO
  iintro ⟨HoutA, HoA, HpA, HwA, HO⟩
  ihave HscrA := (BIBase.Entails.rfl : scr4 (F := F) i d arg12 arg13 arg14 arg15 ⊢ _) $$ [HeA HaA HoA HpA]
  · unfold scr4
    isplitl [HeA]; · iexact HeA
    isplitl [HaA]; · iexact HaA
    isplitl [HoA]; · iexact HoA
    iexact HpA
  iapply (wp_start (F := F) i d (m2 := arg2) (m3 := arg3) (m4 := arg4) (m5 := arg5) (fE := fE) (fA := fA) (f1 := f1) (f2 := f2) (q := q.left) (e := arg12) (a := arg13) (o := arg14) (p := arg15) (sin := arg20.sem) (N := N) 4 hNA) $$ [HsrcA HscrA HvA]
  · isplitl [HsrcA]; · iexact HsrcA
    isplitl [HscrA]; · iexact HscrA
    iexact HvA
  iintro HBA
  iapply (wp_work (F := F) i d (m2 := arg2) (m3 := arg3) (m4 := arg4) (m5 := arg5) (fE := fE) (fA := fA) (f1 := f1) (f2 := f2) (q := q.right) (m8 := arg8) (m9 := arg9)
      (h1 := h1) (g1 := g1) (h2 := h2) (g2 := g2) (e := arg16) (a := arg17) (o := arg18) (p := arg19) (sin := arg21.sem) (sout := arg23.sem) (N := N) (NB := NB) (t10 := arg10) (t11 := arg11) hO 3 (ιw := ιw)
      hin htg hNB hN0 (hN8 3) (hN9 3) (by decide) k1_off8 k1_off9 k1_off8_inb k1_off9_inb k1_off8_eq k1_off9_eq (fun _ _ => rfl)) $$ [HBB H10 H11 HoutB HwB HO]
  · isplitr; · iexact Hlv
    isplitr; · iexact Hw
    isplitl [HBB]; · iexact HBB
    isplitl [H10]; · iexact H10
    isplitl [H11]; · iexact H11
    isplitl [HoutB]; · iexact HoutB
    isplitl [HwB]; · iexact HwB
    iexact HO
  iintro ⟨HsrcB, HeB, HaB, HvB, H10, H11, ⟨%w3, %z3, HBB⟩, HO⟩
  iapply (wp_drain (F := F) i d (q := q.right) (m8 := arg8) (m9 := arg9) (h1 := h1) (g1 := g1) (h2 := h2) (g2 := g2) (o := arg18) (p := arg19) (sout := arg23.sem) (NB := NB) hO 3 (w1 := w3) (w2 := z3)
      (hN8 3) (hN9 3) hNB0) $$ [HBB HO]
  · isplitr; · iexact Hlv
    isplitl [HBB]; · iexact HBB
    iexact HO
  iintro ⟨HoutB, HoB, HpB, HwB, HO⟩
  ihave HscrB := (BIBase.Entails.rfl : scr4 (F := F) i d arg16 arg17 arg18 arg19 ⊢ _) $$ [HeB HaB HoB HpB]
  · unfold scr4
    isplitl [HeB]; · iexact HeB
    isplitl [HaB]; · iexact HaB
    isplitl [HoB]; · iexact HoB
    iexact HpB
  iapply (wp_start (F := F) i d (m2 := arg2) (m3 := arg3) (m4 := arg4) (m5 := arg5) (fE := fE) (fA := fA) (f1 := f1) (f2 := f2) (q := q.right) (e := arg16) (a := arg17) (o := arg18) (p := arg19) (sin := arg21.sem) (N := N) 5 hNB) $$ [HsrcB HscrB HvB]
  · isplitl [HsrcB]; · iexact HsrcB
    isplitl [HscrB]; · iexact HscrB
    iexact HvB
  iintro HBB
  iapply (wp_work (F := F) i d (m2 := arg2) (m3 := arg3) (m4 := arg4) (m5 := arg5) (fE := fE) (fA := fA) (f1 := f1) (f2 := f2) (q := q.left) (m8 := arg8) (m9 := arg9)
      (h1 := h1) (g1 := g1) (h2 := h2) (g2 := g2) (e := arg12) (a := arg13) (o := arg14) (p := arg15) (sin := arg20.sem) (sout := arg22.sem) (N := N) (NB := NB) (t10 := arg10) (t11 := arg11) hO 4 (ιw := ιw)
      hin htg hNA hN0 (hN8 4) (hN9 4) (by decide) k1_off10 k1_off11 k1_off10_inb k1_off11_inb k1_off10_eq k1_off11_eq (fun _ _ => rfl)) $$ [HBA H10 H11 HoutA HwA HO]
  · isplitr; · iexact Hlv
    isplitr; · iexact Hw
    isplitl [HBA]; · iexact HBA
    isplitl [H10]; · iexact H10
    isplitl [H11]; · iexact H11
    isplitl [HoutA]; · iexact HoutA
    isplitl [HwA]; · iexact HwA
    iexact HO
  iintro ⟨HsrcA, HeA, HaA, HvA, H10, H11, ⟨%w4, %z4, HBA⟩, HO⟩
  iapply (wp_drain (F := F) i d (q := q.left) (m8 := arg8) (m9 := arg9) (h1 := h1) (g1 := g1) (h2 := h2) (g2 := g2) (o := arg14) (p := arg15) (sout := arg22.sem) (NB := NB) hO 4 (w1 := w4) (w2 := z4)
      (hN8 4) (hN9 4) hNB0) $$ [HBA HO]
  · isplitr; · iexact Hlv
    isplitl [HBA]; · iexact HBA
    iexact HO
  iintro ⟨HoutA, HoA, HpA, HwA, HO⟩
  ihave HscrA := (BIBase.Entails.rfl : scr4 (F := F) i d arg12 arg13 arg14 arg15 ⊢ _) $$ [HeA HaA HoA HpA]
  · unfold scr4
    isplitl [HeA]; · iexact HeA
    isplitl [HaA]; · iexact HaA
    isplitl [HoA]; · iexact HoA
    iexact HpA
  iapply (wp_start (F := F) i d (m2 := arg2) (m3 := arg3) (m4 := arg4) (m5 := arg5) (fE := fE) (fA := fA) (f1 := f1) (f2 := f2) (q := q.left) (e := arg12) (a := arg13) (o := arg14) (p := arg15) (sin := arg20.sem) (N := N) 6 hNA) $$ [HsrcA HscrA HvA]
  · isplitl [HsrcA]; · iexact HsrcA
    isplitl [HscrA]; · iexact HscrA
    iexact HvA
  iintro HBA
  iapply (wp_work (F := F) i d (m2 := arg2) (m3 := arg3) (m4 := arg4) (m5 := arg5) (fE := fE) (fA := fA) (f1 := f1) (f2 := f2) (q := q.right) (m8 := arg8) (m9 := arg9)
      (h1 := h1) (g1 := g1) (h2 := h2) (g2 := g2) (e := arg16) (a := arg17) (o := arg18) (p := arg19) (sin := arg21.sem) (sout := arg23.sem) (N := N) (NB := NB) (t10 := arg10) (t11 := arg11) hO 5 (ιw := ιw)
      hin htg hNB hN0 (hN8 5) (hN9 5) (by decide) k1_off12 k1_off13 k1_off12_inb k1_off13_inb k1_off12_eq k1_off13_eq (fun _ _ => rfl)) $$ [HBB H10 H11 HoutB HwB HO]
  · isplitr; · iexact Hlv
    isplitr; · iexact Hw
    isplitl [HBB]; · iexact HBB
    isplitl [H10]; · iexact H10
    isplitl [H11]; · iexact H11
    isplitl [HoutB]; · iexact HoutB
    isplitl [HwB]; · iexact HwB
    iexact HO
  iintro ⟨HsrcB, HeB, HaB, HvB, H10, H11, ⟨%w5, %z5, HBB⟩, HO⟩
  iapply (wp_drain (F := F) i d (q := q.right) (m8 := arg8) (m9 := arg9) (h1 := h1) (g1 := g1) (h2 := h2) (g2 := g2) (o := arg18) (p := arg19) (sout := arg23.sem) (NB := NB) hO 5 (w1 := w5) (w2 := z5)
      (hN8 5) (hN9 5) hNB0) $$ [HBB HO]
  · isplitr; · iexact Hlv
    isplitl [HBB]; · iexact HBB
    iexact HO
  iintro ⟨HoutB, HoB, HpB, HwB, HO⟩
  ihave HscrB := (BIBase.Entails.rfl : scr4 (F := F) i d arg16 arg17 arg18 arg19 ⊢ _) $$ [HeB HaB HoB HpB]
  · unfold scr4
    isplitl [HeB]; · iexact HeB
    isplitl [HaB]; · iexact HaB
    isplitl [HoB]; · iexact HoB
    iexact HpB
  iapply (wp_start (F := F) i d (m2 := arg2) (m3 := arg3) (m4 := arg4) (m5 := arg5) (fE := fE) (fA := fA) (f1 := f1) (f2 := f2) (q := q.right) (e := arg16) (a := arg17) (o := arg18) (p := arg19) (sin := arg21.sem) (N := N) 7 hNB) $$ [HsrcB HscrB HvB]
  · isplitl [HsrcB]; · iexact HsrcB
    isplitl [HscrB]; · iexact HscrB
    iexact HvB
  iintro HBB
  iapply (wp_work (F := F) i d (m2 := arg2) (m3 := arg3) (m4 := arg4) (m5 := arg5) (fE := fE) (fA := fA) (f1 := f1) (f2 := f2) (q := q.left) (m8 := arg8) (m9 := arg9)
      (h1 := h1) (g1 := g1) (h2 := h2) (g2 := g2) (e := arg12) (a := arg13) (o := arg14) (p := arg15) (sin := arg20.sem) (sout := arg22.sem) (N := N) (NB := NB) (t10 := arg10) (t11 := arg11) hO 6 (ιw := ιw)
      hin htg hNA hN0 (hN8 6) (hN9 6) (by decide) k1_off14 k1_off15 k1_off14_inb k1_off15_inb k1_off14_eq k1_off15_eq (fun _ _ => rfl)) $$ [HBA H10 H11 HoutA HwA HO]
  · isplitr; · iexact Hlv
    isplitr; · iexact Hw
    isplitl [HBA]; · iexact HBA
    isplitl [H10]; · iexact H10
    isplitl [H11]; · iexact H11
    isplitl [HoutA]; · iexact HoutA
    isplitl [HwA]; · iexact HwA
    iexact HO
  iintro ⟨HsrcA, HeA, HaA, HvA, H10, H11, ⟨%w6, %z6, HBA⟩, HO⟩
  iapply (wp_drain (F := F) i d (q := q.left) (m8 := arg8) (m9 := arg9) (h1 := h1) (g1 := g1) (h2 := h2) (g2 := g2) (o := arg14) (p := arg15) (sout := arg22.sem) (NB := NB) hO 6 (w1 := w6) (w2 := z6)
      (hN8 6) (hN9 6) hNB0) $$ [HBA HO]
  · isplitr; · iexact Hlv
    isplitl [HBA]; · iexact HBA
    iexact HO
  iintro ⟨HoutA, HoA, HpA, HwA, HO⟩
  ihave HscrA := (BIBase.Entails.rfl : scr4 (F := F) i d arg12 arg13 arg14 arg15 ⊢ _) $$ [HeA HaA HoA HpA]
  · unfold scr4
    isplitl [HeA]; · iexact HeA
    isplitl [HaA]; · iexact HaA
    isplitl [HoA]; · iexact HoA
    iexact HpA
  iapply (wp_start (F := F) i d (m2 := arg2) (m3 := arg3) (m4 := arg4) (m5 := arg5) (fE := fE) (fA := fA) (f1 := f1) (f2 := f2) (q := q.left) (e := arg12) (a := arg13) (o := arg14) (p := arg15) (sin := arg20.sem) (N := N) 8 hNA) $$ [HsrcA HscrA HvA]
  · isplitl [HsrcA]; · iexact HsrcA
    isplitl [HscrA]; · iexact HscrA
    iexact HvA
  iintro HBA
  iapply (wp_work (F := F) i d (m2 := arg2) (m3 := arg3) (m4 := arg4) (m5 := arg5) (fE := fE) (fA := fA) (f1 := f1) (f2 := f2) (q := q.right) (m8 := arg8) (m9 := arg9)
      (h1 := h1) (g1 := g1) (h2 := h2) (g2 := g2) (e := arg16) (a := arg17) (o := arg18) (p := arg19) (sin := arg21.sem) (sout := arg23.sem) (N := N) (NB := NB) (t10 := arg10) (t11 := arg11) hO 7 (ιw := ιw)
      hin htg hNB hN0 (hN8 7) (hN9 7) (by decide) k1_off16 k1_off17 k1_off16_inb k1_off17_inb k1_off16_eq k1_off17_eq (fun _ _ => rfl)) $$ [HBB H10 H11 HoutB HwB HO]
  · isplitr; · iexact Hlv
    isplitr; · iexact Hw
    isplitl [HBB]; · iexact HBB
    isplitl [H10]; · iexact H10
    isplitl [H11]; · iexact H11
    isplitl [HoutB]; · iexact HoutB
    isplitl [HwB]; · iexact HwB
    iexact HO
  iintro ⟨HsrcB, HeB, HaB, HvB, H10, H11, ⟨%w7, %z7, HBB⟩, HO⟩
  iapply (wp_work (F := F) i d (m2 := arg2) (m3 := arg3) (m4 := arg4) (m5 := arg5) (fE := fE) (fA := fA) (f1 := f1) (f2 := f2) (q := q.left) (m8 := arg8) (m9 := arg9)
      (h1 := h1) (g1 := g1) (h2 := h2) (g2 := g2) (e := arg12) (a := arg13) (o := arg14) (p := arg15) (sin := arg20.sem) (sout := arg22.sem) (N := N) (NB := NB) (t10 := arg10) (t11 := arg11) hO 8 (ιw := ιw)
      hin htg hNA hN0 (hN8 8) (hN9 8) (by decide) k1_off18 k1_off19 k1_off18_inb k1_off19_inb k1_off18_eq k1_off19_eq (fun _ _ => rfl)) $$ [HBA H10 H11 HoutA HwA HO]
  · isplitr; · iexact Hlv
    isplitr; · iexact Hw
    isplitl [HBA]; · iexact HBA
    isplitl [H10]; · iexact H10
    isplitl [H11]; · iexact H11
    isplitl [HoutA]; · iexact HoutA
    isplitl [HwA]; · iexact HwA
    iexact HO
  iintro ⟨HsrcA, HeA, HaA, HvA, H10, H11, ⟨%w8, %z8, HBA⟩, HO⟩
  iapply (wp_drain (F := F) i d (q := q.left) (m8 := arg8) (m9 := arg9) (h1 := h1) (g1 := g1) (h2 := h2) (g2 := g2) (o := arg14) (p := arg15) (sout := arg22.sem) (NB := NB) hO 8 (w1 := w8) (w2 := z8)
      (hN8 8) (hN9 8) hNB0) $$ [HBA HO]
  · isplitr; · iexact Hlv
    isplitl [HBA]; · iexact HBA
    iexact HO
  iintro ⟨HoutA, HoA, HpA, HwA, HO⟩
  ihave HscrA := (BIBase.Entails.rfl : scr4 (F := F) i d arg12 arg13 arg14 arg15 ⊢ _) $$ [HeA HaA HoA HpA]
  · unfold scr4
    isplitl [HeA]; · iexact HeA
    isplitl [HaA]; · iexact HaA
    isplitl [HoA]; · iexact HoA
    iexact HpA
  iapply (wp_drain (F := F) i d (q := q.right) (m8 := arg8) (m9 := arg9) (h1 := h1) (g1 := g1) (h2 := h2) (g2 := g2) (o := arg18) (p := arg19) (sout := arg23.sem) (NB := NB) hO 7 (w1 := w7) (w2 := z7)
      (hN8 7) (hN9 7) hNB0) $$ [HBB HO]
  · isplitr; · iexact Hlv
    isplitl [HBB]; · iexact HBB
    iexact HO
  iintro ⟨HoutB, HoB, HpB, HwB, HO⟩
  ihave HscrB := (BIBase.Entails.rfl : scr4 (F := F) i d arg16 arg17 arg18 arg19 ⊢ _) $$ [HeB HaB HoB HpB]
  · unfold scr4
    isplitl [HeB]; · iexact HeB
    isplitl [HaB]; · iexact HaB
    isplitl [HoB]; · iexact HoB
    iexact HpB
  rw [wp_ret]; imodintro
  isplitl [HsrcA HsrcB HX HY HoutA HoutB]
  · isplitl [HsrcA HsrcB]
    · iapply (srcs_join (F := F) i d arg2 arg3 arg4 arg5 fE fA f1 f2 q)
      isplitl [HsrcA]; · iexact HsrcA
      iexact HsrcB
    isplitl [HX HY]
    · isplitl [HX]; · iexact HX
      iexact HY
    rw [← marks_slots i d arg8, ← marks_slots i d arg9]
    iapply (outs_join (F := F) i d arg8 arg9 h1 g1 h2 g2 q _ _ _ _)
    isplitl [HoutA]; · iexact HoutA
    iexact HoutB
  isplitr [HO]
  · isplitl [H10 H11]
    · isplitl [H10]; · iapply (any_of_holds (F := F) (thr i d)); iexact H10
      iapply (any_of_holds (F := F) (thr i d)); iexact H11
    isplitl [HscrA]; · iexact HscrA
    isplitl [HscrB]; · iexact HscrB
    isplitl [HvA]; · iexact HvA
    isplitl [HvB]; · iexact HvB
    isplitl [HwA]; · iexact HwA
    isplitl [HwB]; · iexact HwB
    isplitl [Hr0]; · iexact Hr0
    iexact Hr1
  iexact HO

end

end Cert.Proof.Sc
-- ==== Proof.Call.lean ====
/-
  The SparseCore call: what it takes from the TensorCore and brings back, how that is dealt to the tiles, and each tile's
  part of it.

  Every tile reads all six inputs and writes a part of both outputs; the parts overlap. So each tile is dealt a share of
  everything: of the inputs as they are, of the outputs in write mode, at the contents they are to have.
-/
module

public import proofs.«01_k».proof.Proof.Tile

@[expose] public section

noncomputable section

namespace Cert.Proof.Sc

open Cert.KernelIdeal Cert.KernelIdeal.Gen

open Idealize.ShloMosaic Idealize.ShloMosaic.Transfers
open Idealize.ShloMosaic.SparseCore (S V T)
open Idealize.ShloMosaic.SparseCore.Cfg (HIx Pay mem_ownCells ownSems0 ownBufs ownRefs ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ (UU F) ℕ

/-! ## Dealing shares -/

section Deal

variable {X Y : Type} [DecidableEq X] [DecidableEq Y]

/-- What splits in halves is dealt in `n` shares and a rest, nothing marked; -/
theorem deal (B : PosShare TreeShare → Finset X → Finset Y → sProp 𝕄) (hs : ∀ q, B q ∅ ∅ ⊢ iprop(B q.left ∅ ∅ ∗ B q.right ∅ ∅)) (q : PosShare TreeShare) (n : ℕ) :
    B q ∅ ∅ ⊢ iprop(B (shareDrop q n) ∅ ∅ ∗ bigSep (Finset.range n) fun i => B (shareTokN q i) ∅ ∅) := by
  induction n with
  | zero => rw [Finset.range_zero, bigSep_empty]; exact Laws.sep_emp.2
  | succ n ih =>
    rw [Finset.range_add_one, SparseCore.bigSep_insert' Finset.notMem_range_self]
    refine ih.trans ((sep_mono_left (hs _)).trans ?_)
    show iprop((B (shareDrop q (n + 1)) ∅ ∅ ∗ B (shareTokN q n) ∅ ∅) ∗ _) ⊢ _
    iintro ⟨⟨Hl, Hr⟩, Hn⟩
    isplitl [Hl]; · iexact Hl
    isplitl [Hr]; · iexact Hr
    iexact Hn

/-- and collected, each share with its own marks, at all of them. -/
theorem collect (B : PosShare TreeShare → Finset X → Finset Y → sProp 𝕄) (hj : ∀ q V1 W1 V2 W2, iprop(B q.left V1 V2 ∗ B q.right W1 W2) ⊢ B q (V1 ∪ W1) (V2 ∪ W2))
    (M1 : ℕ → Finset X) (M2 : ℕ → Finset Y) (q : PosShare TreeShare) (n : ℕ) :
    ∀ V1 V2, iprop(B (shareDrop q n) V1 V2 ∗ bigSep (Finset.range n) fun i => B (shareTokN q i) (M1 i) (M2 i))
      ⊢ B q (V1 ∪ (Finset.range n).biUnion M1) (V2 ∪ (Finset.range n).biUnion M2) := by
  induction n with
  | zero =>
    intro V1 V2
    rw [Finset.range_zero, bigSep_empty, Finset.biUnion_empty, Finset.biUnion_empty, Finset.union_empty, Finset.union_empty]; exact Laws.sep_emp.1
  | succ n ih =>
    intro V1 V2
    rw [Finset.range_add_one, SparseCore.bigSep_insert' Finset.notMem_range_self, Finset.biUnion_insert, Finset.biUnion_insert, ← Finset.union_assoc, ← Finset.union_assoc]
    refine BIBase.Entails.trans ?_ (ih _ _)
    show iprop(B (shareDrop q n).left V1 V2 ∗ B (shareDrop q n).right (M1 n) (M2 n) ∗ _) ⊢ _
    iintro ⟨Hl, Hr, Hn⟩
    isplitr [Hn]
    · iapply (hj (shareDrop q n) V1 (M1 n) V2 (M2 n))
      isplitl [Hl]; · iexact Hl
      iexact Hr
    iexact Hn

theorem bigSep_range_fin (Φ : ℕ → sProp 𝕄) (n : ℕ) : bigSep (Finset.range n) Φ = bigSep Finset.univ fun i : Fin n => Φ i.val := by
  rw [← Nat.Iio_eq_range, ← Fin.map_valEmbedding_univ, bigSep_map]; rfl

/-- A sum of resources over a set, the members of an injective family taken out. -/
theorem bigSep_take {I J : Type} [DecidableEq I] [Fintype J] (s : Finset I) (f : J → I) (hf : Function.Injective f) (hs : ∀ j, f j ∈ s) (Φ : I → sProp 𝕄) :
    bigSep s Φ = iprop((bigSep Finset.univ fun j => Φ (f j)) ∗ bigSep (s \ Finset.univ.map ⟨f, hf⟩) Φ) := by
  have hsub : Finset.univ.map ⟨f, hf⟩ ⊆ s := fun x hx => by obtain ⟨j, -, rfl⟩ := Finset.mem_map.mp hx; exact hs j
  conv_lhs => rw [← Finset.union_sdiff_of_subset hsub]
  rw [SparseCore.bigSep_union' Finset.disjoint_sdiff, bigSep_map]; rfl

end Deal

variable [FloatOps F]

/-! ## The arrays of the call -/

abbrev eLoc (d : Dev nD) : Loc nD τ sig := (SparseCore.T d).loc main_v17
abbrev aLoc (d : Dev nD) : Loc nD τ sig := (SparseCore.T d).loc main_v19
abbrev c1Loc (d : Dev nD) : Loc nD τ sig := (SparseCore.T d).loc main_v21
abbrev c2Loc (d : Dev nD) : Loc nD τ sig := (SparseCore.T d).loc main_v23
abbrev xLoc (d : Dev nD) : Loc nD τ sig := (SparseCore.T d).loc main_v12_3
abbrev yLoc (d : Dev nD) : Loc nD τ sig := (SparseCore.T d).loc main_v12_4
abbrev o1Loc (d : Dev nD) : Loc nD τ sig := (SparseCore.T d).loc main_v24_0
abbrev o2Loc (d : Dev nD) : Loc nD τ sig := (SparseCore.T d).loc main_v24_1

abbrev Wide : Type := S2000000.Idx → BitVec 32
abbrev Table : Type := S128x128.Idx → BitVec 32

/-- The contents of the call's arrays on one device: the columns, the tables, the outputs before. -/
structure Data where
  wE : Wide
  wA : Wide
  w1 : Wide
  w2 : Wide
  X : Table
  Y : Table
  h1 : Wide
  h2 : Wide

/-- The outputs after. -/
def Data.g1 (c : Data) : Wide := bump (s := S2000000) c.X c.wE c.wA c.w1
def Data.g2 (c : Data) : Wide := bump (s := S2000000) c.Y c.wE c.wA c.w2

/-- The columns name table entries. -/
def Data.InTab (c : Data) : Prop := ∀ n, (c.wE n).toNat < 128 ∧ (c.wA n).toNat < 128

variable (C : Dev nD → Data)

/-- A share of the call's arrays: the inputs' elements, the outputs in write mode with the marks `W1`, `W2`. -/
def bundle (d : Dev nD) (q : PosShare TreeShare) (W1 W2 : Finset S2000000.Idx) : sProp 𝕄 :=
  iprop(((eLoc d ↦{q} ((C d).wE : Buf (Elt F) (eLoc d))) ∗ (aLoc d ↦{q} ((C d).wA : Buf (Elt F) (aLoc d)))
      ∗ (c1Loc d ↦{q} ((C d).w1 : Buf (Elt F) (c1Loc d))) ∗ (c2Loc d ↦{q} ((C d).w2 : Buf (Elt F) (c2Loc d))))
    ∗ ((xLoc d ↦{q} ((C d).X : Buf (Elt F) (xLoc d))) ∗ (yLoc d ↦{q} ((C d).Y : Buf (Elt F) (yLoc d))))
    ∗ (willBeTo (Ix := HIx 1) EW (o1Loc d) Finset.univ q ((C d).h1 : Buf (Elt F) (o1Loc d)) (fun i => some ((C d).g1 i)) W1
      ∗ willBeTo (Ix := HIx 1) EW (o2Loc d) Finset.univ q ((C d).h2 : Buf (Elt F) (o2Loc d)) (fun i => some ((C d).g2 i)) W2))

theorem bundle_split (d : Dev nD) (q : PosShare TreeShare) : bundle (F := F) C d q ∅ ∅ ⊢ iprop(bundle (F := F) C d q.left ∅ ∅ ∗ bundle (F := F) C d q.right ∅ ∅) := by
  unfold bundle
  iintro ⟨⟨Ha, Hb, Hc, Hd⟩, ⟨Hx, Hy⟩, Ho, Hp⟩
  ihave Ha' := (pointsTo_share (PosShare.mem_left_op_right q)).1 $$ Ha
  ihave Hb' := (pointsTo_share (PosShare.mem_left_op_right q)).1 $$ Hb
  ihave Hc' := (pointsTo_share (PosShare.mem_left_op_right q)).1 $$ Hc
  ihave Hd' := (pointsTo_share (PosShare.mem_left_op_right q)).1 $$ Hd
  ihave Hx' := (pointsTo_share (PosShare.mem_left_op_right q)).1 $$ Hx
  ihave Hy' := (pointsTo_share (PosShare.mem_left_op_right q)).1 $$ Hy
  icases Ha' with ⟨Ha, Ha'⟩
  icases Hb' with ⟨Hb, Hb'⟩
  icases Hc' with ⟨Hc, Hc'⟩
  icases Hd' with ⟨Hd, Hd'⟩
  icases Hx' with ⟨Hx, Hx'⟩
  icases Hy' with ⟨Hy, Hy'⟩
  icases Ho with ⟨Ho, Ho'⟩
  icases Hp with ⟨Hp, Hp'⟩
  isplitl [Ha Hb Hc Hd Hx Hy Ho Hp]
  · isplitl [Ha Hb Hc Hd]
    · isplitl [Ha]; · iexact Ha
      isplitl [Hb]; · iexact Hb
      isplitl [Hc]; · iexact Hc
      iexact Hd
    isplitl [Hx Hy]
    · isplitl [Hx]; · iexact Hx
      iexact Hy
    isplitl [Ho]; · iexact Ho
    iexact Hp
  · isplitl [Ha' Hb' Hc' Hd']
    · isplitl [Ha']; · iexact Ha'
      isplitl [Hb']; · iexact Hb'
      isplitl [Hc']; · iexact Hc'
      iexact Hd'
    isplitl [Hx' Hy']
    · isplitl [Hx']; · iexact Hx'
      iexact Hy'
    isplitl [Ho']; · iexact Ho'
    iexact Hp'

theorem bundle_join (d : Dev nD) (q : PosShare TreeShare) (V1 W1 V2 W2 : Finset S2000000.Idx) :
    iprop(bundle (F := F) C d q.left V1 V2 ∗ bundle (F := F) C d q.right W1 W2) ⊢ bundle (F := F) C d q (V1 ∪ W1) (V2 ∪ W2) := by
  unfold bundle
  iintro ⟨⟨⟨Ha, Hb, Hc, Hd⟩, ⟨Hx, Hy⟩, Ho, Hp⟩, ⟨Ha', Hb', Hc', Hd'⟩, ⟨Hx', Hy'⟩, Ho', Hp'⟩
  icombine Ho Ho' as Ho
  icombine Hp Hp' as Hp
  isplitl [Ha Hb Hc Hd Ha' Hb' Hc' Hd']
  · isplitl [Ha Ha']
    · iapply (pointsTo_share (PosShare.mem_left_op_right q)).2
      isplitl [Ha]; · iexact Ha
      iexact Ha'
    isplitl [Hb Hb']
    · iapply (pointsTo_share (PosShare.mem_left_op_right q)).2
      isplitl [Hb]; · iexact Hb
      iexact Hb'
    isplitl [Hc Hc']
    · iapply (pointsTo_share (PosShare.mem_left_op_right q)).2
      isplitl [Hc]; · iexact Hc
      iexact Hc'
    · iapply (pointsTo_share (PosShare.mem_left_op_right q)).2
      isplitl [Hd]; · iexact Hd
      iexact Hd'
  isplitl [Hx Hy Hx' Hy']
  · isplitl [Hx Hx']
    · iapply (pointsTo_share (PosShare.mem_left_op_right q)).2
      isplitl [Hx]; · iexact Hx
      iexact Hx'
    · iapply (pointsTo_share (PosShare.mem_left_op_right q)).2
      isplitl [Hy]; · iexact Hy
      iexact Hy'
  isplitl [Ho]; · iexact Ho
  iexact Hp

/-! ## What the handshakes carry -/

/-- The tile that subcore `s` of SparseCore `c` runs. -/
def coordsV (c : Fin (grid1.bound 0)) (s : Fin (grid1.bound 1)) : grid1.Coords :=
  fun | 0 => c | 1 => s | ⟨_ + 2, h⟩ => absurd h (Nat.not_lt.2 (Nat.le_add_left _ _))

abbrev O1 : Col := Memref.whole main_v24_0_scv
abbrev O2 : Col := Memref.whole main_v24_1_scv

/-- The elements written by the tile of SparseCore `c` and subcore `s` (of a machine's, none beyond the grid). -/
def tileMarks (c s : ℕ) : Finset S2000000.Idx :=
  if h : c < grid1.bound 0 ∧ s < grid1.bound 1 then Finset.univ.biUnion fun r : Fin 9 => (chunk (coordsV ⟨c, h.1⟩ ⟨s, h.2⟩) O1 r).view.set else ∅

/-- The elements written by a SparseCore's tiles. -/
def coreMarks (c : ℕ) : Finset S2000000.Idx := (Finset.range 16).biUnion (tileMarks c)

/-- The share of a SparseCore, and of its tile. -/
abbrev qC (c : ℕ) : PosShare TreeShare := shareTokN fullShare c
abbrev qT (c s : ℕ) : PosShare TreeShare := shareTokN (qC c) s

def P : (K (F := F)).Pay (nD := nD) (Val := Elt F) (Name := ℕ) (U := UU F) where
  st := fun _ d c => bundle (F := F) C d (qC c.val) ∅ ∅
  dn := fun _ d c => bundle (F := F) C d (qC c.val) (coreMarks c.val) (coreMarks c.val)
  go := fun _ d c i => bundle (F := F) C d (qT c.val i.val) ∅ ∅
  td := fun _ d c i => bundle (F := F) C d (qT c.val i.val) (tileMarks c.val i.val) (tileMarks c.val i.val)
  x := fun _ _ => iprop(∃ ιw, wmInv (Ix := HIx 1) (Lvl := ℕ) (EW (F := F)) ιw)

instance bundle_storable (d : Dev nD) (q : PosShare TreeShare) (W1 W2 : Finset S2000000.Idx) : BI.Storable (upEmb : UEmb _ 𝕄) (bundle (F := F) C d q W1 W2) := by
  unfold bundle; infer_instance

instance P_storable : (P (F := F) C).IsStorable where
  st _ d c := (inferInstance : BI.Storable (upEmb : UEmb _ 𝕄) (bundle (F := F) C d (qC c.val) ∅ ∅))
  dn _ d c := (inferInstance : BI.Storable (upEmb : UEmb _ 𝕄) (bundle (F := F) C d (qC c.val) (coreMarks c.val) (coreMarks c.val)))
  go _ d c i := (inferInstance : BI.Storable (upEmb : UEmb _ 𝕄) (bundle (F := F) C d (qT c.val i.val) ∅ ∅))
  td _ d c i := (inferInstance : BI.Storable (upEmb : UEmb _ 𝕄) (bundle (F := F) C d (qT c.val i.val) (tileMarks c.val i.val) (tileMarks c.val i.val)))

/-- A SparseCore's share is dealt to its tiles, and theirs collected. -/
theorem vecSplit : (K (F := F)).VecSplit' (P (F := F) C) 0 := by
  intro d c
  show bundle (F := F) C d (qC c.val) ∅ ∅ ⊢ |={Set.univ}=> iprop((bigSep Finset.univ fun i : Fin 16 => bundle (F := F) C d (qT c.val i.val) ∅ ∅)
    ∗ ((bigSep Finset.univ fun i : Fin 16 => bundle (F := F) C d (qT c.val i.val) (tileMarks c.val i.val) (tileMarks c.val i.val))
      -∗ bundle (F := F) C d (qC c.val) (coreMarks c.val) (coreMarks c.val)))
  rw [← bigSep_range_fin (fun i => bundle (F := F) C d (qT c.val i) ∅ ∅) 16,
    ← bigSep_range_fin (fun i => bundle (F := F) C d (qT c.val i) (tileMarks c.val i) (tileMarks c.val i)) 16]
  iintro H
  ihave H := (deal (bundle (F := F) C d) (bundle_split C d) (qC c.val) 16) $$ H
  icases H with ⟨Hd, Ht⟩
  imodintro
  isplitl [Ht]; · iexact Ht
  iintro Ht
  ihave H := (collect (bundle (F := F) C d) (bundle_join C d) (tileMarks c.val) (tileMarks c.val) (qC c.val) 16 ∅ ∅) $$ [Hd Ht]
  · isplitl [Hd]; · iexact Hd
    iexact Ht
  unfold coreMarks
  rw [Finset.empty_union]
  iexact H

/-! ## A tile's part -/

section Tile

variable (d : Dev nD) (L : grid1.Coords)

/-- The tile's scratches, and its copies' semaphores. -/
def scr : Fin 10 → Ref sig .scVector :=
  ![cc1_scratch0, cc1_scratch1, cc1_scratch2, cc1_scratch3, cc1_scratch4, cc1_scratch5, cc1_scratch6, cc1_scratch7, cc1_scratch8, cc1_scratch9]
def dsem : Fin 6 → SemLoc sig :=
  ![.dma cc1_scratch10.sem, .dma cc1_scratch11.sem, .dma cc1_scratch12.sem, .dma cc1_scratch13.sem, .dma cc1_scoped0.sem, .dma cc1_scoped1.sem]

theorem scr_inj : Function.Injective scr := by decide
theorem dsem_inj : Function.Injective dsem := by decide

theorem univ10 : (Finset.univ : Finset (Fin 10)) = {0, 1, 2, 3, 4, 5, 6, 7, 8, 9} := by decide
theorem univ6 : (Finset.univ : Finset (Fin 6)) = {0, 1, 2, 3, 4, 5} := by decide

/-- A tile's own semaphores and buffers: the ones the kernel uses, and a rest. -/
theorem ownSems0_V : ∃ R : sProp 𝕄, (ownSems0 (thr L d) : sProp 𝕄)
    = iprop((semVal (thr L d, .dma cc1_scratch10.sem) 0 ∗ semVal (thr L d, .dma cc1_scratch11.sem) 0 ∗ semVal (thr L d, .dma cc1_scratch12.sem) 0
      ∗ semVal (thr L d, .dma cc1_scratch13.sem) 0 ∗ semVal (thr L d, .dma cc1_scoped0.sem) 0 ∗ semVal (thr L d, .dma cc1_scoped1.sem) 0) ∗ R) := by
  refine ⟨_, (bigSep_take (ownCells (thr L d)) (fun k : Fin 6 => ((thr L d, dsem k) : GSem nD τ sig)) (fun a b e => dsem_inj (Prod.mk.inj e).2)
    (fun k => mem_ownCells.mpr ⟨rfl, by show (dsem k).isScoped .scVector = true; revert k; decide⟩) (fun g => semVal g 0)).trans
    (congrArg (fun A : sProp 𝕄 => iprop(A ∗ _)) ?_)⟩
  rw [univ6, SparseCore.bigSep_insert' (by decide), SparseCore.bigSep_insert' (by decide), SparseCore.bigSep_insert' (by decide),
    SparseCore.bigSep_insert' (by decide), SparseCore.bigSep_insert' (by decide), bigSep_singleton]
  rfl

theorem ownBufs_V : ∃ R : sProp 𝕄, (ownBufs (thr L d) : sProp 𝕄)
    = iprop((any (F := F) (thr L d) (Memref.whole cc1_scratch0) ∗ any (F := F) (thr L d) (Memref.whole cc1_scratch1) ∗ any (F := F) (thr L d) (Memref.whole cc1_scratch2)
      ∗ any (F := F) (thr L d) (Memref.whole cc1_scratch3) ∗ any (F := F) (thr L d) (Memref.whole cc1_scratch4) ∗ any (F := F) (thr L d) (Memref.whole cc1_scratch5)
      ∗ any (F := F) (thr L d) (Memref.whole cc1_scratch6) ∗ any (F := F) (thr L d) (Memref.whole cc1_scratch7) ∗ any (F := F) (thr L d) (Memref.whole cc1_scratch8)
      ∗ any (F := F) (thr L d) (Memref.whole cc1_scratch9)) ∗ R) := by
  refine ⟨_, (bigSep_take (ownRefs (τ := τ) (.scVector ((L 0).castLE hcore1) ((L 1).castLE hsub1)))
    (fun k : Fin 10 => (Proc.scVector ((L 0).castLE hcore1) ((L 1).castLE hsub1)).devRef (scr k))
    (fun a b e => scr_inj (Proc.devRef_injective _ e)) (fun k => SparseCore.Cfg.mem_ownRefs_of_owner (by fin_cases k <;> rfl))
    (fun b => iprop(∃ f, ((d, b) : Loc nD τ sig) ↦{fullShare} f))).trans
    (congrArg (fun A : sProp 𝕄 => iprop(A ∗ _)) ?_)⟩
  rw [univ10, SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

abbrev mE : Col := Memref.whole main_v17_scv
abbrev mA : Col := Memref.whole main_v19_scv
abbrev m1 : Col := Memref.whole main_v21_scv
abbrev m2 : Col := Memref.whole main_v23_scv
abbrev mX : Memref sig .scVector .hbm S128x128 .i32 := Memref.whole main_v12_3_scv
abbrev mY : Memref sig .scVector .hbm S128x128 .i32 := Memref.whole main_v12_4_scv
abbrev sX : Memref sig .scVector .vmem S128x128 .i32 := Memref.whole cc1_scratch0
abbrev sY : Memref sig .scVector .vmem S128x128 .i32 := Memref.whole cc1_scratch1
abbrev sE : Scr := Memref.whole cc1_scratch2
abbrev sA : Scr := Memref.whole cc1_scratch3
abbrev s1 : Scr := Memref.whole cc1_scratch4
abbrev s2 : Scr := Memref.whole cc1_scratch5
abbrev sE' : Scr := Memref.whole cc1_scratch6
abbrev sA' : Scr := Memref.whole cc1_scratch7
abbrev s1' : Scr := Memref.whole cc1_scratch8
abbrev s2' : Scr := Memref.whole cc1_scratch9

/-- The tile's name for its share of the call's arrays. -/
theorem bundle_eq (q : PosShare TreeShare) (W1 W2 : Finset S2000000.Idx) :
    bundle (F := F) C d q W1 W2 = shared (F := F) L d mE mA m1 m2 mX mY O1 O2 (C d).wE (C d).wA (C d).w1 (C d).w2 (C d).X (C d).Y (C d).h1 (C d).g1 (C d).h2 (C d).g2 q W1 W2 := rfl

/-- The tile's run, from its share of the call's arrays and its own scratches and semaphores. -/
theorem tile_body (hF : (K (F := F)).Facts) (hin : (C d).InTab) (O : CellTallies nD τ sig (HIx 1)) (W : Waits sig (HIx 1)) (hO : ∀ g, O g none = 0)
    (q : PosShare TreeShare) :
    iprop(levs (F := F) ∗ (∃ ιw, wmInv (Ix := HIx 1) (Lvl := ℕ) (EW (F := F)) ιw) ∗ bundle (F := F) C d q ∅ ∅
        ∗ scopedBufs (thr L d) ∗ scopedSems0 (thr L d) ∗ owes (thr L d) O W)
      ⊢ wp frame (wpE (defs₀ (F := F)) 𝒱₀ (thr L d) none) Set.univ
          (cc1__sc_body L mE (Memref.isWhole_whole _) mA (Memref.isWhole_whole _) m1 (Memref.isWhole_whole _) m2 (Memref.isWhole_whole _)
            mX (Memref.isWhole_whole _) mY (Memref.isWhole_whole _) O1 (Memref.isWhole_whole _) O2 (Memref.isWhole_whole _)
            sX (Memref.isWhole_whole _) sY (Memref.isWhole_whole _) sE (Memref.isWhole_whole _) sA (Memref.isWhole_whole _) s1 (Memref.isWhole_whole _)
            s2 (Memref.isWhole_whole _) sE' (Memref.isWhole_whole _) sA' (Memref.isWhole_whole _) s1' (Memref.isWhole_whole _) s2' (Memref.isWhole_whole _)
            cc1_scratch10 cc1_scratch11 cc1_scratch12 cc1_scratch13 cc1_scoped0 cc1_scoped1)
          fun _ => iprop(bundle (F := F) C d q (marks L d O1) (marks L d O2) ∗ scopedBufs (thr L d) ∗ scopedSems0 (thr L d)
            ∗ ∃ W', ⌜∀ p ∈ W', p ∈ W ∨ p.2 = none⌝ ∗ owes (thr L d) O W') := by
  rw [(K (F := F)).scopedBufs_V hF d ((L 0).castLE hcore1) ((L 1).castLE hsub1), SparseCore.Cfg.scopedSems0_V (Val := Elt F) d ((L 0).castLE hcore1) ((L 1).castLE hsub1)]
  obtain ⟨R, hR⟩ := ownSems0_V (F := F) d L
  obtain ⟨R', hR'⟩ := ownBufs_V (F := F) d L
  rw [hR, hR', bundle_eq C d L q ∅ ∅, bundle_eq C d L q (marks L d O1) (marks L d O2)]
  have hrun := fun ιw : ℕ => tile_run (F := F) L d (arg2 := mE) (harg2 := Memref.isWhole_whole _) (arg3 := mA) (harg3 := Memref.isWhole_whole _)
    (arg4 := m1) (harg4 := Memref.isWhole_whole _) (arg5 := m2) (harg5 := Memref.isWhole_whole _) (arg6 := mX) (harg6 := Memref.isWhole_whole _)
    (arg7 := mY) (harg7 := Memref.isWhole_whole _) (arg8 := O1) (harg8 := Memref.isWhole_whole _) (arg9 := O2) (harg9 := Memref.isWhole_whole _)
    (arg10 := sX) (harg10 := Memref.isWhole_whole _) (arg11 := sY) (harg11 := Memref.isWhole_whole _) (arg12 := sE) (harg12 := Memref.isWhole_whole _)
    (arg13 := sA) (harg13 := Memref.isWhole_whole _) (arg14 := s1) (harg14 := Memref.isWhole_whole _) (arg15 := s2) (harg15 := Memref.isWhole_whole _)
    (arg16 := sE') (harg16 := Memref.isWhole_whole _) (arg17 := sA') (harg17 := Memref.isWhole_whole _) (arg18 := s1') (harg18 := Memref.isWhole_whole _)
    (arg19 := s2') (harg19 := Memref.isWhole_whole _) (arg20 := cc1_scratch10) (arg21 := cc1_scratch11) (arg22 := cc1_scratch12) (arg23 := cc1_scratch13)
    (v356_r0 := cc1_scoped0) (v356_r1 := cc1_scoped1) (C d).wE (C d).wA (C d).w1 (C d).w2 (C d).X (C d).Y (C d).h1 (C d).g1 (C d).h2 (C d).g2
    (O := O) (W := W) hO (q := q) (N := sE.view.dmaCredit) (NB := (chunk L O1 0).view.dmaCredit) (NT := sX.view.dmaCredit) (ιw := ιw)
    (View.dmaCredit_pos _ (by decide)) (View.dmaCredit_pos _ (by decide)) (View.dmaCredit_pos _ (by decide))
    (by intro x hx; fin_cases hx <;> rfl) (by intro x hx; fin_cases hx <;> rfl) (fun _ => rfl) (fun _ => rfl) rfl rfl hin ⟨rfl, rfl⟩
  iintro ⟨#Hlv, ⟨%ιw, #Hw⟩, HB, ⟨⟨H0, H1, H2, H3, H4, H5, H6, H7, H8, H9⟩, HR'⟩, ⟨⟨Hs0, Hs1, Hs2, Hs3, Hs4, Hs5⟩, HR⟩, HO⟩
  iapply (wp_wand_r _ _ _)
  isplitr [HR HR']
  · iapply (hrun ιw)
    isplitr; · iexact Hlv
    isplitr; · iexact Hw
    isplitl [HB]; · iexact HB
    isplitr [HO]
    · unfold own scr4
      isplitl [H0 H1]
      · isplitl [H0]; · iexact H0
        iexact H1
      isplitl [H2 H3 H4 H5]
      · isplitl [H2]; · iexact H2
        isplitl [H3]; · iexact H3
        isplitl [H4]; · iexact H4
        iexact H5
      isplitl [H6 H7 H8 H9]
      · isplitl [H6]; · iexact H6
        isplitl [H7]; · iexact H7
        isplitl [H8]; · iexact H8
        iexact H9
      isplitl [Hs0]; · iexact Hs0
      isplitl [Hs1]; · iexact Hs1
      isplitl [Hs2]; · iexact Hs2
      isplitl [Hs3]; · iexact Hs3
      isplitl [Hs4]; · iexact Hs4
      iexact Hs5
    · unfold owesV
      iexists W; isplitr
      · ipureintro; exact fun p hp => .inl hp
      iexact HO
  iintro %_ ⟨HB, Hown, HO⟩
  isplitl [HB]
  · iexact HB
  unfold own scr4
  icases Hown with ⟨⟨H0, H1⟩, ⟨H2, H3, H4, H5⟩, ⟨H6, H7, H8, H9⟩, Hs⟩
  isplitr [Hs HR HO]
  · isplitr [HR']
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexact HR'
  isplitl [Hs HR]
  · isplitl [Hs]; · iexact Hs
    iexact HR
  unfold owesV
  iexact HO

end Tile

theorem defs₀_vector (c : Fin τ.nSC) (s : Fin τ.nSub) :
    defs₀ (F := F) (.scVector c s) 1 ()
      = SparseCore.onTile hcore1 hsub1 (fun c s => cc1__sc_body (coordsV c s) mE (Memref.isWhole_whole _) mA (Memref.isWhole_whole _) m1 (Memref.isWhole_whole _)
          m2 (Memref.isWhole_whole _) mX (Memref.isWhole_whole _) mY (Memref.isWhole_whole _) O1 (Memref.isWhole_whole _) O2 (Memref.isWhole_whole _)
          sX (Memref.isWhole_whole _) sY (Memref.isWhole_whole _) sE (Memref.isWhole_whole _) sA (Memref.isWhole_whole _) s1 (Memref.isWhole_whole _)
          s2 (Memref.isWhole_whole _) sE' (Memref.isWhole_whole _) sA' (Memref.isWhole_whole _) s1' (Memref.isWhole_whole _) s2' (Memref.isWhole_whole _)
          cc1_scratch10 cc1_scratch11 cc1_scratch12 cc1_scratch13 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's marks, by its numbers. -/
theorem tileMarks_eq (d : Dev nD) (c : Fin (grid1.bound 0)) (s : Fin (grid1.bound 1)) : tileMarks c.val s.val = marks (coordsV c s) d O1 := by
  unfold tileMarks; rw [dif_pos ⟨c.isLt, s.isLt⟩]; rfl

theorem tileMarks_eq' (d : Dev nD) (c : Fin (grid1.bound 0)) (s : Fin (grid1.bound 1)) : tileMarks c.val s.val = marks (coordsV c s) d O2 := by
  unfold tileMarks; rw [dif_pos ⟨c.isLt, s.isLt⟩]; rfl

/-- Each tile keeps its part of the call. -/
theorem tileObl (hin : ∀ d, (C d).InTab) : (K (F := F)).TileObl (D (F := F)) 𝒱 (P (F := F) C) v₀ 0 := by
  intro d c i O W hO _ _
  simp only [show (P (F := F) C).ox = fun _ _ => 0 from rfl, add_zero]
  change _ ⊢ wp _ _ _ (Pipeline.liftProg (defs₀ (F := F) (.scVector ((K (F := F)).core 0 c) ((K (F := F)).sub 0 i)) 1 ())) _
  refine BIBase.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have hm := tileMarks_eq d ⟨((K (F := F)).core 0 c).val, hc.1⟩ ⟨((K (F := F)).sub 0 i).val, hc.2⟩
  have hm' := tileMarks_eq' d ⟨((K (F := F)).core 0 c).val, hc.1⟩ ⟨((K (F := F)).sub 0 i).val, hc.2⟩
  have hb := tile_body (F := F) C d (coordsV ⟨_, hc.1⟩ ⟨_, hc.2⟩) facts (hin d) O W hO (qT c.val i.val)
  generalize cc1__sc_body (F := F) (coordsV ⟨((K (F := F)).core 0 c).val, hc.1⟩ ⟨((K (F := F)).sub 0 i).val, hc.2⟩) mE (Memref.isWhole_whole _) mA (Memref.isWhole_whole _) m1 (Memref.isWhole_whole _)
          m2 (Memref.isWhole_whole _) mX (Memref.isWhole_whole _) mY (Memref.isWhole_whole _) O1 (Memref.isWhole_whole _) O2 (Memref.isWhole_whole _)
          sX (Memref.isWhole_whole _) sY (Memref.isWhole_whole _) sE (Memref.isWhole_whole _) sA (Memref.isWhole_whole _) s1 (Memref.isWhole_whole _)
          s2 (Memref.isWhole_whole _) sE' (Memref.isWhole_whole _) sA' (Memref.isWhole_whole _) s1' (Memref.isWhole_whole _) s2' (Memref.isWhole_whole _)
          cc1_scratch10 cc1_scratch11 cc1_scratch12 cc1_scratch13 cc1_scoped0 cc1_scoped1 = prog at hb ⊢
  rw [← hm, ← hm'] at hb
  refine BIBase.Entails.trans hb (wp_mono frame _ _ fun _ => ?_)
  exact BIBase.Entails.trans (obl_post (q := 0)) BIBase.Entails.rfl

end Cert.Proof.Sc
-- ==== Proof.Host.lean ====
/-
  The host program around the two calls: its operations as three lines, and what every buffer holds after each stage.
-/
module

public import proofs.«01_k».proof.Proof.TcSeg
public import proofs.«01_k».proof.Proof.Call

@[expose] public section

noncomputable section

namespace Cert.Proof.Sc

open Cert.KernelIdeal Cert.KernelIdeal.Gen
open Idealize.ShloMosaic Idealize.ShloMosaic.TcCoe Idealize.ShloMosaic.Tactic
open Idealize.ShloMosaic.SparseCore.Cfg (HIx Pay)
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
variable {F : FTy → Type}
variable [FloatOps F]

local notation "𝕄" => MT nD τ sig (HIx 1) (Elt F) ℕ (UU F) ℕ

/-! ## The lines -/

/-- The host operations before the TensorCore call, -/
def ops1 : List (HloOp τ sig (Elt F)) :=
  [StableHlo.unary main_arg3 main_v0 ((extractStridedSlice S4096x128x1 ![0, 0, 0] · slices_S4096x128x4_S4096x128x1_0_0_0) : (⟨S4096x128x4, .i32⟩ : BufTy).Contents (Elt F) → (⟨S4096x128x1, .i32⟩ : BufTy).Contents (Elt F)),
   StableHlo.reshape main_v0 main_v1 (rfl : (.i32 : EltTy) = .i32) shapeCasts_S4096x128x1_S4096x128,
   StableHlo.unary main_arg3 main_v2 ((extractStridedSlice S4096x128x1 ![0, 0, 1] · slices_S4096x128x4_S4096x128x1_0_0_1) : (⟨S4096x128x4, .i32⟩ : BufTy).Contents (Elt F) → (⟨S4096x128x1, .i32⟩ : BufTy).Contents (Elt F)),
   StableHlo.reshape main_v2 main_v3 (rfl : (.i32 : EltTy) = .i32) shapeCasts_S4096x128x1_S4096x128,
   StableHlo.unary main_arg3 main_v4 ((extractStridedSlice S4096x128x1 ![0, 0, 2] · slices_S4096x128x4_S4096x128x1_0_0_2) : (⟨S4096x128x4, .i32⟩ : BufTy).Contents (Elt F) → (⟨S4096x128x1, .i32⟩ : BufTy).Contents (Elt F)),
   StableHlo.reshape main_v4 main_v5 (rfl : (.i32 : EltTy) = .i32) shapeCasts_S4096x128x1_S4096x128,
   StableHlo.unary main_arg3 main_v6 ((extractStridedSlice S4096x128x1 ![0, 0, 3] · slices_S4096x128x4_S4096x128x1_0_0_3) : (⟨S4096x128x4, .i32⟩ : BufTy).Contents (Elt F) → (⟨S4096x128x1, .i32⟩ : BufTy).Contents (Elt F)),
   StableHlo.reshape main_v6 main_v7 (rfl : (.i32 : EltTy) = .i32) shapeCasts_S4096x128x1_S4096x128,
   StableHlo.unary main_arg0 main_v8 ((extractStridedSlice S4096x128x1 ![0, 0, 0] · slices_S4096x128x2_S4096x128x1_0_0_0) : (⟨S4096x128x2, .f32⟩ : BufTy).Contents (Elt F) → (⟨S4096x128x1, .f32⟩ : BufTy).Contents (Elt F)),
   StableHlo.reshape main_v8 main_v9 (rfl : (.f32 : EltTy) = .f32) shapeCasts_S4096x128x1_S4096x128,
   StableHlo.unary main_arg0 main_v10 ((extractStridedSlice S4096x128x1 ![0, 0, 1] · slices_S4096x128x2_S4096x128x1_0_0_1) : (⟨S4096x128x2, .f32⟩ : BufTy).Contents (Elt F) → (⟨S4096x128x1, .f32⟩ : BufTy).Contents (Elt F)),
   StableHlo.reshape main_v10 main_v11 (rfl : (.f32 : EltTy) = .f32) shapeCasts_S4096x128x1_S4096x128]

/-- between it and the SparseCore call, -/
def ops2 : List (HloOp τ sig (Elt F)) :=
  [StableHlo.unary main_v12_0 main_v13 (broadcastInDim S4096x128x1 ![0, 1] bcast_S4096x128_S4096x128x1_0_1 : (⟨S4096x128, .f32⟩ : BufTy).Contents (Elt F) → (⟨S4096x128x1, .f32⟩ : BufTy).Contents (Elt F)),
   StableHlo.unary main_v12_1 main_v14 (broadcastInDim S4096x128x1 ![0, 1] bcast_S4096x128_S4096x128x1_0_1 : (⟨S4096x128, .f32⟩ : BufTy).Contents (Elt F) → (⟨S4096x128x1, .f32⟩ : BufTy).Contents (Elt F)),
   StableHlo.binary main_v13 main_v14 main_v15 ((fun a b => concatenate S4096x128x2 2 [⟨S4096x128x1, a⟩, ⟨S4096x128x1, b⟩] concatenates_S4096x128x1_S4096x128x1_S4096x128x2_d2) : (⟨S4096x128x1, .f32⟩ : BufTy).Contents (Elt F) → (⟨S4096x128x1, .f32⟩ : BufTy).Contents (Elt F) → (⟨S4096x128x2, .f32⟩ : BufTy).Contents (Elt F)),
   StableHlo.unary main_arg1 main_v16 ((extractStridedSlice S2000000x1 ![0, 0] · slices_S2000000x8_S2000000x1_0_0) : (⟨S2000000x8, .i32⟩ : BufTy).Contents (Elt F) → (⟨S2000000x1, .i32⟩ : BufTy).Contents (Elt F)),
   StableHlo.reshape main_v16 main_v17 (rfl : (.i32 : EltTy) = .i32) shapeCasts_S2000000x1_S2000000,
   StableHlo.unary main_arg1 main_v18 ((extractStridedSlice S2000000x1 ![0, 7] · slices_S2000000x8_S2000000x1_0_7) : (⟨S2000000x8, .i32⟩ : BufTy).Contents (Elt F) → (⟨S2000000x1, .i32⟩ : BufTy).Contents (Elt F)),
   StableHlo.reshape main_v18 main_v19 (rfl : (.i32 : EltTy) = .i32) shapeCasts_S2000000x1_S2000000,
   StableHlo.unary main_arg1 main_v20 ((extractStridedSlice S2000000x1 ![0, 1] · slices_S2000000x8_S2000000x1_0_1) : (⟨S2000000x8, .i32⟩ : BufTy).Contents (Elt F) → (⟨S2000000x1, .i32⟩ : BufTy).Contents (Elt F)),
   StableHlo.reshape main_v20 main_v21 (rfl : (.i32 : EltTy) = .i32) shapeCasts_S2000000x1_S2000000,
   StableHlo.unary main_arg1 main_v22 ((extractStridedSlice S2000000x1 ![0, 2] · slices_S2000000x8_S2000000x1_0_2) : (⟨S2000000x8, .i32⟩ : BufTy).Contents (Elt F) → (⟨S2000000x1, .i32⟩ : BufTy).Contents (Elt F)),
   StableHlo.reshape main_v22 main_v23 (rfl : (.i32 : EltTy) = .i32) shapeCasts_S2000000x1_S2000000]

/-- and after that. -/
def ops3 : List (HloOp τ sig (Elt F)) :=
  [StableHlo.unary main_arg1 main_v25 ((extractStridedSlice S2000000x1 ![0, 0] · slices_S2000000x8_S2000000x1_0_0) : (⟨S2000000x8, .i32⟩ : BufTy).Contents (Elt F) → (⟨S2000000x1, .i32⟩ : BufTy).Contents (Elt F)),
   StableHlo.reshape main_v25 main_v26 (rfl : (.i32 : EltTy) = .i32) shapeCasts_S2000000x1_S2000000,
   StableHlo.unary main_arg1 main_v27 ((extractStridedSlice S2000000x1 ![0, 3] · slices_S2000000x8_S2000000x1_0_3) : (⟨S2000000x8, .i32⟩ : BufTy).Contents (Elt F) → (⟨S2000000x1, .i32⟩ : BufTy).Contents (Elt F)),
   StableHlo.reshape main_v27 main_v28 (rfl : (.i32 : EltTy) = .i32) shapeCasts_S2000000x1_S2000000,
   StableHlo.unary main_arg1 main_v29 ((extractStridedSlice S2000000x1 ![0, 4] · slices_S2000000x8_S2000000x1_0_4) : (⟨S2000000x8, .i32⟩ : BufTy).Contents (Elt F) → (⟨S2000000x1, .i32⟩ : BufTy).Contents (Elt F)),
   StableHlo.reshape main_v29 main_v30 (rfl : (.i32 : EltTy) = .i32) shapeCasts_S2000000x1_S2000000,
   StableHlo.unary main_arg1 main_v31 ((extractStridedSlice S2000000x1 ![0, 5] · slices_S2000000x8_S2000000x1_0_5) : (⟨S2000000x8, .i32⟩ : BufTy).Contents (Elt F) → (⟨S2000000x1, .i32⟩ : BufTy).Contents (Elt F)),
   StableHlo.reshape main_v31 main_v32 (rfl : (.i32 : EltTy) = .i32) shapeCasts_S2000000x1_S2000000,
   StableHlo.unary main_arg1 main_v33 ((extractStridedSlice S2000000x1 ![0, 6] · slices_S2000000x8_S2000000x1_0_6) : (⟨S2000000x8, .i32⟩ : BufTy).Contents (Elt F) → (⟨S2000000x1, .i32⟩ : BufTy).Contents (Elt F)),
   StableHlo.reshape main_v33 main_v34 (rfl : (.i32 : EltTy) = .i32) shapeCasts_S2000000x1_S2000000,
   StableHlo.unary main_arg1 main_v35 ((extractStridedSlice S2000000x1 ![0, 7] · slices_S2000000x8_S2000000x1_0_7) : (⟨S2000000x8, .i32⟩ : BufTy).Contents (Elt F) → (⟨S2000000x1, .i32⟩ : BufTy).Contents (Elt F)),
   StableHlo.reshape main_v35 main_v36 (rfl : (.i32 : EltTy) = .i32) shapeCasts_S2000000x1_S2000000,
   StableHlo.unary main_v26 main_v37 (broadcastInDim S2000000x1 ![0] bcast_S2000000_S2000000x1_0 : (⟨S2000000, .i32⟩ : BufTy).Contents (Elt F) → (⟨S2000000x1, .i32⟩ : BufTy).Contents (Elt F)),
   StableHlo.unary main_v24_0 main_v38 (broadcastInDim S2000000x1 ![0] bcast_S2000000_S2000000x1_0 : (⟨S2000000, .i32⟩ : BufTy).Contents (Elt F) → (⟨S2000000x1, .i32⟩ : BufTy).Contents (Elt F)),
   StableHlo.unary main_v24_1 main_v39 (broadcastInDim S2000000x1 ![0] bcast_S2000000_S2000000x1_0 : (⟨S2000000, .i32⟩ : BufTy).Contents (Elt F) → (⟨S2000000x1, .i32⟩ : BufTy).Contents (Elt F)),
   StableHlo.unary main_v28 main_v40 (broadcastInDim S2000000x1 ![0] bcast_S2000000_S2000000x1_0 : (⟨S2000000, .i32⟩ : BufTy).Contents (Elt F) → (⟨S2000000x1, .i32⟩ : BufTy).Contents (Elt F)),
   StableHlo.unary main_v30 main_v41 (broadcastInDim S2000000x1 ![0] bcast_S2000000_S2000000x1_0 : (⟨S2000000, .i32⟩ : BufTy).Contents (Elt F) → (⟨S2000000x1, .i32⟩ : BufTy).Contents (Elt F)),
   StableHlo.unary main_v32 main_v42 (broadcastInDim S2000000x1 ![0] bcast_S2000000_S2000000x1_0 : (⟨S2000000, .i32⟩ : BufTy).Contents (Elt F) → (⟨S2000000x1, .i32⟩ : BufTy).Contents (Elt F)),
   StableHlo.unary main_v34 main_v43 (broadcastInDim S2000000x1 ![0] bcast_S2000000_S2000000x1_0 : (⟨S2000000, .i32⟩ : BufTy).Contents (Elt F) → (⟨S2000000x1, .i32⟩ : BufTy).Contents (Elt F)),
   StableHlo.unary main_v36 main_v44 (broadcastInDim S2000000x1 ![0] bcast_S2000000_S2000000x1_0 : (⟨S2000000, .i32⟩ : BufTy).Contents (Elt F) → (⟨S2000000x1, .i32⟩ : BufTy).Contents (Elt F)),
   StableHlo.nary ![main_v37, main_v38, main_v39, main_v40, main_v41, main_v42, main_v43, main_v44] main_v45 (fun u => (concatenate S2000000x8 1 [⟨S2000000x1, (u 0 : (⟨S2000000x1, .i32⟩ : BufTy).Contents (Elt F))⟩, ⟨S2000000x1, (u 1 : (⟨S2000000x1, .i32⟩ : BufTy).Contents (Elt F))⟩, ⟨S2000000x1, (u 2 : (⟨S2000000x1, .i32⟩ : BufTy).Contents (Elt F))⟩, ⟨S2000000x1, (u 3 : (⟨S2000000x1, .i32⟩ : BufTy).Contents (Elt F))⟩, ⟨S2000000x1, (u 4 : (⟨S2000000x1, .i32⟩ : BufTy).Contents (Elt F))⟩, ⟨S2000000x1, (u 5 : (⟨S2000000x1, .i32⟩ : BufTy).Contents (Elt F))⟩, ⟨S2000000x1, (u 6 : (⟨S2000000x1, .i32⟩ : BufTy).Contents (Elt F))⟩, ⟨S2000000x1, (u 7 : (⟨S2000000x1, .i32⟩ : BufTy).Contents (Elt F))⟩] concatenates_S2000000x1_S2000000x1_S2000000x1_S2000000x1_S2000000x1_S2000000x1_S2000000x1_S2000000x1_S2000000x8_d1 : (⟨S2000000x8, .i32⟩ : BufTy).Contents (Elt F)))]

theorem main_eq (d : Dev nD) : main (F := F) d = StableHlo.seq ops1 >>= fun _ => Prog.lift (.customCall (SparseCore.inner (Pipeline.entry 0)) ()) >>= fun _ =>
    StableHlo.seq ops2 >>= fun _ => (sc (F := F)).run d 0 >>= fun _ => StableHlo.seq ops3 := by
  unfold main ops1 ops2 ops3
  simp only [StableHlo.seq, bind_assoc, pure_bind]

/-! ## The stages -/

abbrev Mem (F : FTy → Type) : Type := (ℓ : Loc nD τ sig) → Buf (Elt F) ℓ

/-- What the buffers of one device hold, read at the TensorCore's references. -/
abbrev Val1 (F : FTy → Type) : Type := Valuation τ sig (Elt F)

/-- At the launch; -/
def W0 (m : Mem F) (c : Dev nD) : Val1 F := fun b => m (c, b)
/-- before the TensorCore call; -/
def W1 (m : Mem F) (c : Dev nD) : Val1 F := StableHlo.after ops1 (W0 m c)
def V1 (m : Mem F) : Vals F := fun c b => W1 m c b
/-- the call's results, put in their arrays; -/
def ops12 (V : Vals F) (c : Dev nD) : List (HloOp τ sig (Elt F)) :=
  [StableHlo.nullary main_v12_0 (newX V c), StableHlo.nullary main_v12_1 (newY V c), StableHlo.nullary main_v12_2 (lens V c),
   StableHlo.nullary main_v12_3 (tabX V c), StableHlo.nullary main_v12_4 (tabY V c)]
def W2 (m : Mem F) (c : Dev nD) : Val1 F := StableHlo.after (ops12 (V1 m) c) (W1 m c)
def V2 (m : Mem F) : Vals F := fun c b => W2 m c b
/-- before the SparseCore call; -/
def W3 (m : Mem F) (c : Dev nD) : Val1 F := StableHlo.after ops2 (W2 m c)
/-- the arrays of that call; -/
def callData (m : Mem F) (c : Dev nD) : Data where
  wE := W3 m c main_v17
  wA := W3 m c main_v19
  w1 := W3 m c main_v21
  w2 := W3 m c main_v23
  X := W3 m c main_v12_3
  Y := W3 m c main_v12_4
  h1 := W3 m c main_v24_0
  h2 := W3 m c main_v24_1
/-- its results, put in theirs; -/
def ops24 (C : Data) : List (HloOp τ sig (Elt F)) := [StableHlo.nullary main_v24_0 C.g1, StableHlo.nullary main_v24_1 C.g2]
def W4 (m : Mem F) (c : Dev nD) : Val1 F := StableHlo.after (ops24 (callData m c)) (W3 m c)
/-- and the end. -/
def W5 (m : Mem F) (c : Dev nD) : Val1 F := StableHlo.after ops3 (W4 m c)

end Cert.Proof.Sc

end
-- ==== Proof.Launch.lean ====
/-
  The launch: what ghost state the program starts from, and how it reaches the threads.
-/
module

public import proofs.«01_k».proof.Proof.Host

@[expose] public section

noncomputable section

namespace Cert.Proof.Sc

open Cert.KernelIdeal Cert.KernelIdeal.Gen
open Idealize.ShloMosaic Idealize.ShloMosaic.TcCoe Idealize.ShloMosaic.Tactic
open Idealize.ShloMosaic.SparseCore.Cfg (HIx Pay)
open Idealize.ShloMosaic.Pipeline (Dat Cfg Window BodyObligation)
open Idealize.ShloMosaic.Rounds
open Idealize.SL Idealize.SL.RA Idealize.SL.BI
open scoped Idealize.SL.BI
open Idealize.SL.BI.BIBase Idealize.SL.BI.Laws Idealize.SL.ProofMode Idealize.SL.Sem
variable {F : FTy → Type}
variable [FloatOps F]

local notation "𝕄" => MT nD τ sig (HIx 1) (Elt F) ℕ (UU F) ℕ

/-- The pipeline's rounds at the launch. -/
abbrev pipe₀ : UR sig nD τ := initOf (Pipeline.cells (nD := nD) (τ := τ) (Pipeline.pin (pcfgs (F := F)) adm) cellOf_inj)
  (Pipeline.launchToks (nD := nD) (τ := τ) (Pipeline.pin (pcfgs (F := F)) adm) cellOf_inj)

def u₀ : UU F := (pipe₀ (F := F), (initOf (K (F := F)).hsCells (K (F := F)).hsToks, (wm₀ nD τ sig (Elt F), 1)))

theorem ownU_split (a : UR sig nD τ) (b : UH) (w : WmRA nD τ sig (Elt F)) (k : Counters) :
    (ownU ((a, (b, (w, k))) : UU F) : sProp 𝕄) ⊢ iprop(BI.own (EP (F := F) a) ∗ BI.own (EH (F := F) b) ∗ ownU (EW (F := F) w)) := by
  have h1 : (ownU ((a, (b, (w, k))) : UU F) : sProp 𝕄) ⊢ iprop(BI.own (EP (F := F) a) ∗ ownU ((1, (b, (w, k))) : UU F)) :=
    BI.own_op_elim ((uEmb (nD := nD) (sig := sig) (Ix := HIx 1) (Val := Elt F) (Name := ℕ) (U := UU F) (Lvl := ℕ)).toEmb.op_of_mem
      (Prod.mk_mem_op (URA.mem_op_one a) (URA.mem_one_op _)))
  have h2 : (ownU ((1, (b, (w, k))) : UU F) : sProp 𝕄) ⊢ iprop(BI.own (EH (F := F) b) ∗ ownU ((1, (1, (w, k))) : UU F)) :=
    BI.own_op_elim ((uEmb (nD := nD) (sig := sig) (Ix := HIx 1) (Val := Elt F) (Name := ℕ) (U := UU F) (Lvl := ℕ)).toEmb.op_of_mem
      (Prod.mk_mem_op (URA.mem_op_one 1) (Prod.mk_mem_op (URA.mem_op_one b) (URA.mem_one_op _))))
  have h3 : (ownU ((1, (1, (w, k))) : UU F) : sProp 𝕄) ⊢ iprop(ownU (EW (F := F) w) ∗ ownU ((1, (1, (1, k))) : UU F)) :=
    BI.own_op_elim ((uEmb (nD := nD) (sig := sig) (Ix := HIx 1) (Val := Elt F) (Name := ℕ) (U := UU F) (Lvl := ℕ)).toEmb.op_of_mem
      (Prod.mk_mem_op (URA.mem_op_one 1) (Prod.mk_mem_op (URA.mem_op_one 1) (Prod.mk_mem_op (URA.mem_op_one w) (URA.mem_one_op k)))))
  exact h1.trans (sep_mono_right (h2.trans (sep_mono_right (h3.trans sep_elim_left))))

/-- Write mode's invariant, at some name. -/
abbrev wm : sProp (MT nD τ sig (HIx 1) (Elt F) ℕ (UU F) ℕ) := iprop(∃ ιw, wmInv (Ix := HIx 1) (Lvl := ℕ) (EW (F := F)) ιw)

/-- What the TensorCore starts with besides: write mode, and its pipeline's ghost state. -/
def G (d : Dev nD) : sProp (MT nD τ sig (HIx 1) (Elt F) ℕ (UU F) ℕ) :=
  iprop(wm (F := F) ∗ Pipeline.cellsGhost (Pipeline.pin (pcfgs (F := F)) adm) EP 0 d ∗ Pipeline.toksInit (Pipeline.pin (pcfgs (F := F)) adm) EP 0 d)

/-- What persists is everywhere. -/
theorem everywhere {I : Type} (A : sProp 𝕄) [BI.Persistent A] (s : Finset I) : A ⊢ bigSep s fun _ => A := by
  classical
  induction s using Finset.induction_on with
  | empty => rw [bigSep_empty]; exact Laws.affine
  | insert a s ha ih =>
    rw [SparseCore.bigSep_insert' ha]
    iintro #H
    isplitr; · iexact H
    iapply ih; iexact H

theorem G_intro : iprop(wm (F := F) ∗ (bigSep Finset.univ fun c : Dev nD => bigSep Finset.univ fun p => Pipeline.cellsGhost (Pipeline.pin (pcfgs (F := F)) adm) EP p c)
      ∗ (bigSep Finset.univ fun c : Dev nD => bigSep Finset.univ fun p => Pipeline.toksInit (Pipeline.pin (pcfgs (F := F)) adm) EP p c))
    ⊢ bigSep Finset.univ (G (F := F)) := by
  rw [show (G (F := F)) = fun d => iprop(wm (F := F) ∗ Pipeline.cellsGhost (Pipeline.pin (pcfgs (F := F)) adm) EP 0 d
    ∗ Pipeline.toksInit (Pipeline.pin (pcfgs (F := F)) adm) EP 0 d) from rfl, bigSep_sep', bigSep_sep']
  exact Laws.sep_mono (everywhere _ _) (Laws.sep_mono (Entails.of_eq (bigSep_congr fun c _ => bigSep_univ_of_subsingleton (0 : Fin 1)))
    (Entails.of_eq (bigSep_congr fun c _ => bigSep_univ_of_subsingleton (0 : Fin 1))))

theorem hu₀ (C : Dev nD → Data) (m : MemSt nD τ sig (Elt F)) : (ownU (u₀ (F := F)) : sProp 𝕄)
    ⊢ |={Set.univ}=> iprop(BI.own (EH (F := F) (initOf (K (F := F)).hsCells (K (F := F)).hsToks)) ∗ (bigSep Finset.univ (G (F := F)))
        ∗ bigSep Finset.univ fun thr : Thread nD τ => bigSep Finset.univ fun q : Fin 1 => (P (F := F) C).x q thr) := by
  unfold u₀
  iintro Hu
  ihave H := (ownU_split _ _ _ _) $$ Hu
  icases H with ⟨HP, HH, HW⟩
  imod (wmInv_alloc (Ix := HIx 1) (Lvl := ℕ) (Name := ℕ) (emb := EW (F := F)) m) $$ HW with ⟨%ιw, -, #Hwm⟩
  imod (Pipeline.fund_ghost (Pipeline.pin (pcfgs (F := F)) adm) EP cellOf_inj) $$ HP with ⟨Hc, Ht⟩
  imodintro
  isplitl [HH]; · iexact HH
  isplitl [Hc Ht]
  · iapply G_intro
    isplitr
    · iexists ιw; iexact Hwm
    isplitl [Hc]; · iexact Hc
    iexact Ht
  have hall : wm (F := F) ⊢ bigSep Finset.univ fun thr : Thread nD τ => bigSep Finset.univ fun q : Fin 1 => (P (F := F) C).x q thr :=
    (everywhere (wm (F := F)) Finset.univ).trans (bigSep_mono fun thr _ => everywhere (wm (F := F)) Finset.univ)
  iapply hall
  iexists ιw; iexact Hwm

end Cert.Proof.Sc

end
-- ==== Proof.Cover.lean ====
/-
  The tiles' chunks cover the outputs: every one of the 2000000 elements lies under some chunk of some tile.
-/
module

public import proofs.«01_k».proof.Proof.Call

@[expose] public section

noncomputable section

namespace Cert.Proof.Sc

open Cert.KernelIdeal Cert.KernelIdeal.Gen
open Idealize.ShloMosaic

/-- Where chunk `r` of the tile begins: at the tile's 62500 elements, rounded down to eight, or as far on as fits. -/
theorem off_eq : ∀ (c : Fin (grid1.bound 0)) (s : Fin (grid1.bound 1)) (r : Fin 9),
    k1_off1 (coordsV c s) (BitVec.ofNat 32 (7680 * r.val)) 0
      = min (8 * ((2 * s.val + c.val) * 62500 / 8)) 1937488 + min (7680 * r.val) 54832 := by decide +kernel

theorem mem_chunk (c : Fin (grid1.bound 0)) (s : Fin (grid1.bound 1)) (r : Fin 9) (n : S2000000.Idx)
    (h : min (8 * ((2 * s.val + c.val) * 62500 / 8)) 1937488 + min (7680 * r.val) 54832 ≤ (n 0).val)
    (h' : (n 0).val < min (8 * ((2 * s.val + c.val) * 62500 / 8)) 1937488 + min (7680 * r.val) 54832 + 7680) :
    n ∈ (chunk (coordsV c s) O1 r).view.set := by
  refine (Finset.ext_iff.mp (View.set_slice O1.view (Rect.unit (s := S2000000) (k1_off1 (coordsV c s) (BitVec.ofNat 32 (7680 * r.val))) S7680.size
    (k1_off1_inb (coordsV c s) r))) n).mpr ?_
  refine Finset.mem_map.mpr ⟨n, ?_, rfl⟩
  refine Rect.mem_set_unit.mpr fun a => ?_
  obtain rfl : a = 0 := Subsingleton.elim _ _
  rw [off_eq]
  exact ⟨h, h'⟩

theorem cover : (Finset.range 2).biUnion coreMarks = (Finset.univ : Finset S2000000.Idx) := by
  refine Finset.eq_univ_iff_forall.mpr fun n => ?_
  have hn : (n 0).val < 2000000 := (n 0).isLt
  have hc : (n 0).val / 62500 % 2 < grid1.bound 0 := Nat.mod_lt _ (by decide)
  have hs : (n 0).val / 62500 / 2 < grid1.bound 1 := by show _ < 16; omega
  refine Finset.mem_biUnion.mpr ⟨(n 0).val / 62500 % 2, Finset.mem_range.mpr hc, ?_⟩
  unfold coreMarks
  refine Finset.mem_biUnion.mpr ⟨(n 0).val / 62500 / 2, Finset.mem_range.mpr hs, ?_⟩
  unfold tileMarks
  rw [dif_pos ⟨hc, hs⟩]
  by_cases hx : (n 0).val - min (8 * ((n 0).val / 62500 * 62500 / 8)) 1937488 < 61440
  · refine Finset.mem_biUnion.mpr ⟨⟨((n 0).val - min (8 * ((n 0).val / 62500 * 62500 / 8)) 1937488) / 7680, by omega⟩, Finset.mem_univ _, ?_⟩
    apply mem_chunk <;> simp only [show 2 * ((n 0).val / 62500 / 2) + (n 0).val / 62500 % 2 = (n 0).val / 62500 by omega] <;> omega
  · refine Finset.mem_biUnion.mpr ⟨8, Finset.mem_univ _, ?_⟩
    apply mem_chunk <;> simp only [show 2 * ((n 0).val / 62500 / 2) + (n 0).val / 62500 % 2 = (n 0).val / 62500 by omega, Fin.reduceFinMk, Fin.isValue, show ((8 : Fin 9) : ℕ) = 8 from rfl] <;> omega

end Cert.Proof.Sc

end
-- ==== Proof.Main.lean ====
/-
  The run of @main on a device's TensorCore, and the whole program's.
-/
module

public import proofs.«01_k».proof.Proof.Launch
public import proofs.«01_k».proof.Proof.Cover

@[expose] public section

noncomputable section

namespace Cert.Proof.Sc

open Cert.KernelIdeal Cert.KernelIdeal.Gen
open Idealize.ShloMosaic Idealize.ShloMosaic.TcCoe Idealize.ShloMosaic.Tactic
open Idealize.ShloMosaic.SparseCore.Cfg (HIx Pay)
open Idealize.ShloMosaic.Pipeline (Dat Cfg Window BodyObligation)
open Idealize.ShloMosaic.Rounds
open Idealize.SL Idealize.SL.RA Idealize.SL.BI
open scoped Idealize.SL.BI
open Idealize.SL.BI.BIBase Idealize.SL.BI.Laws Idealize.SL.ProofMode Idealize.SL.Sem
variable {F : FTy → Type}
variable [FloatOps F]

local notation "𝕄" => MT nD τ sig (HIx 1) (Elt F) ℕ (UU F) ℕ

/-! ## The buffers of @main -/

/-- Every unscoped buffer of the core. -/
def ucRefs : Finset (DevRef τ sig) := (StableHlo.tcRefs τ sig).filter fun b => ¬ b.isScoped

theorem unscopedBufs_held (c : Dev nD) (W : Val1 F) :
    (unscopedBufs c (fun b => W b) : sProp 𝕄) = StableHlo.held (SparseCore.T c) ucRefs W := by
  unfold unscopedBufs StableHlo.held ucRefs StableHlo.tcRefs; rw [Finset.filter_map, bigSep_map]; rfl

theorem sub_ucRefs {op : HloOp τ sig (Elt F)} (h : op.bufs ⊆ StableHlo.tcRefs τ sig) : op.bufs ⊆ ucRefs := fun b hb =>
  Finset.mem_filter.mpr ⟨h hb, by simp [op.no_scoped b hb]⟩

theorem ops1_sub : ∀ op ∈ (ops1 : List (HloOp τ sig (Elt F))), op.bufs ⊆ ucRefs := by
  unfold ops1
  simp only [List.forall_mem_cons, List.not_mem_nil, IsEmpty.forall_iff, implies_true, and_true]
  refine ⟨?_, ?_, ?_, ?_, ?_, ?_, ?_, ?_, ?_, ?_, ?_, ?_⟩ <;> exact sub_ucRefs (by simp)
theorem ops2_sub : ∀ op ∈ (ops2 : List (HloOp τ sig (Elt F))), op.bufs ⊆ ucRefs := by
  unfold ops2
  simp only [List.forall_mem_cons, List.not_mem_nil, IsEmpty.forall_iff, implies_true, and_true]
  refine ⟨?_, ?_, ?_, ?_, ?_, ?_, ?_, ?_, ?_, ?_, ?_⟩ <;> exact sub_ucRefs (by simp)
theorem ops3_sub : ∀ op ∈ (ops3 : List (HloOp τ sig (Elt F))), op.bufs ⊆ ucRefs := by
  unfold ops3
  simp only [List.forall_mem_cons, List.not_mem_nil, IsEmpty.forall_iff, implies_true, and_true]
  refine ⟨?_, ?_, ?_, ?_, ?_, ?_, ?_, ?_, ?_, ?_, ?_, ?_, ?_, ?_, ?_, ?_, ?_, ?_, ?_, ?_, ?_⟩ <;> exact sub_ucRefs (by simp)

theorem ops1_fresh : ∀ op ∈ (ops1 : List (HloOp τ sig (Elt F))), op.fresh = ∅ := by
  unfold ops1
  simp only [List.forall_mem_cons, List.not_mem_nil, IsEmpty.forall_iff, implies_true, and_true]
  refine ⟨?_, ?_, ?_, ?_, ?_, ?_, ?_, ?_, ?_, ?_, ?_, ?_⟩ <;> rfl
theorem ops2_fresh : ∀ op ∈ (ops2 : List (HloOp τ sig (Elt F))), op.fresh = ∅ := by
  unfold ops2
  simp only [List.forall_mem_cons, List.not_mem_nil, IsEmpty.forall_iff, implies_true, and_true]
  refine ⟨?_, ?_, ?_, ?_, ?_, ?_, ?_, ?_, ?_, ?_, ?_⟩ <;> rfl
theorem ops3_fresh : ∀ op ∈ (ops3 : List (HloOp τ sig (Elt F))), op.fresh = ∅ := by
  unfold ops3
  simp only [List.forall_mem_cons, List.not_mem_nil, IsEmpty.forall_iff, implies_true, and_true]
  refine ⟨?_, ?_, ?_, ?_, ?_, ?_, ?_, ?_, ?_, ?_, ?_, ?_, ?_, ?_, ?_, ?_, ?_, ?_, ?_, ?_, ?_⟩ <;> rfl

/-! ## The TensorCore call -/

theorem V2_0 (m : Mem F) (c : Dev nD) : V2 m c main_v12_0 = newX (V1 m) c := by unfold V2 W2 ops12; after_results_simp
theorem V2_1 (m : Mem F) (c : Dev nD) : V2 m c main_v12_1 = newY (V1 m) c := by unfold V2 W2 ops12; after_results_simp
theorem V2_2 (m : Mem F) (c : Dev nD) : V2 m c main_v12_2 = lens (V1 m) c := by unfold V2 W2 ops12; after_results_simp
theorem V2_3 (m : Mem F) (c : Dev nD) : V2 m c main_v12_3 = tabX (V1 m) c := by unfold V2 W2 ops12; after_results_simp
theorem V2_4 (m : Mem F) (c : Dev nD) : V2 m c main_v12_4 = tabY (V1 m) c := by unfold V2 W2 ops12; after_results_simp

theorem W2_ne (m : Mem F) (c : Dev nD) (b : Ref sig .tc) (h : b ∉ tcOuts) : V2 m c b = V1 m c b := by
  simp only [tcOuts, Finset.mem_insert, Finset.mem_singleton, not_or] at h
  obtain ⟨h0, h1, h2, h3, h4⟩ := h
  unfold V2 V1 W2 ops12
  simp only [StableHlo.after_cons, StableHlo.after_nil]
  exact (StableHlo.nullary_result_ne (τ := τ) _ _ (by decide) _ h4).trans ((StableHlo.nullary_result_ne (τ := τ) _ _ (by decide) _ h3).trans ((StableHlo.nullary_result_ne (τ := τ) _ _ (by decide) _ h2).trans
    ((StableHlo.nullary_result_ne (τ := τ) _ _ (by decide) _ h1).trans (StableHlo.nullary_result_ne (τ := τ) _ _ (by decide) _ h0))))

/-- The region of the call, over the buffers before it and after. -/
def tcReg (m : Mem F) := reg (V1 m) (V2 m) (fun _ => iprop(emp)) (V2_0 m) (V2_1 m) (V2_2 m) (V2_3 m) (V2_4 m) (W2_ne m)

theorem tc_call [∀ e, Nonempty (Elt F e)] (m : Mem F) (d : Dev nD) {α : Type} (p : Prog (TpuEff nD τ sig (Elt F) (SparseCore.Sig (ΛP (F := F)) 1) .tc) α) (Q : α → sProp 𝕄) :
    iprop((iprop(boundary (SparseCore.T d) ∗ StableHlo.held (SparseCore.T d) ucRefs (W2 m d) ∗ owesTc (F := F) d)
          -∗ wp frame (wpE ((K (F := F)).defs (D (F := F))) 𝒱 (SparseCore.T d) none) Set.univ p Q)
        ∗ boundary (SparseCore.T d) ∗ (StableHlo.held (SparseCore.T d) ucRefs (W1 m d) ∗ owesTc (F := F) d) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d) none) Set.univ
          (Prog.lift (.customCall (SparseCore.inner (Pipeline.entry 0)) ()))
          fun _ => wp frame (wpE ((K (F := F)).defs (D (F := F))) 𝒱 (SparseCore.T d) none) Set.univ p Q := by
  have h1 := (K (F := F)).wp_liftProg (D (F := F)) 𝒱 (SparseCore.T d) Set.univ none (.op (.customCall (Pipeline.entry (0 : Fin 1)) ()) .ret)
    (fun _ => wp frame (wpE ((K (F := F)).defs (D (F := F))) 𝒱 (SparseCore.T d) none) Set.univ p Q)
  have h2 := Pipeline.RegionSeg.wp pcfgs adm (pdats (V1 m)) none cellOf_inj EP defs₀ 𝒱₀ (K (F := F)).L (K (F := F)).lev (tcReg m) d none
    (fun u hu => absurd hu (by simp)) .ret (fun _ => wp frame (wpE ((K (F := F)).defs (D (F := F))) 𝒱 (SparseCore.T d) none) Set.univ p Q)
  refine BIBase.Entails.trans ?_ (BIBase.Entails.trans h2 h1)
  rw [show (tcReg m).pre d = iprop(unscopedBufs d (V1 m d) ∗ emp ∗ owesTc (F := F) d) from rfl,
    show (tcReg m).post d = iprop(unscopedBufs d (V2 m d) ∗ emp ∗ owesTc (F := F) d) from rfl]
  rw [show (unscopedBufs d (V2 m d) : sProp 𝕄) = _ from unscopedBufs_held d (W2 m d), show (unscopedBufs d (V1 m d) : sProp 𝕄) = _ from unscopedBufs_held d (W1 m d)]
  iintro ⟨Hk, Hb, ⟨Hh, Ho⟩, Hl, Hg, Ht⟩
  isplitl [Hk]
  · iintro ⟨Hb, Hh, -, Ho⟩
    rw [wp_ret]; imodintro
    iapply Hk
    isplitl [Hb]; · iexact Hb
    isplitl [Hh]; · iexact Hh
    iexact Ho
  isplitl [Hb]; · iexact Hb
  isplitl [Hh Ho]
  · isplitl [Hh]; · iexact Hh
    isplitr; · iempintro
    iexact Ho
  isplitl [Hl]; · iexact Hl
  isplitl [Hg]; · iexact Hg
  iexact Ht

/-! ## The SparseCore call -/

/-- The call's arrays. -/
def callRefs : Finset (DevRef τ sig) :=
  {(main_v17 : DevRef τ sig), (main_v19 : DevRef τ sig), (main_v21 : DevRef τ sig), (main_v23 : DevRef τ sig), (main_v12_3 : DevRef τ sig),
    (main_v12_4 : DevRef τ sig), (main_v24_0 : DevRef τ sig), (main_v24_1 : DevRef τ sig)}

theorem callRefs_sub : callRefs ⊆ ucRefs := by
  intro b hb
  simp only [callRefs, Finset.mem_insert, Finset.mem_singleton] at hb
  rcases hb with rfl | rfl | rfl | rfl | rfl | rfl | rfl | rfl <;>
    exact Finset.mem_filter.mpr ⟨StableHlo.devRef_mem_tcRefs _, by decide⟩

theorem held_call (d : Dev nD) (W : Val1 F) : (StableHlo.held (SparseCore.T d) callRefs W : sProp 𝕄)
    = iprop((eLoc d ↦{fullShare} W main_v17) ∗ (aLoc d ↦{fullShare} W main_v19) ∗ (c1Loc d ↦{fullShare} W main_v21) ∗ (c2Loc d ↦{fullShare} W main_v23)
      ∗ (xLoc d ↦{fullShare} W main_v12_3) ∗ (yLoc d ↦{fullShare} W main_v12_4) ∗ (o1Loc d ↦{fullShare} W main_v24_0) ∗ (o2Loc d ↦{fullShare} W main_v24_1)) := by
  unfold StableHlo.held callRefs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem W4_1 (m : Mem F) (c : Dev nD) : W4 m c main_v24_0 = (callData m c).g1 := by unfold W4 ops24; after_results_simp
theorem W4_2 (m : Mem F) (c : Dev nD) : W4 m c main_v24_1 = (callData m c).g2 := by unfold W4 ops24; after_results_simp
theorem W4_ne (m : Mem F) (c : Dev nD) (b : DevRef τ sig) (h1 : b ≠ (main_v24_0 : DevRef τ sig)) (h2 : b ≠ (main_v24_1 : DevRef τ sig)) : W4 m c b = W3 m c b := by
  unfold W4 ops24
  simp only [StableHlo.after_cons, StableHlo.after_nil]
  rw [HloOp.result_of_not_mem _ _ (by rw [StableHlo.nullary_writes, Finset.mem_singleton]; exact h2),
    HloOp.result_of_not_mem _ _ (by rw [StableHlo.nullary_writes, Finset.mem_singleton]; exact h1)]

/-- The arrays before the call and after it. -/
def rest (m : Mem F) (d : Dev nD) : sProp 𝕄 := StableHlo.held (SparseCore.T d) (ucRefs \ callRefs) (W3 m d)

theorem rest_W4 (m : Mem F) (d : Dev nD) : (StableHlo.held (SparseCore.T d) (ucRefs \ callRefs) (W4 m d) : sProp 𝕄) = rest m d :=
  StableHlo.held_congr _ fun b hb => W4_ne m d b (fun e => (Finset.mem_sdiff.mp hb).2 (by rw [e]; decide)) (fun e => (Finset.mem_sdiff.mp hb).2 (by rw [e]; decide))

/-- The call's arrays, its outputs at the given words. -/
def arrays (C : Data) (d : Dev nD) (f1 f2 : Wide) : sProp 𝕄 :=
  iprop((eLoc d ↦{fullShare} (C.wE : Buf (Elt F) (eLoc d))) ∗ (aLoc d ↦{fullShare} (C.wA : Buf (Elt F) (aLoc d)))
    ∗ (c1Loc d ↦{fullShare} (C.w1 : Buf (Elt F) (c1Loc d))) ∗ (c2Loc d ↦{fullShare} (C.w2 : Buf (Elt F) (c2Loc d)))
    ∗ (xLoc d ↦{fullShare} (C.X : Buf (Elt F) (xLoc d))) ∗ (yLoc d ↦{fullShare} (C.Y : Buf (Elt F) (yLoc d)))
    ∗ (o1Loc d ↦{fullShare} (f1 : Buf (Elt F) (o1Loc d))) ∗ (o2Loc d ↦{fullShare} (f2 : Buf (Elt F) (o2Loc d))))

theorem held_call' (d : Dev nD) (W : Val1 F) (C : Data) (f1 f2 : Wide) (h0 : W main_v17 = C.wE) (h1 : W main_v19 = C.wA) (h2 : W main_v21 = C.w1)
    (h3 : W main_v23 = C.w2) (h4 : W main_v12_3 = C.X) (h5 : W main_v12_4 = C.Y) (h6 : W main_v24_0 = f1) (h7 : W main_v24_1 = f2) :
    (StableHlo.held (SparseCore.T d) callRefs W : sProp 𝕄) = arrays C d f1 f2 := by
  rw [held_call, h0, h1, h2, h3, h4, h5, h6, h7]; rfl

theorem callW3 (m : Mem F) (d : Dev nD) : (StableHlo.held (SparseCore.T d) callRefs (W3 m d) : sProp 𝕄) = arrays (callData m d) d (callData m d).h1 (callData m d).h2 := by
  apply held_call' <;> (unfold callData; with_reducible rfl)

theorem callW4 (m : Mem F) (d : Dev nD) : (StableHlo.held (SparseCore.T d) callRefs (W4 m d) : sProp 𝕄) = arrays (callData m d) d (callData m d).g1 (callData m d).g2 := by
  apply held_call'
  case h6 => exact W4_1 m d
  case h7 => exact W4_2 m d
  all_goals
    rw [W4_ne m d _ (by decide) (by decide)]
    unfold callData
    with_reducible rfl

theorem held_W4 (m : Mem F) (d : Dev nD) : (StableHlo.held (SparseCore.T d) ucRefs (W4 m d) : sProp 𝕄)
    = iprop(arrays (callData m d) d (callData m d).g1 (callData m d).g2 ∗ rest m d) := by
  rw [StableHlo.held_sub_split _ callRefs_sub, rest_W4, callW4]
theorem held_W3 (m : Mem F) (d : Dev nD) : (StableHlo.held (SparseCore.T d) ucRefs (W3 m d) : sProp 𝕄)
    = iprop(arrays (callData m d) d (callData m d).h1 (callData m d).h2 ∗ rest m d) := by
  rw [StableHlo.held_sub_split _ callRefs_sub, callW3]; rfl

theorem st_eq (C : Dev nD → Data) (d : Dev nD) : (bigSep Finset.univ fun c : Fin ((K (F := F)).nCore 0) => (P (F := F) C).st 0 d c)
    = bigSep (Finset.range 2) fun i => bundle (F := F) C d (qC i) ∅ ∅ :=
  (bigSep_range_fin (fun i => bundle (F := F) C d (qC i) ∅ ∅) 2).symm
theorem dn_eq (C : Dev nD → Data) (d : Dev nD) : (bigSep Finset.univ fun c : Fin ((K (F := F)).nCore 0) => (P (F := F) C).dn 0 d c)
    = bigSep (Finset.range 2) fun i => bundle (F := F) C d (qC i) (coreMarks i) (coreMarks i) :=
  (bigSep_range_fin (fun i => bundle (F := F) C d (qC i) (coreMarks i) (coreMarks i)) 2).symm

theorem sc_call (m : Mem F) (κ : GSem nD τ sig → ℕ) (d : Dev nD) {α : Type} (p : Prog (TpuEff nD τ sig (Elt F) (SparseCore.Sig (ΛP (F := F)) 1) .tc) α) (Q : α → sProp 𝕄) :
    iprop((K (F := F)).ctx EH (P (F := F) (callData m)) κ ∗ (K (F := F)).tcSt EH d 0 ∗ StableHlo.held (SparseCore.T d) ucRefs (W3 m d) ∗ wm (F := F)
        ∗ (iprop((K (F := F)).tcSt EH d 1 ∗ StableHlo.held (SparseCore.T d) ucRefs (W4 m d))
          -∗ wp frame (wpE ((K (F := F)).defs (D (F := F))) 𝒱 (SparseCore.T d) none) Set.univ p Q))
      ⊢ wp frame (wpE ((K (F := F)).defs (D (F := F))) 𝒱 (SparseCore.T d) none) Set.univ ((K (F := F)).run d 0)
          fun _ => wp frame (wpE ((K (F := F)).defs (D (F := F))) 𝒱 (SparseCore.T d) none) Set.univ p Q := by
  rw [held_W3, held_W4]
  unfold arrays
  iintro ⟨#Hctx, Hst, ⟨⟨He, Ha, H1, H2, Hx, Hy, Ho, Hp⟩, Hrest⟩, ⟨%ιw, #Hw⟩, Hk⟩
  imod (pointsTo_castIn (Ix := HIx 1) (emb := EW (F := F)) (ιwm := ιw) (g := fun i => some ((callData m d).g1 i)) (ℓ := o1Loc d)) $$ [Ho] with Ho
  · isplitr; · iexact Hw
    iexact Ho
  imod (pointsTo_castIn (Ix := HIx 1) (emb := EW (F := F)) (ιwm := ιw) (g := fun i => some ((callData m d).g2 i)) (ℓ := o2Loc d)) $$ [Hp] with Hp
  · isplitr; · iexact Hw
    iexact Hp
  ihave HB := (deal (bundle (F := F) (callData m) d) (bundle_split (callData m) d) fullShare 2) $$ [He Ha H1 H2 Hx Hy Ho Hp]
  · unfold bundle
    isplitl [He Ha H1 H2]
    · isplitl [He]; · iexact He
      isplitl [Ha]; · iexact Ha
      isplitl [H1]; · iexact H1
      iexact H2
    isplitl [Hx Hy]
    · isplitl [Hx]; · iexact Hx
      iexact Hy
    isplitl [Ho]; · iexact Ho
    iexact Hp
  icases HB with ⟨Hd, HC⟩
  iapply ((K (F := F)).wp_run (D (F := F)) 𝒱 (EH := EH) (P := P (F := F) (callData m)) κ d 0)
  isplitr; · iexact Hctx
  isplitl [Hst]; · iexact Hst
  isplitl [HC]
  · iapply (Entails.of_eq (st_eq (callData m) d).symm)
    iexact HC
  iintro ⟨Hst, Hdn⟩
  ihave HC := (Entails.of_eq (dn_eq (callData m) d)) $$ Hdn
  ihave HB := (collect (bundle (F := F) (callData m) d) (bundle_join (callData m) d) coreMarks coreMarks fullShare 2 ∅ ∅) $$ [Hd HC]
  · isplitl [Hd]; · iexact Hd
    iexact HC
  ihave HB := (Entails.of_eq (show bundle (F := F) (callData m) d fullShare (∅ ∪ (Finset.range 2).biUnion coreMarks) (∅ ∪ (Finset.range 2).biUnion coreMarks)
    = bundle (F := F) (callData m) d fullShare Finset.univ Finset.univ by rw [Finset.empty_union, cover])) $$ HB
  ihave HB := (show bundle (F := F) (callData m) d fullShare Finset.univ Finset.univ ⊢ _ from Entails.of_eq (by unfold bundle; rfl)) $$ HB
  icases HB with ⟨⟨He, Ha, H1, H2⟩, ⟨Hx, Hy⟩, Ho, Hp⟩
  imod (willBeTo_castOut_some (Ix := HIx 1) (emb := EW (F := F)) (ιwm := ιw)) $$ [Ho] with Ho
  · isplitr; · iexact Hw
    iexact Ho
  imod (willBeTo_castOut_some (Ix := HIx 1) (emb := EW (F := F)) (ιwm := ιw)) $$ [Hp] with Hp
  · isplitr; · iexact Hw
    iexact Hp
  iapply Hk
  isplitl [Hst]; · iexact Hst
  isplitr [Hrest]
  · isplitl [He]; · iexact He
    isplitl [Ha]; · iexact Ha
    isplitl [H1]; · iexact H1
    isplitl [H2]; · iexact H2
    isplitl [Hx]; · iexact Hx
    isplitl [Hy]; · iexact Hy
    isplitl [Ho]
    · iapply (Entails.of_eq (congrArg (fun f : Buf (Elt F) (o1Loc d) => ((o1Loc d ↦{fullShare} f) : sProp 𝕄)) (Finset.piecewise_univ _ _)))
      iexact Ho
    · iapply (Entails.of_eq (congrArg (fun f : Buf (Elt F) (o2Loc d) => ((o2Loc d ↦{fullShare} f) : sProp 𝕄)) (Finset.piecewise_univ _ _)))
      iexact Hp
  iexact Hrest

/-! ## @main -/

variable (ρ : Dev nD → PrngReg)

/-- The TensorCore's start, its debt apart. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_zero (d : Dev nD) : (K (F := F)).tcSt EH d 0 = iprop(owesTc (F := F) d ∗ tcRest (F := F) d) := by
  unfold SparseCore.Cfg.tcSt owesTc tcRest
  rfl

/-- @main on device `d`'s TensorCore: it ends with every buffer at `W5`. -/
theorem hmain [∀ e, Nonempty (Elt F e)] (m : Mem F) (κ : GSem nD τ sig → ℕ) (d : Dev nD) :
    iprop((K (F := F)).ctx EH (P (F := F) (callData m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ StableHlo.held (SparseCore.T d) ucRefs (W5 m d) ∗ (K (F := F)).tcEnd d) := by
  unfold SparseCore.Cfg.tcRes SparseCore.Cfg.tcEnd G
  rw [show (unscopedBufs d (fun b => m ((SparseCore.T d).loc b)) : sProp 𝕄) = _ from unscopedBufs_held d (W0 m d), main_eq, ← bind_pure (StableHlo.seq ops3)]
  iintro ⟨#Hctx, Hst, ⟨Hb, Hh, Hts, -⟩, ⟨#Hw, Hg, Ht⟩⟩
  iapply (StableHlo.wp_seq 𝒱 none Set.univ d ucRefs _ ops1 ops1_sub ops1_fresh (W0 m d)) $$ [Hb Hh]
  · isplitl [Hb]; · iexact Hb
    iexact Hh
  iintro ⟨Hb, Hh⟩
  iapply (Entails.of_eq (wp_bind frame _ _ _ _ _).symm)
  ihave Hst := (Entails.of_eq (tcSt_zero d)) $$ Hst
  icases Hst with ⟨HO, Hst⟩
  iapply (tc_call m d) $$ [-]
  isplitr [Hb Hh HO Hg Ht]
  · iintro ⟨Hb, Hh, HO⟩
    iapply (StableHlo.wp_seq 𝒱 none Set.univ d ucRefs _ ops2 ops2_sub ops2_fresh (W2 m d)) $$ [Hb Hh]
    · isplitl [Hb]; · iexact Hb
      iexact Hh
    iintro ⟨Hb, Hh⟩
    iapply (Entails.of_eq (wp_bind frame _ _ _ _ _).symm)
    iapply (sc_call m κ d) $$ [-]
    isplitr; · iexact Hctx
    isplitl [HO Hst]
    · iapply (Entails.of_eq (tcSt_zero d).symm)
      isplitl [HO]; · iexact HO
      iexact Hst
    isplitl [Hh]; · iexact Hh
    isplitr; · iexact Hw
    iintro ⟨Hst, Hh⟩
    iapply (StableHlo.wp_seq 𝒱 none Set.univ d ucRefs _ ops3 ops3_sub ops3_fresh (W4 m d)) $$ [Hb Hh]
    · isplitl [Hb]; · iexact Hb
      iexact Hh
    iintro ⟨Hb, Hh⟩
    iapply (Entails.of_eq (wp_pure frame _ _ _ _).symm)
    imodintro
    isplitl [Hst]; · iexact Hst
    isplitl [Hh]; · iexact Hh
    isplitl [Hb]; · iexact Hb
    iexact Hts
  isplitl [Hb]; · iexact Hb
  isplitl [Hh HO]
  · isplitl [Hh]; · iexact Hh
    iexact HO
  isplitr
  · iapply ((K (F := F)).ctx_levAts κ)
    iexact Hctx
  isplitl [Hg]; · iexact Hg
  iexact Ht

/-! ## The whole program's run -/

def fq (m : Mem F) (d : Dev nD) (s' : Phys nD τ sig (Elt F)) : Prop := ∀ b ∈ ucRefs, s'.mem.mem (d, b) = W5 m d b

theorem hfin (m : Mem F) (d : Dev nD) (s' : Phys nD τ sig (Elt F)) :
    iprop((StableHlo.held (SparseCore.T d) ucRefs (W5 m d) : sProp 𝕄) ∗ SI s') ⊢ (⌜fq m d s'⌝ : sProp 𝕄) := by
  have key : ∀ b ∈ ucRefs, iprop((StableHlo.held (SparseCore.T d) ucRefs (W5 m d) : sProp 𝕄) ∗ SI s') ⊢ (⌜s'.mem.mem (d, b) = W5 m d b⌝ : sProp 𝕄) := by
    intro b hb
    unfold StableHlo.held
    rw [show (bigSep ucRefs _ : sProp 𝕄) = iprop((((SparseCore.T d).1, b) ↦{fullShare} W5 m d b) ∗ _) from SparseCore.bigSep_erase' hb]
    iintro ⟨⟨Hb, -⟩, HSI⟩
    ihave H := (SI_pointsTo_agree (st := s') (ℓ := (d, b)) (I := Finset.univ) (q := fullShare) (f := W5 m d b)) $$ [HSI Hb]
    · isplitl [HSI] <;> iassumption
    icases H with %h
    ipureintro; exact funext fun i => h i (Finset.mem_univ i)
  have all : iprop((StableHlo.held (SparseCore.T d) ucRefs (W5 m d) : sProp 𝕄) ∗ SI s') ⊢ (⌜∀ b : ucRefs, s'.mem.mem (d, b.1) = W5 m d b.1⌝ : sProp 𝕄) :=
    BIBase.Entails.trans (forall_intro fun b : ucRefs => key b.1 b.2) pure_forall.2
  exact BIBase.Entails.trans all (Laws.pure_mono fun h b hb => h ⟨b, hb⟩)

def QC (m : Mem F) : PUnit × MemSt nD τ sig (Elt F) → Prop := fun r => (∀ c : Dev nD, ∀ b ∈ ucRefs, r.2.mem (c, b) = W5 m c b) ∧ r.2.sem = fun _ => 0

theorem run_main [∀ e, Nonempty (Elt F e)] (m : Mem F) (hpre : ∀ d, (callData m d).InTab) :
    θ_run (defs (F := F)) (threads (F := F)) ⟨m, fun _ => 0, ρ⟩ (QC m) :=
  SparseCore.Cfg.θ_run_sc_quiescent (K := K (F := F)) (D := D (F := F)) (𝒱 := 𝒱) (EH := EH) (P := P (F := F) (callData m)) (A := ∅) facts v₀
    (fun q hq => match q with | 0 => nomatch hq)
    (fun q _ => match q with | 0 => tileObl (callData m) hpre)
    (fun q _ => match q with | 0 => SparseCore.Cfg.VecSplit.of_plain (vecSplit (callData m)))
    m ρ main (G (F := F)) (fun d => StableHlo.held (SparseCore.T d) ucRefs (W5 m d)) (u₀ (F := F))
    (BIBase.Entails.trans sep_elim_left (hu₀ (callData m) ⟨m, fun _ => 0, ρ⟩)) (hmain ρ m) (fq m) (hfin m) (QC m) (fun _ h hz => ⟨h, hz⟩)

end Cert.Proof.Sc

end
-- ==== Proof.Ends.lean ====
/-
  What the buffers of @main hold at the end: the arguments unchanged, and the results as terms in the arguments.
-/
module

public import proofs.«01_k».proof.Proof.Main

@[expose] public section

noncomputable section

namespace Cert.Proof.Sc

open Cert.KernelIdeal Cert.KernelIdeal.Gen
open Idealize.ShloMosaic Idealize.ShloMosaic.TcCoe Idealize.ShloMosaic.Tactic
open Idealize.ShloMosaic.SparseCore.Cfg (HIx Pay)
variable {F : FTy → Type}
variable [FloatOps F]

/-! ## The lines' targets -/

theorem W1_arg (m : Mem F) (c : Dev nD) (b : DevRef τ sig) (hb : b ∈ ({(main_arg0 : DevRef τ sig), (main_arg1 : DevRef τ sig), (main_arg2 : DevRef τ sig), (main_arg3 : DevRef τ sig), (main_arg4 : DevRef τ sig)} : Finset (DevRef τ sig))) :
    W1 m c b = m (c, b) := by
  simp only [Finset.mem_insert, Finset.mem_singleton] at hb
  unfold W1 ops1
  rcases hb with rfl | rfl | rfl | rfl | rfl <;> (after_results_simp; rfl)

theorem W3_arg (m : Mem F) (c : Dev nD) (b : DevRef τ sig) (hb : b ∈ ({(main_arg0 : DevRef τ sig), (main_arg1 : DevRef τ sig), (main_arg2 : DevRef τ sig), (main_arg3 : DevRef τ sig), (main_arg4 : DevRef τ sig)} : Finset (DevRef τ sig))) :
    W3 m c b = m (c, b) := by
  have h : W3 m c b = W2 m c b := by
    simp only [Finset.mem_insert, Finset.mem_singleton] at hb
    unfold W3 ops2
    rcases hb with rfl | rfl | rfl | rfl | rfl <;> after_results_simp
  rw [h, ← W1_arg m c b hb]
  simp only [Finset.mem_insert, Finset.mem_singleton] at hb
  rcases hb with rfl | rfl | rfl | rfl | rfl
  · exact W2_ne m c main_arg0 (by decide)
  · exact W2_ne m c main_arg1 (by decide)
  · exact W2_ne m c main_arg2 (by decide)
  · exact W2_ne m c main_arg3 (by decide)
  · exact W2_ne m c main_arg4 (by decide)

theorem W5_arg (m : Mem F) (c : Dev nD) (b : DevRef τ sig) (hb : b ∈ ({(main_arg0 : DevRef τ sig), (main_arg1 : DevRef τ sig), (main_arg2 : DevRef τ sig), (main_arg3 : DevRef τ sig), (main_arg4 : DevRef τ sig)} : Finset (DevRef τ sig))) :
    W5 m c b = m (c, b) := by
  have h : W5 m c b = W4 m c b := by
    simp only [Finset.mem_insert, Finset.mem_singleton] at hb
    unfold W5 ops3
    rcases hb with rfl | rfl | rfl | rfl | rfl <;> after_results_simp
  rw [h, ← W3_arg m c b hb]
  simp only [Finset.mem_insert, Finset.mem_singleton] at hb
  apply W4_ne <;> rcases hb with rfl | rfl | rfl | rfl | rfl <;> decide

/-! ## The arrays of the SparseCore call -/

/-- Column `j` of the passengers. -/
def colK (j : ℕ) (hj : S2000000x8.Slices ![0, j] S2000000x1) (p : S2000000x8.Idx → BitVec 32) : Wide :=
  shapeCast S2000000 (extractStridedSlice S2000000x1 ![0, j] p hj) shapeCasts_S2000000x1_S2000000

theorem W2_arg1 (m : Mem F) (c : Dev nD) : W2 m c main_arg1 = m (c, main_arg1) :=
  (W2_ne m c main_arg1 (by decide)).trans (W1_arg m c _ (by decide))

theorem wE_eq (m : Mem F) (c : Dev nD) : (callData m c).wE = colK 0 slices_S2000000x8_S2000000x1_0_0 (m (c, main_arg1)) := by
  have h1 := W2_arg1 m c
  unfold callData
  rw [← h1]
  show W3 m c main_v17 = _
  unfold W3 ops2; after_results_simp; rfl
theorem wA_eq (m : Mem F) (c : Dev nD) : (callData m c).wA = colK 7 slices_S2000000x8_S2000000x1_0_7 (m (c, main_arg1)) := by
  have h1 := W2_arg1 m c
  unfold callData
  rw [← h1]
  show W3 m c main_v19 = _
  unfold W3 ops2; after_results_simp; rfl
theorem w1_eq (m : Mem F) (c : Dev nD) : (callData m c).w1 = colK 1 slices_S2000000x8_S2000000x1_0_1 (m (c, main_arg1)) := by
  have h1 := W2_arg1 m c
  unfold callData
  rw [← h1]
  show W3 m c main_v21 = _
  unfold W3 ops2; after_results_simp; rfl
theorem w2_eq (m : Mem F) (c : Dev nD) : (callData m c).w2 = colK 2 slices_S2000000x8_S2000000x1_0_2 (m (c, main_arg1)) := by
  have h1 := W2_arg1 m c
  unfold callData
  rw [← h1]
  show W3 m c main_v23 = _
  unfold W3 ops2; after_results_simp; rfl
theorem X_eq (m : Mem F) (c : Dev nD) : (callData m c).X = tabX (V1 m) c := by
  have h : W3 m c main_v12_3 = W2 m c main_v12_3 := by unfold W3 ops2; after_results_simp
  unfold callData
  have h2 : W2 m c main_v12_3 = tabX (V1 m) c := by unfold W2 ops12; after_results_simp
  rw [h, h2]
theorem Y_eq (m : Mem F) (c : Dev nD) : (callData m c).Y = tabY (V1 m) c := by
  have h : W3 m c main_v12_4 = W2 m c main_v12_4 := by unfold W3 ops2; after_results_simp
  unfold callData
  have h2 : W2 m c main_v12_4 = tabY (V1 m) c := by unfold W2 ops12; after_results_simp
  rw [h, h2]

end Cert.Proof.Sc

end
-- ==== Proof.Pre.lean ====
/-
  What the preconditions give.
-/
module

public import proofs.«01_k».proof.Proof.Ends
public import proofs.«01_k».proof.Pre_agents_named
public import proofs.«01_k».proof.Pre_drawn_ranges
public import Idealize.ShloMosaic.Lib.ReduceAll

@[expose] public section

noncomputable section

namespace Cert.Proof

open Idealize.ShloMosaic

theorem factsNamed : Cert.Pre_agents_named.Facts where
  slices_S2000000x8_S2000000x1_0_0 := by decide
  shapeCasts_S2000000x1_S2000000 := by decide
  slices_S2000000x8_S2000000x1_0_7 := by decide
  bcast_S_S2000000 := by decide

theorem factsDrawn : Cert.Pre_drawn_ranges.Facts where
  slices_S2000000x8_S2000000x1_0_0 := by decide
  shapeCasts_S2000000x1_S2000000 := by decide
  slices_S2000000x8_S2000000x1_0_7 := by decide
  bcast_S_S2000000 := by decide
  reducesTo_S2000000_S_d0 := by decide
  h_S_ := by decide
  bcast_S_S4096x128x4 := by decide
  reducesTo_S4096x128x4_S_d0_1_2 := by decide
  bcast_S_S9x2 := by decide
  reducesTo_S9x2_S_d0_1 := by decide

theorem andi_one {a b : BitVec 1} (h : IntOp.andi a b = 1#1) : a = 1#1 ∧ b = 1#1 := by
  revert a b; decide

theorem ofBool_one {p : Bool} (h : BitVec.ofBool p = 1#1) : p = true := by revert p; decide

/-- A word `0 ≤ v < n`, compared as signed, is its own value below `n`. -/
theorem below {v n : BitVec 32} (hn : n.toNat < 2 ^ 31) (h0 : IntOp.cmpi .sge v 0#32 = 1#1) (h1 : IntOp.cmpi .slt v n = 1#1) : v.toNat < n.toNat := by
  have e0 := ofBool_one h0
  have e1 := ofBool_one h1
  simp only [BitVec.sle_eq_decide, BitVec.slt_eq_decide, decide_eq_true_eq, BitVec.toInt_eq_toNat_cond, BitVec.toNat_ofNat, Nat.reducePow, Nat.reduceMod] at e0 e1
  omega

/-- A word `-1 ≤ v ≤ 1`, compared as signed. -/
theorem within {v : BitVec 32} (h0 : IntOp.cmpi .sge v 4294967295#32 = 1#1) (h1 : IntOp.cmpi .sle v 1#32 = 1#1) : -1 ≤ v.toInt ∧ v.toInt ≤ 1 := by
  have e0 := ofBool_one h0
  have e1 := ofBool_one h1
  simp only [BitVec.sle_eq_decide, decide_eq_true_eq] at e0 e1
  exact ⟨by simpa using e0, by simpa using e1⟩

variable {F : FTy → Type} [FloatOps F]

open Cert.Proof.Sc in
/-- The passengers' columns 0 and 7 name rows below 128. -/
def Named (p : Cert.KernelIdeal.S2000000x8.Idx → BitVec 32) : Prop :=
  ∀ n, (colK 0 Cert.KernelIdeal.Gen.slices_S2000000x8_S2000000x1_0_0 p n).toNat < 128
    ∧ (colK 7 Cert.KernelIdeal.Gen.slices_S2000000x8_S2000000x1_0_7 p n).toNat < 128

theorem named_of_agents [Cert.Pre_agents_named.Facts] {a0 : FVec F Cert.Pre_agents_named.S4096x128x2 .f32} {p : IVec Cert.Pre_agents_named.S2000000x8 32}
    {a2 : IVec Cert.Pre_agents_named.S4096x128 1} {a3 : IVec Cert.Pre_agents_named.S4096x128x4 32} {a4 : IVec Cert.Pre_agents_named.S9x2 32}
    (h : Cert.Pre_agents_named.fn (F := F) a0 p a2 a3 a4 = fun _ => 1#1) : Named p := by
  intro n
  have e := congrFun h n
  dsimp only [Cert.Pre_agents_named.fn] at e
  obtain ⟨e, h4⟩ := andi_one e
  obtain ⟨e, h3⟩ := andi_one e
  obtain ⟨h1, h2⟩ := andi_one e
  exact ⟨below (n := 128#32) (by decide) h1 h2, below (n := 128#32) (by decide) h3 h4⟩

/-- Every integer argument in its range. -/
structure Drawn (p : IVec Cert.KernelIdeal.S2000000x8 32) (a3 : IVec Cert.KernelIdeal.S4096x128x4 32) (a4 : IVec Cert.KernelIdeal.S9x2 32) : Prop where
  named : Named p
  pos : ∀ i, (a3 i).toNat < 512
  step : ∀ i, -1 ≤ (a4 i).toInt ∧ (a4 i).toInt ≤ 1

theorem drawn_of_ranges [Cert.Pre_drawn_ranges.Facts] {a0 : FVec F Cert.Pre_drawn_ranges.S4096x128x2 .f32} {p : IVec Cert.Pre_drawn_ranges.S2000000x8 32}
    {a2 : IVec Cert.Pre_drawn_ranges.S4096x128 1} {a3 : IVec Cert.Pre_drawn_ranges.S4096x128x4 32} {a4 : IVec Cert.Pre_drawn_ranges.S9x2 32}
    (h : Cert.Pre_drawn_ranges.fn (F := F) a0 p a2 a3 a4 = fun _ => 1#1) : Drawn p a3 a4 := by
  have e := congrFun h (fun k => k.elim0)
  dsimp only [Cert.Pre_drawn_ranges.fn, Cert.Pre_drawn_ranges.fn_part1] at e
  obtain ⟨e, h4⟩ := andi_one e
  obtain ⟨e, h3⟩ := andi_one e
  obtain ⟨h1, h2⟩ := andi_one e
  have : Subsingleton (Cert.Pre_drawn_ranges.S_).Idx := ⟨fun a b => funext fun k => k.elim0⟩
  refine ⟨fun n => ?_, fun i => ?_, fun i => ?_⟩
  · obtain ⟨a1, b1⟩ := andi_one (Host.reduce_andi_all _ _ _ _ _ h1 n)
    obtain ⟨a2, b2⟩ := andi_one (Host.reduce_andi_all _ _ _ _ _ h2 n)
    exact ⟨below (n := 128#32) (by decide) a1 b1, below (n := 128#32) (by decide) a2 b2⟩
  · obtain ⟨a1, b1⟩ := andi_one (Host.reduce_andi_all _ _ _ _ _ h3 i)
    exact below (n := 512#32) (by decide) a1 b1
  · obtain ⟨a1, b1⟩ := andi_one (Host.reduce_andi_all _ _ _ _ _ h4 i)
    exact within a1 b1

end Cert.Proof

end
-- ==== Proof.RefRun.lean ====
/-
  The reference's operations, and its run.
-/
module

public import proofs.«01_k».proof.Defs
public import proofs.«01_k».proof.Proof.Gen.ReferenceIdeal
public import Idealize.ShloMosaic.Lib.StableHlo.RunHlo

@[expose] public section

noncomputable section

namespace Cert.Proof.Ref

open Cert.ReferenceIdeal Cert.ReferenceIdeal.Gen
open Idealize.ShloMosaic Idealize.ShloMosaic.TcCoe Idealize.ShloMosaic.Tactic
open Idealize.SL.Sem
variable {F : FTy → Type} [FloatOps F]

/-- The differences between the moved positions and the targets. -/
def ops1 : List (HloOp τ sig (Elt F)) :=
  [StableHlo.unary main_arg3 main_v0 ((extractStridedSlice S4096x128x2 ![0, 0, 0] · slices_S4096x128x4_S4096x128x2_0_0_0) : (⟨S4096x128x4, .i32⟩ : BufTy).Contents (Elt F) → (⟨S4096x128x2, .i32⟩ : BufTy).Contents (Elt F)),
   StableHlo.unary main_arg3 main_v1 ((extractStridedSlice S4096x128x2 ![0, 0, 2] · slices_S4096x128x4_S4096x128x2_0_0_2) : (⟨S4096x128x4, .i32⟩ : BufTy).Contents (Elt F) → (⟨S4096x128x2, .i32⟩ : BufTy).Contents (Elt F)),
   StableHlo.unary main_v0 main_v2 (broadcastInDim S4096x128x1x2 ![0, 1, 3] bcast_S4096x128x2_S4096x128x1x2_0_1_3 : (⟨S4096x128x2, .i32⟩ : BufTy).Contents (Elt F) → (⟨S4096x128x1x2, .i32⟩ : BufTy).Contents (Elt F)),
   StableHlo.reshape main_arg4 main_v3 (rfl : (.i32 : EltTy) = .i32) shapeCasts_S9x2_S1x1x9x2,
   StableHlo.unary main_v2 main_v4 (broadcastInDim S4096x128x9x2 ![0, 1, 2, 3] bcast_S4096x128x1x2_S4096x128x9x2_0_1_2_3 : (⟨S4096x128x1x2, .i32⟩ : BufTy).Contents (Elt F) → (⟨S4096x128x9x2, .i32⟩ : BufTy).Contents (Elt F)),
   StableHlo.unary main_v3 main_v5 (broadcastInDim S4096x128x9x2 ![0, 1, 2, 3] bcast_S1x1x9x2_S4096x128x9x2_0_1_2_3 : (⟨S1x1x9x2, .i32⟩ : BufTy).Contents (Elt F) → (⟨S4096x128x9x2, .i32⟩ : BufTy).Contents (Elt F)),
   StableHlo.binary main_v4 main_v5 main_v6 (addi : (⟨S4096x128x9x2, .i32⟩ : BufTy).Contents (Elt F) → (⟨S4096x128x9x2, .i32⟩ : BufTy).Contents (Elt F) → (⟨S4096x128x9x2, .i32⟩ : BufTy).Contents (Elt F)),
   StableHlo.unary main_v1 main_v7 (broadcastInDim S4096x128x1x2 ![0, 1, 3] bcast_S4096x128x2_S4096x128x1x2_0_1_3 : (⟨S4096x128x2, .i32⟩ : BufTy).Contents (Elt F) → (⟨S4096x128x1x2, .i32⟩ : BufTy).Contents (Elt F)),
   StableHlo.unary main_v7 main_v8 (broadcastInDim S4096x128x9x2 ![0, 1, 2, 3] bcast_S4096x128x1x2_S4096x128x9x2_0_1_2_3 : (⟨S4096x128x1x2, .i32⟩ : BufTy).Contents (Elt F) → (⟨S4096x128x9x2, .i32⟩ : BufTy).Contents (Elt F)),
   StableHlo.binary main_v6 main_v8 main_v9 (subi : (⟨S4096x128x9x2, .i32⟩ : BufTy).Contents (Elt F) → (⟨S4096x128x9x2, .i32⟩ : BufTy).Contents (Elt F) → (⟨S4096x128x9x2, .i32⟩ : BufTy).Contents (Elt F)),
   StableHlo.unary main_v9 main_v10 (sitofp .f32 : (⟨S4096x128x9x2, .i32⟩ : BufTy).Contents (Elt F) → (⟨S4096x128x9x2, .f32⟩ : BufTy).Contents (Elt F))]

/-- The distances. -/
def ops2 : List (HloOp τ sig (Elt F)) :=
  [StableHlo.TRef.binary (.of main_v10) (.of main_v10) (.of main_call0_v0) mulf,
   StableHlo.TRef.nullary (.of main_call0_cst) (constant S_ .f32 0x00000000#32),
   StableHlo.TRef.binary (.of main_call0_v0) (.of main_call0_cst) (.of main_call0_v1) (fun x v => Host.reduceAdd x v reducesTo_S4096x128x9x2_S4096x128x9_d3 h_S_),
   StableHlo.TRef.unary (.of main_call0_v1) (.of main_v11) Host.sqrt]

/-- The least distance and its place. -/
def ops3 : List (HloOp τ sig (Elt F)) :=
  [StableHlo.TRef.nullary (.of main_call1_v0) (iotaInDim S4096x128x9 32 2),
   StableHlo.TRef.nullary (.of main_call1_cst) (constant S_ .f32 0x7F800000#32),
   StableHlo.TRef.nullary (.of main_call1_c) (constantI S_ 32 0#32),
   StableHlo.TRef.quaternary (.of main_v11) (.of main_call1_v0) (.of main_call1_cst) (.of main_call1_c) (.of main_call1_v1_0) (fun x y u v j => (Host.argReduce reducer_argmin_f32_i32 x y u v reducesTo_S4096x128x9_S4096x128_d2 h_S_ j).1),
   StableHlo.TRef.quaternary (.of main_v11) (.of main_call1_v0) (.of main_call1_cst) (.of main_call1_c) (.of main_v12) (fun x y u v j => (Host.argReduce reducer_argmin_f32_i32 x y u v reducesTo_S4096x128x9_S4096x128_d2 h_S_ j).2)]

/-- The move of that place, and the places that do not move. -/
def ops4 : List (HloOp τ sig (Elt F)) :=
  [StableHlo.nullary main_c (constantI S_ 32 0#32),
   StableHlo.unary main_c main_v13 (broadcastInDim S4096x128 ![] bcast_S_S4096x128 : (⟨S_, .i32⟩ : BufTy).Contents (Elt F) → (⟨S4096x128, .i32⟩ : BufTy).Contents (Elt F)),
   StableHlo.binary main_v12 main_v13 main_v14 (cmpi .slt : (⟨S4096x128, .i32⟩ : BufTy).Contents (Elt F) → (⟨S4096x128, .i32⟩ : BufTy).Contents (Elt F) → (⟨S4096x128, .i1⟩ : BufTy).Contents (Elt F)),
   StableHlo.nullary main_c_0 (constantI S_ 32 9#32),
   StableHlo.unary main_c_0 main_v15 (broadcastInDim S4096x128 ![] bcast_S_S4096x128 : (⟨S_, .i32⟩ : BufTy).Contents (Elt F) → (⟨S4096x128, .i32⟩ : BufTy).Contents (Elt F)),
   StableHlo.binary main_v12 main_v15 main_v16 (addi : (⟨S4096x128, .i32⟩ : BufTy).Contents (Elt F) → (⟨S4096x128, .i32⟩ : BufTy).Contents (Elt F) → (⟨S4096x128, .i32⟩ : BufTy).Contents (Elt F)),
   StableHlo.ternary main_v14 main_v16 main_v12 main_v17 (select : (⟨S4096x128, .i1⟩ : BufTy).Contents (Elt F) → (⟨S4096x128, .i32⟩ : BufTy).Contents (Elt F) → (⟨S4096x128, .i32⟩ : BufTy).Contents (Elt F) → (⟨S4096x128, .i32⟩ : BufTy).Contents (Elt F)),
   StableHlo.unary main_v17 main_v18 (broadcastInDim S4096x128x1 ![0, 1] bcast_S4096x128_S4096x128x1_0_1 : (⟨S4096x128, .i32⟩ : BufTy).Contents (Elt F) → (⟨S4096x128x1, .i32⟩ : BufTy).Contents (Elt F)),
   StableHlo.binary main_arg4 main_v18 main_v19 ((fun x i => Host.gather gather_S9x2_S4096x128x1_S4096x128x2_2_0_n_n_0_2_12 x i) : (⟨S9x2, .i32⟩ : BufTy).Contents (Elt F) → (⟨S4096x128x1, .i32⟩ : BufTy).Contents (Elt F) → (⟨S4096x128x2, .i32⟩ : BufTy).Contents (Elt F)),
   StableHlo.nullary main_c_1 (constantI S_ 32 4294967196#32),
   StableHlo.unary main_c_1 main_v20 (broadcastInDim S4096x128x2 ![] bcast_S_S4096x128x2 : (⟨S_, .i32⟩ : BufTy).Contents (Elt F) → (⟨S4096x128x2, .i32⟩ : BufTy).Contents (Elt F)),
   StableHlo.binary main_v0 main_v20 main_v21 (cmpi .eq : (⟨S4096x128x2, .i32⟩ : BufTy).Contents (Elt F) → (⟨S4096x128x2, .i32⟩ : BufTy).Contents (Elt F) → (⟨S4096x128x2, .i1⟩ : BufTy).Contents (Elt F)),
   StableHlo.nullary main_c_2 (constantI S_ 32 0#32),
   StableHlo.unary main_c_2 main_v22 (broadcastInDim S4096x128x2 ![] bcast_S_S4096x128x2 : (⟨S_, .i32⟩ : BufTy).Contents (Elt F) → (⟨S4096x128x2, .i32⟩ : BufTy).Contents (Elt F))]

/-- The moves and the agents moved. -/
def ops5 : List (HloOp τ sig (Elt F)) :=
  [StableHlo.TRef.ternary (.of main_v21) (.of main_v22) (.of main_v19) (.of main_v23) select,
   StableHlo.unary main_v23 main_v24 (sitofp .f32 : (⟨S4096x128x2, .i32⟩ : BufTy).Contents (Elt F) → (⟨S4096x128x2, .f32⟩ : BufTy).Contents (Elt F)),
   StableHlo.binary main_arg0 main_v24 main_v25 (addf : (⟨S4096x128x2, .f32⟩ : BufTy).Contents (Elt F) → (⟨S4096x128x2, .f32⟩ : BufTy).Contents (Elt F) → (⟨S4096x128x2, .f32⟩ : BufTy).Contents (Elt F))]

/-- The passengers' columns 0 and 7, as row numbers. -/
def ops6 : List (HloOp τ sig (Elt F)) :=
  [StableHlo.unary main_arg1 main_v26 ((extractStridedSlice S2000000x1 ![0, 0] · slices_S2000000x8_S2000000x1_0_0) : (⟨S2000000x8, .i32⟩ : BufTy).Contents (Elt F) → (⟨S2000000x1, .i32⟩ : BufTy).Contents (Elt F)),
   StableHlo.reshape main_v26 main_v27 (rfl : (.i32 : EltTy) = .i32) shapeCasts_S2000000x1_S2000000,
   StableHlo.unary main_arg1 main_v28 ((extractStridedSlice S2000000x1 ![0, 7] · slices_S2000000x8_S2000000x1_0_7) : (⟨S2000000x8, .i32⟩ : BufTy).Contents (Elt F) → (⟨S2000000x1, .i32⟩ : BufTy).Contents (Elt F)),
   StableHlo.reshape main_v28 main_v29 (rfl : (.i32 : EltTy) = .i32) shapeCasts_S2000000x1_S2000000,
   StableHlo.nullary main_c_3 (constantI S_ 32 0#32),
   StableHlo.unary main_c_3 main_v30 (broadcastInDim S2000000 ![] bcast_S_S2000000 : (⟨S_, .i32⟩ : BufTy).Contents (Elt F) → (⟨S2000000, .i32⟩ : BufTy).Contents (Elt F)),
   StableHlo.binary main_v27 main_v30 main_v31 (cmpi .slt : (⟨S2000000, .i32⟩ : BufTy).Contents (Elt F) → (⟨S2000000, .i32⟩ : BufTy).Contents (Elt F) → (⟨S2000000, .i1⟩ : BufTy).Contents (Elt F)),
   StableHlo.nullary main_c_4 (constantI S_ 32 4096#32),
   StableHlo.unary main_c_4 main_v32 (broadcastInDim S2000000 ![] bcast_S_S2000000 : (⟨S_, .i32⟩ : BufTy).Contents (Elt F) → (⟨S2000000, .i32⟩ : BufTy).Contents (Elt F)),
   StableHlo.binary main_v27 main_v32 main_v33 (addi : (⟨S2000000, .i32⟩ : BufTy).Contents (Elt F) → (⟨S2000000, .i32⟩ : BufTy).Contents (Elt F) → (⟨S2000000, .i32⟩ : BufTy).Contents (Elt F)),
   StableHlo.ternary main_v31 main_v33 main_v27 main_v34 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
   StableHlo.nullary main_c_5 (constantI S_ 32 0#32),
   StableHlo.unary main_c_5 main_v35 (broadcastInDim S2000000 ![] bcast_S_S2000000 : (⟨S_, .i32⟩ : BufTy).Contents (Elt F) → (⟨S2000000, .i32⟩ : BufTy).Contents (Elt F)),
   StableHlo.binary main_v29 main_v35 main_v36 (cmpi .slt : (⟨S2000000, .i32⟩ : BufTy).Contents (Elt F) → (⟨S2000000, .i32⟩ : BufTy).Contents (Elt F) → (⟨S2000000, .i1⟩ : BufTy).Contents (Elt F)),
   StableHlo.nullary main_c_6 (constantI S_ 32 128#32),
   StableHlo.unary main_c_6 main_v37 (broadcastInDim S2000000 ![] bcast_S_S2000000 : (⟨S_, .i32⟩ : BufTy).Contents (Elt F) → (⟨S2000000, .i32⟩ : BufTy).Contents (Elt F)),
   StableHlo.binary main_v29 main_v37 main_v38 (addi : (⟨S2000000, .i32⟩ : BufTy).Contents (Elt F) → (⟨S2000000, .i32⟩ : BufTy).Contents (Elt F) → (⟨S2000000, .i32⟩ : BufTy).Contents (Elt F)),
   StableHlo.ternary main_v36 main_v38 main_v29 main_v39 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
   StableHlo.unary main_v34 main_v40 (broadcastInDim S2000000x1 ![0] bcast_S2000000_S2000000x1_0 : (⟨S2000000, .i32⟩ : BufTy).Contents (Elt F) → (⟨S2000000x1, .i32⟩ : BufTy).Contents (Elt F)),
   StableHlo.unary main_v39 main_v41 (broadcastInDim S2000000x1 ![0] bcast_S2000000_S2000000x1_0 : (⟨S2000000, .i32⟩ : BufTy).Contents (Elt F) → (⟨S2000000x1, .i32⟩ : BufTy).Contents (Elt F)),
   StableHlo.binary main_v40 main_v41 main_v42 ((fun a b => concatenate S2000000x2 1 [⟨S2000000x1, a⟩, ⟨S2000000x1, b⟩] concatenates_S2000000x1_S2000000x1_S2000000x2_d1) : (⟨S2000000x1, .i32⟩ : BufTy).Contents (Elt F) → (⟨S2000000x1, .i32⟩ : BufTy).Contents (Elt F) → (⟨S2000000x2, .i32⟩ : BufTy).Contents (Elt F))]

/-- The passengers moved. -/
def ops7 : List (HloOp τ sig (Elt F)) :=
  [StableHlo.binary main_v23 main_v42 main_v43 ((fun x i => Host.gather gather_S4096x128x2_S2000000x2_S2000000x2_1_01_n_n_01_1_112 x i) : (⟨S4096x128x2, .i32⟩ : BufTy).Contents (Elt F) → (⟨S2000000x2, .i32⟩ : BufTy).Contents (Elt F) → (⟨S2000000x2, .i32⟩ : BufTy).Contents (Elt F)),
   StableHlo.nullary main_c_7 (constantI S_ 32 1#32),
   StableHlo.unary main_c_7 main_v44 (broadcastInDim S1 ![] bcast_S_S1 : (⟨S_, .i32⟩ : BufTy).Contents (Elt F) → (⟨S1, .i32⟩ : BufTy).Contents (Elt F)),
   StableHlo.ternary main_arg1 main_v44 main_v43 main_v45 ((fun x i u => Host.scatter scatter_S2000000x8_S1_S2000000x2_01_n_1_0 IntOp.addi x i u) : (⟨S2000000x8, .i32⟩ : BufTy).Contents (Elt F) → (⟨S1, .i32⟩ : BufTy).Contents (Elt F) → (⟨S2000000x2, .i32⟩ : BufTy).Contents (Elt F) → (⟨S2000000x8, .i32⟩ : BufTy).Contents (Elt F))]

/-- The moves' lengths. -/
def ops8 : List (HloOp τ sig (Elt F)) :=
  [StableHlo.unary main_v23 main_v46 (sitofp .f32 : (⟨S4096x128x2, .i32⟩ : BufTy).Contents (Elt F) → (⟨S4096x128x2, .f32⟩ : BufTy).Contents (Elt F)),
   StableHlo.TRef.binary (.of main_v46) (.of main_v46) (.of main_call3_v0) mulf,
   StableHlo.TRef.nullary (.of main_call3_cst) (constant S_ .f32 0x00000000#32),
   StableHlo.TRef.binary (.of main_call3_v0) (.of main_call3_cst) (.of main_call3_v1) (fun x v => Host.reduceAdd x v reducesTo_S4096x128x2_S4096x128_d2 h_S_),
   StableHlo.TRef.unary (.of main_call3_v1) (.of main_v47) Host.sqrt]

/-- All of them. -/
def opsR : List (HloOp τ sig (Elt F)) := ops1 ++ (ops2 ++ (ops3 ++ (ops4 ++ (ops5 ++ (ops6 ++ (ops7 ++ ops8))))))

theorem main_seq (d : Dev nD) : main (F := F) d = StableHlo.seq opsR := by
  unfold main opsR ops1 ops2 ops3 ops4 ops5 ops6 ops7 ops8 fn_norm.body fn_argmin.body fn_where.body fn_norm_0.body
  simp only [List.cons_append, List.nil_append, bind_assoc, pure_bind]
  repeat (first | exact StableHlo.IsSeq.nil | refine StableHlo.IsSeq.cons ?_)

theorem noScoped : (Finset.univ.filter fun b : Ref sig .tc => b.isScoped) = ∅ := by decide
theorem noSem : (Finset.univ.filter fun sm : SemLoc sig => sm.isScoped .tc) = ∅ := by decide

/-! ## What the operations touch -/

theorem ops1_ok : ∀ op ∈ (ops1 : List (HloOp τ sig (Elt F))), op.bufs ⊆ StableHlo.tcRefs τ sig ∧ op.fresh = ∅ := by
  unfold ops1
  simp only [List.forall_mem_cons, List.not_mem_nil, IsEmpty.forall_iff, implies_true, and_true]
  refine ⟨?_, ?_, ?_, ?_, ?_, ?_, ?_, ?_, ?_, ?_, ?_⟩ <;> exact ⟨by simp, rfl⟩
theorem ops2_ok : ∀ op ∈ (ops2 : List (HloOp τ sig (Elt F))), op.bufs ⊆ StableHlo.tcRefs τ sig ∧ op.fresh = ∅ := by
  unfold ops2
  simp only [List.forall_mem_cons, List.not_mem_nil, IsEmpty.forall_iff, implies_true, and_true]
  refine ⟨?_, ?_, ?_, ?_⟩ <;> exact ⟨by simp, rfl⟩
theorem ops3_ok : ∀ op ∈ (ops3 : List (HloOp τ sig (Elt F))), op.bufs ⊆ StableHlo.tcRefs τ sig ∧ op.fresh = ∅ := by
  unfold ops3
  simp only [List.forall_mem_cons, List.not_mem_nil, IsEmpty.forall_iff, implies_true, and_true]
  refine ⟨?_, ?_, ?_, ?_, ?_⟩ <;> exact ⟨by simp, rfl⟩
theorem ops4_ok : ∀ op ∈ (ops4 : List (HloOp τ sig (Elt F))), op.bufs ⊆ StableHlo.tcRefs τ sig ∧ op.fresh = ∅ := by
  unfold ops4
  simp only [List.forall_mem_cons, List.not_mem_nil, IsEmpty.forall_iff, implies_true, and_true]
  refine ⟨?_, ?_, ?_, ?_, ?_, ?_, ?_, ?_, ?_, ?_, ?_, ?_, ?_, ?_⟩ <;> exact ⟨by simp, rfl⟩
theorem ops5_ok : ∀ op ∈ (ops5 : List (HloOp τ sig (Elt F))), op.bufs ⊆ StableHlo.tcRefs τ sig ∧ op.fresh = ∅ := by
  unfold ops5
  simp only [List.forall_mem_cons, List.not_mem_nil, IsEmpty.forall_iff, implies_true, and_true]
  refine ⟨?_, ?_, ?_⟩ <;> exact ⟨by simp, rfl⟩
theorem ops6_ok : ∀ op ∈ (ops6 : List (HloOp τ sig (Elt F))), op.bufs ⊆ StableHlo.tcRefs τ sig ∧ op.fresh = ∅ := by
  unfold ops6
  simp only [List.forall_mem_cons, List.not_mem_nil, IsEmpty.forall_iff, implies_true, and_true]
  refine ⟨?_, ?_, ?_, ?_, ?_, ?_, ?_, ?_, ?_, ?_, ?_, ?_, ?_, ?_, ?_, ?_, ?_, ?_, ?_, ?_, ?_⟩ <;> exact ⟨by simp, rfl⟩
theorem ops7_ok : ∀ op ∈ (ops7 : List (HloOp τ sig (Elt F))), op.bufs ⊆ StableHlo.tcRefs τ sig ∧ op.fresh = ∅ := by
  unfold ops7
  simp only [List.forall_mem_cons, List.not_mem_nil, IsEmpty.forall_iff, implies_true, and_true]
  refine ⟨?_, ?_, ?_, ?_⟩ <;> exact ⟨by simp, rfl⟩
theorem ops8_ok : ∀ op ∈ (ops8 : List (HloOp τ sig (Elt F))), op.bufs ⊆ StableHlo.tcRefs τ sig ∧ op.fresh = ∅ := by
  unfold ops8
  simp only [List.forall_mem_cons, List.not_mem_nil, IsEmpty.forall_iff, implies_true, and_true]
  refine ⟨?_, ?_, ?_, ?_, ?_⟩ <;> exact ⟨by simp, rfl⟩

theorem opsR_ok : ∀ op ∈ (opsR : List (HloOp τ sig (Elt F))), op.bufs ⊆ StableHlo.tcRefs τ sig ∧ op.fresh = ∅ := by
  intro op h
  simp only [opsR, List.mem_append] at h
  rcases h with h | h | h | h | h | h | h | h
  exacts [ops1_ok op h, ops2_ok op h, ops3_ok op h, ops4_ok op h, ops5_ok op h, ops6_ok op h, ops7_ok op h, ops8_ok op h]

/-! ## The stages -/

abbrev Mem (F : FTy → Type) : Type := (ℓ : Loc nD τ sig) → Buf (Elt F) ℓ
abbrev Val1 (F : FTy → Type) : Type := Valuation τ sig (Elt F)

def R0 (m : Mem F) (c : Dev nD) : Val1 F := StableHlo.launchContents m c
def R1 (m : Mem F) (c : Dev nD) : Val1 F := StableHlo.after ops1 (R0 m c)
def R2 (m : Mem F) (c : Dev nD) : Val1 F := StableHlo.after ops2 (R1 m c)
def R3 (m : Mem F) (c : Dev nD) : Val1 F := StableHlo.after ops3 (R2 m c)
def R4 (m : Mem F) (c : Dev nD) : Val1 F := StableHlo.after ops4 (R3 m c)
def R5 (m : Mem F) (c : Dev nD) : Val1 F := StableHlo.after ops5 (R4 m c)
def R6 (m : Mem F) (c : Dev nD) : Val1 F := StableHlo.after ops6 (R5 m c)
def R7 (m : Mem F) (c : Dev nD) : Val1 F := StableHlo.after ops7 (R6 m c)
def R8 (m : Mem F) (c : Dev nD) : Val1 F := StableHlo.after ops8 (R7 m c)

theorem after_two (l₁ l₂ : List (HloOp τ sig (Elt F))) (V : Val1 F) : StableHlo.after (l₁ ++ l₂) V = StableHlo.after l₂ (StableHlo.after l₁ V) := by
  induction l₁ generalizing V with
  | nil => rfl
  | cons o l ih => exact ih _

theorem after_R (m : Mem F) (c : Dev nD) : StableHlo.after opsR (StableHlo.launchContents m c) = R8 m c := by
  unfold opsR
  rw [after_two, after_two, after_two, after_two, after_two, after_two, after_two]
  rfl

/-- The reference's run: every buffer ends at the last stage. -/
theorem run (m : Mem F) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = R8 m d b := by
  have h := StableHlo.run_seq noScoped noSem (defs (F := F)) main (fun _ => opsR) main_seq
    (fun _ => List.forall_iff_forall_mem.mpr fun op h => (opsR_ok op h).1) m ρ (fun _ op h => (opsR_ok op h).2)
  exact (θ_run _ _ _).mono (fun r h d b => (h d b).trans (congrFun (after_R m d) _)) h

/-! ## What each stage computes -/

/-- The positions now, and the targets. -/
def cur (a3 : IVec S4096x128x4 32) : IVec S4096x128x2 32 := extractStridedSlice S4096x128x2 ![0, 0, 0] a3 slices_S4096x128x4_S4096x128x2_0_0_0
def goalPos (a3 : IVec S4096x128x4 32) : IVec S4096x128x2 32 := extractStridedSlice S4096x128x2 ![0, 0, 2] a3 slices_S4096x128x4_S4096x128x2_0_0_2
/-- Spread over the nine moves. -/
def spread (x : IVec S4096x128x2 32) : IVec S4096x128x9x2 32 :=
  broadcastInDim S4096x128x9x2 ![0, 1, 2, 3] bcast_S4096x128x1x2_S4096x128x9x2_0_1_2_3 (broadcastInDim S4096x128x1x2 ![0, 1, 3] bcast_S4096x128x2_S4096x128x1x2_0_1_3 x)
def spreadDir (a4 : IVec S9x2 32) : IVec S4096x128x9x2 32 :=
  broadcastInDim S4096x128x9x2 ![0, 1, 2, 3] bcast_S1x1x9x2_S4096x128x9x2_0_1_2_3 (shapeCast S1x1x9x2 a4 shapeCasts_S9x2_S1x1x9x2)
/-- The differences between the moved positions and the targets. -/
def diffs (a3 : IVec S4096x128x4 32) (a4 : IVec S9x2 32) : IVec S4096x128x9x2 32 := subi (addi (spread (cur a3)) (spreadDir a4)) (spread (goalPos a3))
/-- The distances. -/
def dists (x : FVec F S4096x128x9x2 .f32) : FVec F S4096x128x9 .f32 :=
  Host.sqrt (Host.reduceAdd (mulf x x) (constant S_ .f32 0x00000000#32) reducesTo_S4096x128x9x2_S4096x128x9_d3 h_S_)
/-- The place of the least. -/
def place (x : FVec F S4096x128x9 .f32) : IVec S4096x128 32 := fun j =>
  (Host.argReduce reducer_argmin_f32_i32 x (iotaInDim S4096x128x9 32 2) (constant S_ .f32 0x7F800000#32) (constantI S_ 32 0#32) reducesTo_S4096x128x9_S4096x128_d2 h_S_ j).2
/-- The move of that place. -/
def moveAt (a4 : IVec S9x2 32) (b : IVec S4096x128 32) : IVec S4096x128x2 32 :=
  Host.gather gather_S9x2_S4096x128x1_S4096x128x2_2_0_n_n_0_2_12 a4
    (broadcastInDim S4096x128x1 ![0, 1] bcast_S4096x128_S4096x128x1_0_1
      (select (cmpi .slt b (broadcastInDim S4096x128 ![] bcast_S_S4096x128 (constantI S_ 32 0#32)))
        (addi b (broadcastInDim S4096x128 ![] bcast_S_S4096x128 (constantI S_ 32 9#32))) b))
def away (x : IVec S4096x128x2 32) : IVec S4096x128x2 1 := cmpi .eq x (broadcastInDim S4096x128x2 ![] bcast_S_S4096x128x2 (constantI S_ 32 4294967196#32))
def stay : IVec S4096x128x2 32 := broadcastInDim S4096x128x2 ![] bcast_S_S4096x128x2 (constantI S_ 32 0#32)
/-- The moves. -/
def moves (a3 : IVec S4096x128x4 32) (a4 : IVec S9x2 32) : IVec S4096x128x2 32 :=
  select (away (cur a3)) stay (moveAt a4 (place (F := F) (dists (sitofp .f32 (diffs a3 a4)))))
/-- A column of the passengers as row numbers of an axis of the given length. -/
def asRow (n : BitVec 32) (x : IVec S2000000 32) : IVec S2000000 32 :=
  select (cmpi .slt x (broadcastInDim S2000000 ![] bcast_S_S2000000 (constantI S_ 32 0#32))) (addi x (broadcastInDim S2000000 ![] bcast_S_S2000000 (constantI S_ 32 n))) x
def col0 (p : IVec S2000000x8 32) : IVec S2000000 32 :=
  shapeCast S2000000 (extractStridedSlice S2000000x1 ![0, 0] p slices_S2000000x8_S2000000x1_0_0) shapeCasts_S2000000x1_S2000000
def col7 (p : IVec S2000000x8 32) : IVec S2000000 32 :=
  shapeCast S2000000 (extractStridedSlice S2000000x1 ![0, 7] p slices_S2000000x8_S2000000x1_0_7) shapeCasts_S2000000x1_S2000000
def rowsOf (p : IVec S2000000x8 32) : IVec S2000000x2 32 :=
  concatenate S2000000x2 1 [⟨S2000000x1, broadcastInDim S2000000x1 ![0] bcast_S2000000_S2000000x1_0 (asRow 4096#32 (col0 p))⟩,
    ⟨S2000000x1, broadcastInDim S2000000x1 ![0] bcast_S2000000_S2000000x1_0 (asRow 128#32 (col7 p))⟩] concatenates_S2000000x1_S2000000x1_S2000000x2_d1
/-- The passengers moved. -/
def riders (p : IVec S2000000x8 32) (mv : IVec S4096x128x2 32) : IVec S2000000x8 32 :=
  Host.scatter scatter_S2000000x8_S1_S2000000x2_01_n_1_0 IntOp.addi p (broadcastInDim S1 ![] bcast_S_S1 (constantI S_ 32 1#32))
    (Host.gather gather_S4096x128x2_S2000000x2_S2000000x2_1_01_n_n_01_1_112 mv (rowsOf p))
/-- The moves' lengths. -/
def lengths (x : FVec F S4096x128x2 .f32) : FVec F S4096x128 .f32 :=
  Host.sqrt (Host.reduceAdd (mulf x x) (constant S_ .f32 0x00000000#32) reducesTo_S4096x128x2_S4096x128_d2 h_S_)

variable (V : Val1 F)

theorem at1_v10 : StableHlo.after ops1 V main_v10 = sitofp (F := F) .f32 (diffs (V main_arg3) (V main_arg4)) := by unfold ops1; after_results_simp; rfl
theorem at1_v0 : StableHlo.after ops1 V main_v0 = cur (V main_arg3) := by unfold ops1; after_results_simp; rfl
theorem at2_v11 : StableHlo.after ops2 V main_v11 = dists (V main_v10) := by unfold ops2; after_results_simp; rfl
theorem at3_v12 : StableHlo.after ops3 V main_v12 = place (V main_v11) := by unfold ops3; after_results_simp; rfl
theorem at4_v19 : StableHlo.after ops4 V main_v19 = moveAt (V main_arg4) (V main_v12) := by unfold ops4; after_results_simp; rfl
theorem at4_v21 : StableHlo.after ops4 V main_v21 = away (V main_v0) := by unfold ops4; after_results_simp; rfl
theorem at4_v22 : StableHlo.after ops4 V main_v22 = stay := by unfold ops4; after_results_simp; rfl
theorem at5_v23 : StableHlo.after ops5 V main_v23 = select (V main_v21) (V main_v22) (V main_v19) := by unfold ops5; after_results_simp; rfl
theorem at5_v25 : StableHlo.after ops5 V main_v25 = addf (V main_arg0) (sitofp (F := F) .f32 (select (V main_v21) (V main_v22) (V main_v19))) := by unfold ops5; after_results_simp; rfl
theorem at6_v42 : StableHlo.after ops6 V main_v42 = rowsOf (V main_arg1) := by unfold ops6; after_results_simp; rfl
theorem at7_v45 : StableHlo.after ops7 V main_v45 = Host.scatter scatter_S2000000x8_S1_S2000000x2_01_n_1_0 IntOp.addi (V main_arg1) (broadcastInDim S1 ![] bcast_S_S1 (constantI S_ 32 1#32))
    (Host.gather gather_S4096x128x2_S2000000x2_S2000000x2_1_01_n_n_01_1_112 (V main_v23) (V main_v42)) := by unfold ops7; after_results_simp
theorem at8_v47 : StableHlo.after ops8 V main_v47 = lengths (sitofp (F := F) .f32 (V main_v23)) := by unfold ops8; after_results_simp; rfl

/-! ## What each stage leaves -/

def out1 : List (Ref sig .tc) := [main_v0, main_v1, main_v2, main_v3, main_v4, main_v5, main_v6, main_v7, main_v8, main_v9, main_v10]
theorem keep1 (b : Ref sig .tc) (hb : b ∉ out1) : StableHlo.after ops1 V b = V b :=
  StableHlo.after_of_writes_sub _ V (by unfold ops1 out1; simp) hb
def out2 : List (Ref sig .tc) := [main_call0_v0, main_call0_cst, main_call0_v1, main_v11]
theorem keep2 (b : Ref sig .tc) (hb : b ∉ out2) : StableHlo.after ops2 V b = V b :=
  StableHlo.after_of_writes_sub _ V (by unfold ops2 out2; simp) hb
def out3 : List (Ref sig .tc) := [main_call1_v0, main_call1_cst, main_call1_c, main_call1_v1_0, main_v12]
theorem keep3 (b : Ref sig .tc) (hb : b ∉ out3) : StableHlo.after ops3 V b = V b :=
  StableHlo.after_of_writes_sub _ V (by unfold ops3 out3; simp) hb
def out4 : List (Ref sig .tc) := [main_c, main_v13, main_v14, main_c_0, main_v15, main_v16, main_v17, main_v18, main_v19, main_c_1, main_v20, main_v21, main_c_2, main_v22]
theorem keep4 (b : Ref sig .tc) (hb : b ∉ out4) : StableHlo.after ops4 V b = V b :=
  StableHlo.after_of_writes_sub _ V (by unfold ops4 out4; simp) hb
def out5 : List (Ref sig .tc) := [main_v23, main_v24, main_v25]
theorem keep5 (b : Ref sig .tc) (hb : b ∉ out5) : StableHlo.after ops5 V b = V b :=
  StableHlo.after_of_writes_sub _ V (by unfold ops5 out5; simp) hb
def out6 : List (Ref sig .tc) := [main_v26, main_v27, main_v28, main_v29, main_c_3, main_v30, main_v31, main_c_4, main_v32, main_v33, main_v34, main_c_5, main_v35, main_v36, main_c_6, main_v37, main_v38, main_v39, main_v40, main_v41, main_v42]
theorem keep6 (b : Ref sig .tc) (hb : b ∉ out6) : StableHlo.after ops6 V b = V b :=
  StableHlo.after_of_writes_sub _ V (by unfold ops6 out6; simp) hb
def out7 : List (Ref sig .tc) := [main_v43, main_c_7, main_v44, main_v45]
theorem keep7 (b : Ref sig .tc) (hb : b ∉ out7) : StableHlo.after ops7 V b = V b :=
  StableHlo.after_of_writes_sub _ V (by unfold ops7 out7; simp) hb
def out8 : List (Ref sig .tc) := [main_v46, main_call3_v0, main_call3_cst, main_call3_v1, main_v47]
theorem keep8 (b : Ref sig .tc) (hb : b ∉ out8) : StableHlo.after ops8 V b = V b :=
  StableHlo.after_of_writes_sub _ V (by unfold ops8 out8; simp) hb

/-! ## The ends -/

variable (m : Mem F) (c : Dev nD)

abbrev args : List (Ref sig .tc) := [main_arg0, main_arg1, main_arg2, main_arg3, main_arg4]

theorem R_arg (b : Ref sig .tc) (hb : b ∈ args) :
    R1 m c b = R0 m c b ∧ R2 m c b = R0 m c b ∧ R3 m c b = R0 m c b ∧ R4 m c b = R0 m c b ∧ R5 m c b = R0 m c b ∧ R6 m c b = R0 m c b ∧ R7 m c b = R0 m c b ∧ R8 m c b = R0 m c b := by
  have n : ∀ l : List (Ref sig .tc), (∀ a ∈ args, a ∉ l) → b ∉ l := fun l h => h b hb
  have h1 : R1 m c b = R0 m c b := keep1 _ b (n _ (by decide))
  have h2 : R2 m c b = R0 m c b := (keep2 _ b (n _ (by decide))).trans h1
  have h3 : R3 m c b = R0 m c b := (keep3 _ b (n _ (by decide))).trans h2
  have h4 : R4 m c b = R0 m c b := (keep4 _ b (n _ (by decide))).trans h3
  have h5 : R5 m c b = R0 m c b := (keep5 _ b (n _ (by decide))).trans h4
  have h6 : R6 m c b = R0 m c b := (keep6 _ b (n _ (by decide))).trans h5
  have h7 : R7 m c b = R0 m c b := (keep7 _ b (n _ (by decide))).trans h6
  exact ⟨h1, h2, h3, h4, h5, h6, h7, (keep8 _ b (n _ (by decide))).trans h7⟩

theorem R5_v23 : R5 m c main_v23 = moves (F := F) (R0 m c main_arg3) (R0 m c main_arg4) := by
  have h0 : R1 m c main_v0 = cur (R0 m c main_arg3) := at1_v0 _
  have h0' : R3 m c main_v0 = cur (R0 m c main_arg3) := ((keep3 _ _ (by decide)).trans (keep2 _ _ (by decide))).trans h0
  have h12 : R3 m c main_v12 = place (dists (sitofp (F := F) .f32 (diffs (R0 m c main_arg3) (R0 m c main_arg4)))) := by
    have a : R3 m c main_v12 = place (R2 m c main_v11) := at3_v12 _
    have b : R2 m c main_v11 = dists (R1 m c main_v10) := at2_v11 _
    have d : R1 m c main_v10 = sitofp (F := F) .f32 (diffs (R0 m c main_arg3) (R0 m c main_arg4)) := at1_v10 _
    rw [a, b, d]
  have a : R5 m c main_v23 = select (R4 m c main_v21) (R4 m c main_v22) (R4 m c main_v19) := at5_v23 _
  have b : R4 m c main_v21 = away (R3 m c main_v0) := at4_v21 _
  have d : R4 m c main_v22 = stay := at4_v22 _
  have e : R4 m c main_v19 = moveAt (R3 m c main_arg4) (R3 m c main_v12) := at4_v19 _
  rw [a, b, d, e, h0', h12, (R_arg m c main_arg4 (by decide)).2.2.1]
  rfl

theorem R8_v25 : R8 m c main_v25 = addf (R0 m c main_arg0) (sitofp (F := F) .f32 (moves (F := F) (R0 m c main_arg3) (R0 m c main_arg4))) := by
  have h : R8 m c main_v25 = R5 m c main_v25 := ((keep8 _ _ (by decide)).trans (keep7 _ _ (by decide))).trans (keep6 _ _ (by decide))
  have a : R5 m c main_v23 = select (R4 m c main_v21) (R4 m c main_v22) (R4 m c main_v19) := at5_v23 _
  have b : R5 m c main_v25 = addf (R4 m c main_arg0) (sitofp (F := F) .f32 (select (R4 m c main_v21) (R4 m c main_v22) (R4 m c main_v19))) := at5_v25 _
  rw [h, b, ← a, R5_v23, (R_arg m c main_arg0 (by decide)).2.2.2.1]

theorem R7_v23 : R7 m c main_v23 = moves (F := F) (R0 m c main_arg3) (R0 m c main_arg4) :=
  ((keep7 _ _ (by decide)).trans (keep6 _ _ (by decide))).trans (R5_v23 m c)

theorem R8_v45 : R8 m c main_v45 = riders (R0 m c main_arg1) (moves (F := F) (R0 m c main_arg3) (R0 m c main_arg4)) := by
  have h : R8 m c main_v45 = R7 m c main_v45 := keep8 _ _ (by decide)
  have a : R7 m c main_v45 = Host.scatter scatter_S2000000x8_S1_S2000000x2_01_n_1_0 IntOp.addi (R6 m c main_arg1) (broadcastInDim S1 ![] bcast_S_S1 (constantI S_ 32 1#32))
    (Host.gather gather_S4096x128x2_S2000000x2_S2000000x2_1_01_n_n_01_1_112 (R6 m c main_v23) (R6 m c main_v42)) := at7_v45 _
  have b : R6 m c main_v42 = rowsOf (R5 m c main_arg1) := at6_v42 _
  have d : R6 m c main_v23 = R5 m c main_v23 := keep6 _ _ (by decide)
  rw [h, a, b, d, R5_v23, (R_arg m c main_arg1 (by decide)).2.2.2.2.2.1, (R_arg m c main_arg1 (by decide)).2.2.2.2.1]
  rfl

theorem R8_v47 : R8 m c main_v47 = lengths (sitofp (F := F) .f32 (moves (F := F) (R0 m c main_arg3) (R0 m c main_arg4))) := by
  have a : R8 m c main_v47 = lengths (sitofp (F := F) .f32 (R7 m c main_v23)) := at8_v47 _
  rw [a, R7_v23]

end Cert.Proof.Ref

end
-- ==== Proof.Frames.lean ====
/-
  The frames: each program runs, leaves its arguments as they were, and ends with every semaphore at zero.
-/
module

public import proofs.«01_k».proof.Proof.Pre
public import proofs.«01_k».proof.Proof.RefRun
public import Idealize.ShloMosaic.Lib.Quiescent

@[expose] public section

noncomputable section

namespace Cert.Proof

open Idealize.ShloMosaic Idealize.ShloMosaic.TcCoe Idealize.SL.Sem

/-! ## The kernel -/

section
open Cert.KernelIdeal Cert.KernelIdeal.Gen Cert.Proof.Sc
variable {F : FTy → Type} [FloatOps F]

/-- The words of a passenger name a cell of the tables. -/
theorem inTab {m : Mem F} {c : Dev nD} (h : Named (m (c, (main_arg1 : DevRef τ sig)))) : (callData m c).InTab := by
  intro n
  rw [wE_eq, wA_eq]
  exact h n

theorem frame_of_named [∀ e, Nonempty (Elt F e)] (m : Mem F) (ρ : Dev nD → PrngReg) (h : ∀ c : Dev nD, Named (m (c, (main_arg1 : DevRef τ sig)))) :
    θ_run (defs (F := F)) (threads (F := F)) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 := by
  refine (θ_run _ _ _).mono (fun r hr => ⟨fun c => ?_, hr.2⟩) (run_main ρ m fun d => inTab (h d))
  have k : ∀ b : Ref sig .tc, (b : DevRef τ sig) ∈ ucRefs → (b : DevRef τ sig) ∈ ({(main_arg0 : DevRef τ sig), (main_arg1 : DevRef τ sig), (main_arg2 : DevRef τ sig), (main_arg3 : DevRef τ sig), (main_arg4 : DevRef τ sig)} : Finset (DevRef τ sig)) →
      r.2.mem ((c.tc : Thread nD τ).loc b) = m ((c.tc : Thread nD τ).loc b) := fun b h1 h2 => (hr.1 c b h1).trans (W5_arg m c b h2)
  have u : ∀ b : Ref sig .tc, ¬ b.isScoped → (b : DevRef τ sig) ∈ ucRefs := fun b hb => Finset.mem_filter.mpr ⟨StableHlo.devRef_mem_tcRefs _, hb⟩
  exact ⟨k main_arg0 (u _ (by decide)) (by decide), k main_arg1 (u _ (by decide)) (by decide), k main_arg2 (u _ (by decide)) (by decide),
    k main_arg3 (u _ (by decide)) (by decide), k main_arg4 (u _ (by decide)) (by decide)⟩
end

theorem frame_kernelIdeal : Cert.quiescent_KernelIdeal (hKernelIdeal := Cert.KernelIdeal.Gen.facts) (hPre_agents_named := factsNamed) := fun m ρ h =>
  frame_of_named (F := Ideal) m ρ fun c => @named_of_agents Ideal _ factsNamed _ _ _ _ _ (h c)

theorem frame_kernelIdeal_drawn : Cert.quiescent_KernelIdeal_pre_drawn_ranges (hKernelIdeal := Cert.KernelIdeal.Gen.facts) (hPre_drawn_ranges := factsDrawn) := fun m ρ h =>
  frame_of_named (F := Ideal) m ρ fun c => (@drawn_of_ranges Ideal _ factsDrawn _ _ _ _ _ (h c)).named

/-! ## The reference -/

section
open Cert.ReferenceIdeal Cert.ReferenceIdeal.Gen Cert.Proof.Ref

theorem frame_ref (m : Mem Ideal) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 := by
  refine (θ_run _ _ _).mono (fun r hr => ⟨fun c => ?_, sem_eq_zero_of_no_sems (by decide) _⟩) (Ref.run m ρ)
  have k : ∀ b : Ref sig .tc, b ∈ args → r.2.mem ((c.tc : Thread nD τ).loc b) = m ((c.tc : Thread nD τ).loc b) := fun b hb =>
    (hr c b).trans (R_arg m c b hb).2.2.2.2.2.2.2
  exact ⟨k _ (by decide), k _ (by decide), k _ (by decide), k _ (by decide), k _ (by decide)⟩
end

theorem frame_reference : Cert.quiescent_ReferenceIdeal (hReferenceIdeal := Cert.ReferenceIdeal.Gen.facts) := fun m ρ _ => frame_ref m ρ

theorem frame_reference_drawn : Cert.quiescent_ReferenceIdeal_pre_drawn_ranges (hReferenceIdeal := Cert.ReferenceIdeal.Gen.facts) (hPre_drawn_ranges := factsDrawn) := fun m ρ _ => frame_ref m ρ

end Cert.Proof

end
-- ==== Proof.Same.lean ====
/-
  The kernel as printed has the text of its idealization. So the two programs are one function of the float values, and the
  frame of the printed one is the other's run over the machine's floats.
-/
module
public import proofs.«01_k».proof.Proof.Frames
public import proofs.«01_k».proof.Proof.Gen.Kernel
@[expose] public section

noncomputable section
namespace Cert.Proof.Printed
open Cert.Kernel Cert.Kernel.Gen
open Idealize.ShloMosaic Idealize.ShloMosaic.TcCoe Idealize.ShloMosaic.Tactic
open Idealize.ShloMosaic.SparseCore.Cfg (HIx Pay)
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
variable {F : FTy → Type}
variable [FloatOps F]
/-! ## The printed program's lines -/

def ops1 : List (HloOp τ sig (Elt F)) :=
  [StableHlo.unary main_arg3 main_v0 ((extractStridedSlice S4096x128x1 ![0, 0, 0] · slices_S4096x128x4_S4096x128x1_0_0_0) : (⟨S4096x128x4, .i32⟩ : BufTy).Contents (Elt F) → (⟨S4096x128x1, .i32⟩ : BufTy).Contents (Elt F)),
   StableHlo.reshape main_v0 main_v1 (rfl : (.i32 : EltTy) = .i32) shapeCasts_S4096x128x1_S4096x128,
   StableHlo.unary main_arg3 main_v2 ((extractStridedSlice S4096x128x1 ![0, 0, 1] · slices_S4096x128x4_S4096x128x1_0_0_1) : (⟨S4096x128x4, .i32⟩ : BufTy).Contents (Elt F) → (⟨S4096x128x1, .i32⟩ : BufTy).Contents (Elt F)),
   StableHlo.reshape main_v2 main_v3 (rfl : (.i32 : EltTy) = .i32) shapeCasts_S4096x128x1_S4096x128,
   StableHlo.unary main_arg3 main_v4 ((extractStridedSlice S4096x128x1 ![0, 0, 2] · slices_S4096x128x4_S4096x128x1_0_0_2) : (⟨S4096x128x4, .i32⟩ : BufTy).Contents (Elt F) → (⟨S4096x128x1, .i32⟩ : BufTy).Contents (Elt F)),
   StableHlo.reshape main_v4 main_v5 (rfl : (.i32 : EltTy) = .i32) shapeCasts_S4096x128x1_S4096x128,
   StableHlo.unary main_arg3 main_v6 ((extractStridedSlice S4096x128x1 ![0, 0, 3] · slices_S4096x128x4_S4096x128x1_0_0_3) : (⟨S4096x128x4, .i32⟩ : BufTy).Contents (Elt F) → (⟨S4096x128x1, .i32⟩ : BufTy).Contents (Elt F)),
   StableHlo.reshape main_v6 main_v7 (rfl : (.i32 : EltTy) = .i32) shapeCasts_S4096x128x1_S4096x128,
   StableHlo.unary main_arg0 main_v8 ((extractStridedSlice S4096x128x1 ![0, 0, 0] · slices_S4096x128x2_S4096x128x1_0_0_0) : (⟨S4096x128x2, .f32⟩ : BufTy).Contents (Elt F) → (⟨S4096x128x1, .f32⟩ : BufTy).Contents (Elt F)),
   StableHlo.reshape main_v8 main_v9 (rfl : (.f32 : EltTy) = .f32) shapeCasts_S4096x128x1_S4096x128,
   StableHlo.unary main_arg0 main_v10 ((extractStridedSlice S4096x128x1 ![0, 0, 1] · slices_S4096x128x2_S4096x128x1_0_0_1) : (⟨S4096x128x2, .f32⟩ : BufTy).Contents (Elt F) → (⟨S4096x128x1, .f32⟩ : BufTy).Contents (Elt F)),
   StableHlo.reshape main_v10 main_v11 (rfl : (.f32 : EltTy) = .f32) shapeCasts_S4096x128x1_S4096x128]

/-- between it and the SparseCore call, -/
def ops2 : List (HloOp τ sig (Elt F)) :=
  [StableHlo.unary main_v12_0 main_v13 (broadcastInDim S4096x128x1 ![0, 1] bcast_S4096x128_S4096x128x1_0_1 : (⟨S4096x128, .f32⟩ : BufTy).Contents (Elt F) → (⟨S4096x128x1, .f32⟩ : BufTy).Contents (Elt F)),
   StableHlo.unary main_v12_1 main_v14 (broadcastInDim S4096x128x1 ![0, 1] bcast_S4096x128_S4096x128x1_0_1 : (⟨S4096x128, .f32⟩ : BufTy).Contents (Elt F) → (⟨S4096x128x1, .f32⟩ : BufTy).Contents (Elt F)),
   StableHlo.binary main_v13 main_v14 main_v15 ((fun a b => concatenate S4096x128x2 2 [⟨S4096x128x1, a⟩, ⟨S4096x128x1, b⟩] concatenates_S4096x128x1_S4096x128x1_S4096x128x2_d2) : (⟨S4096x128x1, .f32⟩ : BufTy).Contents (Elt F) → (⟨S4096x128x1, .f32⟩ : BufTy).Contents (Elt F) → (⟨S4096x128x2, .f32⟩ : BufTy).Contents (Elt F)),
   StableHlo.unary main_arg1 main_v16 ((extractStridedSlice S2000000x1 ![0, 0] · slices_S2000000x8_S2000000x1_0_0) : (⟨S2000000x8, .i32⟩ : BufTy).Contents (Elt F) → (⟨S2000000x1, .i32⟩ : BufTy).Contents (Elt F)),
   StableHlo.reshape main_v16 main_v17 (rfl : (.i32 : EltTy) = .i32) shapeCasts_S2000000x1_S2000000,
   StableHlo.unary main_arg1 main_v18 ((extractStridedSlice S2000000x1 ![0, 7] · slices_S2000000x8_S2000000x1_0_7) : (⟨S2000000x8, .i32⟩ : BufTy).Contents (Elt F) → (⟨S2000000x1, .i32⟩ : BufTy).Contents (Elt F)),
   StableHlo.reshape main_v18 main_v19 (rfl : (.i32 : EltTy) = .i32) shapeCasts_S2000000x1_S2000000,
   StableHlo.unary main_arg1 main_v20 ((extractStridedSlice S2000000x1 ![0, 1] · slices_S2000000x8_S2000000x1_0_1) : (⟨S2000000x8, .i32⟩ : BufTy).Contents (Elt F) → (⟨S2000000x1, .i32⟩ : BufTy).Contents (Elt F)),
   StableHlo.reshape main_v20 main_v21 (rfl : (.i32 : EltTy) = .i32) shapeCasts_S2000000x1_S2000000,
   StableHlo.unary main_arg1 main_v22 ((extractStridedSlice S2000000x1 ![0, 2] · slices_S2000000x8_S2000000x1_0_2) : (⟨S2000000x8, .i32⟩ : BufTy).Contents (Elt F) → (⟨S2000000x1, .i32⟩ : BufTy).Contents (Elt F)),
   StableHlo.reshape main_v22 main_v23 (rfl : (.i32 : EltTy) = .i32) shapeCasts_S2000000x1_S2000000]

/-- and after that. -/
def ops3 : List (HloOp τ sig (Elt F)) :=
  [StableHlo.unary main_arg1 main_v25 ((extractStridedSlice S2000000x1 ![0, 0] · slices_S2000000x8_S2000000x1_0_0) : (⟨S2000000x8, .i32⟩ : BufTy).Contents (Elt F) → (⟨S2000000x1, .i32⟩ : BufTy).Contents (Elt F)),
   StableHlo.reshape main_v25 main_v26 (rfl : (.i32 : EltTy) = .i32) shapeCasts_S2000000x1_S2000000,
   StableHlo.unary main_arg1 main_v27 ((extractStridedSlice S2000000x1 ![0, 3] · slices_S2000000x8_S2000000x1_0_3) : (⟨S2000000x8, .i32⟩ : BufTy).Contents (Elt F) → (⟨S2000000x1, .i32⟩ : BufTy).Contents (Elt F)),
   StableHlo.reshape main_v27 main_v28 (rfl : (.i32 : EltTy) = .i32) shapeCasts_S2000000x1_S2000000,
   StableHlo.unary main_arg1 main_v29 ((extractStridedSlice S2000000x1 ![0, 4] · slices_S2000000x8_S2000000x1_0_4) : (⟨S2000000x8, .i32⟩ : BufTy).Contents (Elt F) → (⟨S2000000x1, .i32⟩ : BufTy).Contents (Elt F)),
   StableHlo.reshape main_v29 main_v30 (rfl : (.i32 : EltTy) = .i32) shapeCasts_S2000000x1_S2000000,
   StableHlo.unary main_arg1 main_v31 ((extractStridedSlice S2000000x1 ![0, 5] · slices_S2000000x8_S2000000x1_0_5) : (⟨S2000000x8, .i32⟩ : BufTy).Contents (Elt F) → (⟨S2000000x1, .i32⟩ : BufTy).Contents (Elt F)),
   StableHlo.reshape main_v31 main_v32 (rfl : (.i32 : EltTy) = .i32) shapeCasts_S2000000x1_S2000000,
   StableHlo.unary main_arg1 main_v33 ((extractStridedSlice S2000000x1 ![0, 6] · slices_S2000000x8_S2000000x1_0_6) : (⟨S2000000x8, .i32⟩ : BufTy).Contents (Elt F) → (⟨S2000000x1, .i32⟩ : BufTy).Contents (Elt F)),
   StableHlo.reshape main_v33 main_v34 (rfl : (.i32 : EltTy) = .i32) shapeCasts_S2000000x1_S2000000,
   StableHlo.unary main_arg1 main_v35 ((extractStridedSlice S2000000x1 ![0, 7] · slices_S2000000x8_S2000000x1_0_7) : (⟨S2000000x8, .i32⟩ : BufTy).Contents (Elt F) → (⟨S2000000x1, .i32⟩ : BufTy).Contents (Elt F)),
   StableHlo.reshape main_v35 main_v36 (rfl : (.i32 : EltTy) = .i32) shapeCasts_S2000000x1_S2000000,
   StableHlo.unary main_v26 main_v37 (broadcastInDim S2000000x1 ![0] bcast_S2000000_S2000000x1_0 : (⟨S2000000, .i32⟩ : BufTy).Contents (Elt F) → (⟨S2000000x1, .i32⟩ : BufTy).Contents (Elt F)),
   StableHlo.unary main_v24_0 main_v38 (broadcastInDim S2000000x1 ![0] bcast_S2000000_S2000000x1_0 : (⟨S2000000, .i32⟩ : BufTy).Contents (Elt F) → (⟨S2000000x1, .i32⟩ : BufTy).Contents (Elt F)),
   StableHlo.unary main_v24_1 main_v39 (broadcastInDim S2000000x1 ![0] bcast_S2000000_S2000000x1_0 : (⟨S2000000, .i32⟩ : BufTy).Contents (Elt F) → (⟨S2000000x1, .i32⟩ : BufTy).Contents (Elt F)),
   StableHlo.unary main_v28 main_v40 (broadcastInDim S2000000x1 ![0] bcast_S2000000_S2000000x1_0 : (⟨S2000000, .i32⟩ : BufTy).Contents (Elt F) → (⟨S2000000x1, .i32⟩ : BufTy).Contents (Elt F)),
   StableHlo.unary main_v30 main_v41 (broadcastInDim S2000000x1 ![0] bcast_S2000000_S2000000x1_0 : (⟨S2000000, .i32⟩ : BufTy).Contents (Elt F) → (⟨S2000000x1, .i32⟩ : BufTy).Contents (Elt F)),
   StableHlo.unary main_v32 main_v42 (broadcastInDim S2000000x1 ![0] bcast_S2000000_S2000000x1_0 : (⟨S2000000, .i32⟩ : BufTy).Contents (Elt F) → (⟨S2000000x1, .i32⟩ : BufTy).Contents (Elt F)),
   StableHlo.unary main_v34 main_v43 (broadcastInDim S2000000x1 ![0] bcast_S2000000_S2000000x1_0 : (⟨S2000000, .i32⟩ : BufTy).Contents (Elt F) → (⟨S2000000x1, .i32⟩ : BufTy).Contents (Elt F)),
   StableHlo.unary main_v36 main_v44 (broadcastInDim S2000000x1 ![0] bcast_S2000000_S2000000x1_0 : (⟨S2000000, .i32⟩ : BufTy).Contents (Elt F) → (⟨S2000000x1, .i32⟩ : BufTy).Contents (Elt F)),
   StableHlo.nary ![main_v37, main_v38, main_v39, main_v40, main_v41, main_v42, main_v43, main_v44] main_v45 (fun u => (concatenate S2000000x8 1 [⟨S2000000x1, (u 0 : (⟨S2000000x1, .i32⟩ : BufTy).Contents (Elt F))⟩, ⟨S2000000x1, (u 1 : (⟨S2000000x1, .i32⟩ : BufTy).Contents (Elt F))⟩, ⟨S2000000x1, (u 2 : (⟨S2000000x1, .i32⟩ : BufTy).Contents (Elt F))⟩, ⟨S2000000x1, (u 3 : (⟨S2000000x1, .i32⟩ : BufTy).Contents (Elt F))⟩, ⟨S2000000x1, (u 4 : (⟨S2000000x1, .i32⟩ : BufTy).Contents (Elt F))⟩, ⟨S2000000x1, (u 5 : (⟨S2000000x1, .i32⟩ : BufTy).Contents (Elt F))⟩, ⟨S2000000x1, (u 6 : (⟨S2000000x1, .i32⟩ : BufTy).Contents (Elt F))⟩, ⟨S2000000x1, (u 7 : (⟨S2000000x1, .i32⟩ : BufTy).Contents (Elt F))⟩] concatenates_S2000000x1_S2000000x1_S2000000x1_S2000000x1_S2000000x1_S2000000x1_S2000000x1_S2000000x1_S2000000x8_d1 : (⟨S2000000x8, .i32⟩ : BufTy).Contents (Elt F)))]

theorem main_eq (d : Dev nD) : main (F := F) d = StableHlo.seq ops1 >>= fun _ => Prog.lift (.customCall (SparseCore.inner (Pipeline.entry 0)) ()) >>= fun _ =>
    StableHlo.seq ops2 >>= fun _ => (sc (F := F)).run d 0 >>= fun _ => StableHlo.seq ops3 := by
  unfold main ops1 ops2 ops3
  simp only [StableHlo.seq, bind_assoc, pure_bind]

/-! ## The two programs are one -/

theorem ops1_same : ops1 (F := Bits) = Sc.ops1 (F := Bits) := rfl
theorem ops2_same : ops2 (F := Bits) = Sc.ops2 (F := Bits) := rfl
theorem ops3_same : ops3 (F := Bits) = Sc.ops3 (F := Bits) := rfl

end Cert.Proof.Printed

namespace Cert.Proof
open Idealize.ShloMosaic Idealize.SL.Sem

attribute [local instance] Cert.Kernel.Gen.facts Cert.KernelIdeal.Gen.facts
set_option maxHeartbeats 1000000

theorem tc_same : Cert.Kernel.cc0__tc_body (F := Bits) = Cert.KernelIdeal.cc0__tc_body (F := Bits) := rfl
theorem sc_same : Cert.Kernel.cc1__sc_body (F := Bits) = Cert.KernelIdeal.cc1__sc_body (F := Bits) := rfl
theorem table_same : Cert.Kernel.defs₀ (F := Bits) = Cert.KernelIdeal.defs₀ (F := Bits) := by
  funext p l a
  match p, l, a with
  | .tc, 0, (t, s) => rfl
  | .tc, 1, _ => rfl
  | .scScalar _, 0, _ => rfl
  | .scScalar _, 1, _ => rfl
  | .scVector _ _, 0, _ => rfl
  | .scVector c s, 1, _ => rfl
open Cert.KernelIdeal in
/-- Lines around two calls. -/
def around (Λ : Labels) (o₁ o₂ o₃ : List (HloOp τ sig (Elt Bits))) (c₁ c₂ : Prog (TpuEff nD τ sig (Elt Bits) Λ .tc) PUnit) : Prog (TpuEff nD τ sig (Elt Bits) Λ .tc) PUnit :=
  StableHlo.seq o₁ >>= fun _ => c₁ >>= fun _ => StableHlo.seq o₂ >>= fun _ => c₂ >>= fun _ => StableHlo.seq o₃

theorem main_same : Cert.Kernel.main (F := Bits) = Cert.KernelIdeal.main (F := Bits) := by
  funext d
  have h : Cert.Kernel.main (F := Bits) d = around _ (Printed.ops1 (F := Bits)) (Printed.ops2 (F := Bits)) (Printed.ops3 (F := Bits)) (Prog.lift (.customCall (SparseCore.inner (Pipeline.entry 0)) ())) ((Cert.Kernel.sc (F := Bits)).run d 0) := Printed.main_eq d
  have h' : Cert.KernelIdeal.main (F := Bits) d = around _ (Sc.ops1 (F := Bits)) (Sc.ops2 (F := Bits)) (Sc.ops3 (F := Bits)) (Prog.lift (.customCall (SparseCore.inner (Pipeline.entry 0)) ())) ((Cert.KernelIdeal.sc (F := Bits)).run d 0) := Sc.main_eq d
  rw [Printed.ops1_same, Printed.ops2_same, Printed.ops3_same] at h
  exact h.trans h'.symm

theorem threads_same : Cert.Kernel.threads (F := Bits) = Cert.KernelIdeal.threads (F := Bits) :=
  congrArg (fun p => (Cert.KernelIdeal.sc (F := Bits)).threads p) main_same
theorem defs_same : Cert.Kernel.defs (F := Bits) = Cert.KernelIdeal.defs (F := Bits) :=
  congrArg (fun p => (Cert.KernelIdeal.sc (F := Bits)).defs (Pipeline.defs Cert.KernelIdeal.pcfgs p)) table_same

/-- The printed kernel's frame, from its idealization's run. -/
theorem frame_kernel : Cert.quiescent_Kernel (hKernel := Cert.Kernel.Gen.facts) (hPre_agents_named := factsNamed) := fun m ρ h =>
  (congrArg₂ (fun D T => θ_run D T ⟨m, fun _ => 0, ρ⟩ _) defs_same threads_same).mpr
    (frame_of_named (F := Bits) m ρ fun c => @named_of_agents Bits _ factsNamed _ _ _ _ _ (h c))

end Cert.Proof

end
-- ==== Proof.Results.lean ====
/-
  What the kernel's three results hold at the end, entry by entry, as terms in the arguments.
-/
module

public import proofs.«01_k».proof.Proof.Ends
public import Idealize.ShloMosaic.Lib.Pointwise

@[expose] public section

noncomputable section

namespace Cert.Proof.Sc

open Cert.KernelIdeal Cert.KernelIdeal.Gen
open Idealize.ShloMosaic Idealize.ShloMosaic.TcCoe Idealize.ShloMosaic.Tactic
open Idealize.ShloMosaic.SparseCore.Cfg (HIx Pay)
variable {F : FTy → Type}
variable [FloatOps F]

/-! ## The arrays of the first call -/

theorem V1_v1 (m : Mem F) (c : Dev nD) (e : Fin 4096) (a : Fin 128) : V1 m c main_v1 (ix2 e a) = m (c, main_arg3) (ix3 e a (0 : Fin 4)) := by
  have h : V1 m c main_v1 = shapeCast S4096x128 (extractStridedSlice S4096x128x1 ![0, 0, 0] (m (c, main_arg3)) slices_S4096x128x4_S4096x128x1_0_0_0) shapeCasts_S4096x128x1_S4096x128 := by
    unfold V1 W1 ops1; after_results_simp; rfl
  rw [h]; pointwise
theorem V1_v3 (m : Mem F) (c : Dev nD) (e : Fin 4096) (a : Fin 128) : V1 m c main_v3 (ix2 e a) = m (c, main_arg3) (ix3 e a (1 : Fin 4)) := by
  have h : V1 m c main_v3 = shapeCast S4096x128 (extractStridedSlice S4096x128x1 ![0, 0, 1] (m (c, main_arg3)) slices_S4096x128x4_S4096x128x1_0_0_1) shapeCasts_S4096x128x1_S4096x128 := by
    unfold V1 W1 ops1; after_results_simp; rfl
  rw [h]; pointwise
theorem V1_v5 (m : Mem F) (c : Dev nD) (e : Fin 4096) (a : Fin 128) : V1 m c main_v5 (ix2 e a) = m (c, main_arg3) (ix3 e a (2 : Fin 4)) := by
  have h : V1 m c main_v5 = shapeCast S4096x128 (extractStridedSlice S4096x128x1 ![0, 0, 2] (m (c, main_arg3)) slices_S4096x128x4_S4096x128x1_0_0_2) shapeCasts_S4096x128x1_S4096x128 := by
    unfold V1 W1 ops1; after_results_simp; rfl
  rw [h]; pointwise
theorem V1_v7 (m : Mem F) (c : Dev nD) (e : Fin 4096) (a : Fin 128) : V1 m c main_v7 (ix2 e a) = m (c, main_arg3) (ix3 e a (3 : Fin 4)) := by
  have h : V1 m c main_v7 = shapeCast S4096x128 (extractStridedSlice S4096x128x1 ![0, 0, 3] (m (c, main_arg3)) slices_S4096x128x4_S4096x128x1_0_0_3) shapeCasts_S4096x128x1_S4096x128 := by
    unfold V1 W1 ops1; after_results_simp; rfl
  rw [h]; pointwise
theorem V1_v9 (m : Mem F) (c : Dev nD) (e : Fin 4096) (a : Fin 128) : V1 m c main_v9 (ix2 e a) = m (c, main_arg0) (ix3 e a (0 : Fin 2)) := by
  have h : V1 m c main_v9 = shapeCast S4096x128 (extractStridedSlice S4096x128x1 ![0, 0, 0] (m (c, main_arg0)) slices_S4096x128x2_S4096x128x1_0_0_0) shapeCasts_S4096x128x1_S4096x128 := by
    unfold V1 W1 ops1; after_results_simp; rfl
  rw [h]; pointwise
theorem V1_v11 (m : Mem F) (c : Dev nD) (e : Fin 4096) (a : Fin 128) : V1 m c main_v11 (ix2 e a) = m (c, main_arg0) (ix3 e a (1 : Fin 2)) := by
  have h : V1 m c main_v11 = shapeCast S4096x128 (extractStridedSlice S4096x128x1 ![0, 0, 1] (m (c, main_arg0)) slices_S4096x128x2_S4096x128x1_0_0_1) shapeCasts_S4096x128x1_S4096x128 := by
    unfold V1 W1 ops1; after_results_simp; rfl
  rw [h]; pointwise
theorem V1_arg4 (m : Mem F) (c : Dev nD) : V1 m c main_arg4 = m (c, main_arg4) := W1_arg m c main_arg4 (by decide)

/-! ## The results -/

theorem W5_v12_2 (m : Mem F) (c : Dev nD) : W5 m c main_v12_2 = lens (V1 m) c := by
  have h : W5 m c main_v12_2 = W4 m c main_v12_2 := by unfold W5 ops3; after_results_simp
  have h' : W3 m c main_v12_2 = W2 m c main_v12_2 := by unfold W3 ops2; after_results_simp
  exact (h.trans (W4_ne m c main_v12_2 (by decide) (by decide))).trans (h'.trans (V2_2 m c))

theorem W5_v15 (m : Mem F) (c : Dev nD) : W5 m c main_v15
    = concatenate S4096x128x2 2 [⟨S4096x128x1, broadcastInDim S4096x128x1 ![0, 1] bcast_S4096x128_S4096x128x1_0_1 (newX (V1 m) c)⟩,
        ⟨S4096x128x1, broadcastInDim S4096x128x1 ![0, 1] bcast_S4096x128_S4096x128x1_0_1 (newY (V1 m) c)⟩] concatenates_S4096x128x1_S4096x128x1_S4096x128x2_d2 := by
  have h : W5 m c main_v15 = W4 m c main_v15 := by unfold W5 ops3; after_results_simp
  have h' : W3 m c main_v15 = concatenate S4096x128x2 2 [⟨S4096x128x1, broadcastInDim S4096x128x1 ![0, 1] bcast_S4096x128_S4096x128x1_0_1 (W2 m c main_v12_0)⟩,
        ⟨S4096x128x1, broadcastInDim S4096x128x1 ![0, 1] bcast_S4096x128_S4096x128x1_0_1 (W2 m c main_v12_1)⟩] concatenates_S4096x128x1_S4096x128x1_S4096x128x2_d2 := by
    unfold W3 ops2; after_results_simp; rfl
  rw [h, W4_ne m c main_v15 (by decide) (by decide), h', show W2 m c main_v12_0 = _ from V2_0 m c, show W2 m c main_v12_1 = _ from V2_1 m c]

theorem W4_arg1 (m : Mem F) (c : Dev nD) : W4 m c main_arg1 = m (c, main_arg1) :=
  (W4_ne m c main_arg1 (by decide) (by decide)).trans (W3_arg m c main_arg1 (by decide))

/-- A column as an array of one column. -/
def asCol (x : Wide) : S2000000x1.Idx → BitVec 32 := broadcastInDim S2000000x1 ![0] bcast_S2000000_S2000000x1_0 x

theorem W5_v45 (m : Mem F) (c : Dev nD) : W5 m c main_v45
    = concatenate S2000000x8 1 [⟨S2000000x1, asCol (colK 0 slices_S2000000x8_S2000000x1_0_0 (m (c, main_arg1)))⟩,
        ⟨S2000000x1, asCol (callData m c).g1⟩, ⟨S2000000x1, asCol (callData m c).g2⟩,
        ⟨S2000000x1, asCol (colK 3 slices_S2000000x8_S2000000x1_0_3 (m (c, main_arg1)))⟩,
        ⟨S2000000x1, asCol (colK 4 slices_S2000000x8_S2000000x1_0_4 (m (c, main_arg1)))⟩,
        ⟨S2000000x1, asCol (colK 5 slices_S2000000x8_S2000000x1_0_5 (m (c, main_arg1)))⟩,
        ⟨S2000000x1, asCol (colK 6 slices_S2000000x8_S2000000x1_0_6 (m (c, main_arg1)))⟩,
        ⟨S2000000x1, asCol (colK 7 slices_S2000000x8_S2000000x1_0_7 (m (c, main_arg1)))⟩]
        concatenates_S2000000x1_S2000000x1_S2000000x1_S2000000x1_S2000000x1_S2000000x1_S2000000x1_S2000000x1_S2000000x8_d1 := by
  rw [← W4_arg1 m c, ← W4_1 m c, ← W4_2 m c]
  unfold W5 ops3; after_results_simp; rfl

end Cert.Proof.Sc

end
-- ==== Proof.Fiber.lean ====
/-
  A reference's arg-min along the last axis of a rank-3 array, read at an index: a fold over that axis in order.
-/
module

public import Idealize.ShloMosaic.Lib.Pointwise
public import Mathlib.Data.List.Sort

@[expose] public section

noncomputable section

namespace Cert.Proof.Ref

open Idealize.ShloMosaic

variable {A B K : ℕ} {α β : Type}

/-- Dropping the last axis keeps the first two coordinates. -/
theorem drop_last (h : (⟨3, ![A, B, K]⟩ : Shape).ReducesTo [2] ⟨2, ![A, B]⟩) (i : (⟨3, ![A, B, K]⟩ : Shape).Idx) :
    h.drop i = ix2 (n0 := A) (n1 := B) (i 0) (i 1) := by
  funext b
  match b with
  | ⟨0, _⟩ => exact Fin.ext rfl
  | ⟨1, _⟩ => exact Fin.ext rfl

/-- The pairs folded at `(e, a)`, in order. -/
theorem fiber_last (h : (⟨3, ![A, B, K]⟩ : Shape).ReducesTo [2] ⟨2, ![A, B]⟩) (x : (⟨3, ![A, B, K]⟩ : Shape).Idx → α)
    (y : (⟨3, ![A, B, K]⟩ : Shape).Idx → β) (e : Fin A) (a : Fin B) :
    Host.argReduceFiber x y h (ix2 e a) = (List.finRange K).map fun k => (x (ix3 e a k), y (ix3 e a k)) := by
  have key : (List.finRange (⟨3, ![A, B, K]⟩ : Shape).numel).filter (fun n => decide (h.drop ((⟨3, ![A, B, K]⟩ : Shape).rowMajor.symm n) = ix2 e a))
      = (List.finRange K).map fun k => (⟨3, ![A, B, K]⟩ : Shape).rowMajor (ix3 e a k) := by
    apply List.Pairwise.eq_of_mem_iff (r := (· < ·))
    · exact List.Pairwise.filter _ (List.pairwise_lt_finRange _)
    · rw [List.pairwise_map]
      refine (List.pairwise_lt_finRange K).imp fun {k l} hkl => ?_
      rw [Fin.lt_def, Shape.rowMajor_val_three, Shape.rowMajor_val_three]
      show (e.val * B + a.val) * K + k.val < (e.val * B + a.val) * K + l.val
      exact Nat.add_lt_add_left hkl _
    · intro n
      simp only [List.mem_filter, List.mem_finRange, true_and, decide_eq_true_eq, List.mem_map]
      constructor
      · intro hd
        obtain ⟨h0, h1⟩ := (ix2_inj _ _ _ _).1 ((drop_last h _).symm.trans hd)
        refine ⟨((⟨3, ![A, B, K]⟩ : Shape).rowMajor.symm n) 2, ?_⟩
        refine (Equiv.eq_symm_apply _).1 (Eq.trans ?_ (eq_ix3 _).symm)
        exact (ix3_inj _ _ _ _ _ _).2 ⟨h0.symm, h1.symm, rfl⟩
      · rintro ⟨k, rfl⟩
        rw [Equiv.symm_apply_apply]
        exact drop_last h _
  unfold Host.argReduceFiber
  rw [key, List.map_map]
  refine List.map_congr_left fun k _ => ?_
  simp only [Function.comp_apply, Equiv.symm_apply_apply]

/-- The arg-min at `(e, a)` as a fold along the last axis. -/
theorem argReduce_last {u : Shape} {φ : FTy} (f : Ideal φ × β → Ideal φ × β → Ideal φ × β) (x : FVec Ideal ⟨3, ![A, B, K]⟩ φ)
    (y : (⟨3, ![A, B, K]⟩ : Shape).Idx → β) (ix : u.Idx → Ideal φ) (iy : u.Idx → β)
    (h : (⟨3, ![A, B, K]⟩ : Shape).ReducesTo [2] ⟨2, ![A, B]⟩) (hu : 0 < u.numel) (e : Fin A) (a : Fin B) :
    Host.argReduce f x y ix iy h hu (ix2 e a)
      = ((List.finRange K).map fun k => (x (ix3 e a k), y (ix3 e a k))).foldl f (ix (Shape.Idx.first hu), iy (Shape.Idx.first hu)) := by
  rw [Ideal.argReduce_eq_reduce2, Host.reduce2_eq_foldl_fiber, fiber_last]

end Cert.Proof.Ref

end
-- ==== Proof.Argmin.lean ====
/-
  The least of nine: the reference's fold over pairs (value, place) and the kernel's fold over squared distances choose
  the same move, where the one's values are ordered as the other's.
-/
module

public import proofs.«01_k».proof.Proof.RefRun
public import proofs.«01_k».proof.Proof.Moves
public import proofs.«01_k».proof.Proof.Fiber
public import Idealize.ShloMosaic.Lib.WordCmp

@[expose] public section

noncomputable section

namespace Cert.Proof.Ref

open Idealize.ShloMosaic Idealize.ShloMosaic.WordCmp

/-- A choice by a compared pair. -/
theorem select_dec {α : Type} (p : Prop) [Decidable p] (a b : α) : Scalar.select (BitVec.ofBool (decide p)) a b = if p then a else b := by
  unfold Scalar.select
  by_cases h : p
  · rw [if_pos h, if_pos ((ofBool_eq_one_iff' _).2 (decide_eq_true h))]
  · rw [if_neg h, if_neg fun h' => h (of_decide_eq_true ((ofBool_eq_one_iff' _).1 h'))]

/-- The reference's step: keep the first of two while it is the smaller, or as small and earlier. -/
theorem reducer_eq (a b : Ideal .f32 × BitVec 32) :
    Cert.ReferenceIdeal.reducer_argmin_f32_i32 (F := Ideal) a b
      = (if (a.1 : EReal) < b.1 then a.1 else b.1, if (a.1 : EReal) < b.1 ∨ ((a.1 : EReal) = b.1 ∧ a.2.toInt < b.2.toInt) then a.2 else b.2) := by
  have h1 : ∀ x y : Ideal .f32, FloatOps.cmpf (F := Ideal) (φ := .f32) .olt x y = BitVec.ofBool (decide ((x : EReal) < y)) := fun _ _ => rfl
  have h2 : ∀ x y : Ideal .f32, FloatOps.cmpf (F := Ideal) (φ := .f32) .une x y = BitVec.ofBool (decide ((x : EReal) ≠ y)) := fun _ _ => rfl
  have h3 : ∀ x y : Ideal .f32, FloatOps.cmpf (F := Ideal) (φ := .f32) .oeq x y = BitVec.ofBool (decide ((x : EReal) = y)) := fun _ _ => rfl
  unfold Cert.ReferenceIdeal.reducer_argmin_f32_i32
  simp only [h1, h2, h3, cmpi_slt_eq, andi_ofBool, ori_ofBool, ne_eq, not_true_eq_false, decide_false, Bool.or_false,
    ← Bool.decide_and, ← Bool.decide_or, select_dec]

variable {x : Fin 9 → EReal} {q u v : Fin 9 → BitVec 32}

/-- After `n` places: nothing chosen yet, or both hold place `b`. -/
def Agree (x : Fin 9 → EReal) (q u v : Fin 9 → BitVec 32) (n : ℕ) (s : Ideal .f32 × BitVec 32) (t : BitVec 32 × BitVec 32 × BitVec 32) : Prop :=
  (n = 0 ∧ s.1 = (⊤ : EReal) ∧ t.1 = 2147483647#32)
    ∨ ∃ b : Fin 9, b.val < n ∧ s = (x b, BitVec.ofNat 32 b.val) ∧ t = (q b, u b, v b)

/-- The kernel's step. -/
def take (q u v : Fin 9 → BitVec 32) (t : BitVec 32 × BitVec 32 × BitVec 32) (k : Fin 9) : BitVec 32 × BitVec 32 × BitVec 32 :=
  (Scalar.select (IntOp.cmpi .slt (q k) t.1) (q k) t.1, Scalar.select (IntOp.cmpi .slt (q k) t.1) (u k) t.2.1, Scalar.select (IntOp.cmpi .slt (q k) t.1) (v k) t.2.2)

theorem toInt_place (b : Fin 9) : (BitVec.ofNat 32 b.val).toInt = (b.val : ℤ) := by
  revert b; decide

/-- One place looked at by both. -/
theorem agree_step (hlt : ∀ i j, x i < x j ↔ (q i).toInt < (q j).toInt) (htop : ∀ i, x i < ⊤) (hmax : ∀ i, (q i).toInt < 2147483647)
    (k : Fin 9) (n : ℕ) (hk : k.val = n) {s : Ideal .f32 × BitVec 32} {t : BitVec 32 × BitVec 32 × BitVec 32} (h : Agree x q u v n s t) :
    Agree x q u v (n + 1) (Cert.ReferenceIdeal.reducer_argmin_f32_i32 (F := Ideal) s (x k, BitVec.ofNat 32 k.val)) (take q u v t k) := by
  right
  rw [reducer_eq]
  unfold take
  simp only [cmpi_slt_eq, select_dec]
  rcases h with ⟨rfl, hs, ht⟩ | ⟨b, hb, rfl, rfl⟩
  · have hn : ¬ (s.1 : EReal) < x k := by rw [hs]; exact not_top_lt
    have he : ¬ (s.1 : EReal) = x k := by rw [hs]; exact (htop k).ne'
    have hm : (q k).toInt < t.1.toInt := by rw [ht]; exact hmax k
    refine ⟨k, by omega, ?_, ?_⟩
    · rw [if_neg hn, if_neg (by rintro (h | ⟨h, _⟩); exacts [hn h, he h])]
    · simp only [if_pos hm]
  · dsimp only
    by_cases hq : (q k).toInt < (q b).toInt
    · have hx : x k < x b := (hlt k b).2 hq
      refine ⟨k, by omega, ?_, ?_⟩
      · rw [if_neg hx.not_gt, if_neg (by rintro (h | ⟨h, _⟩); exacts [hx.not_gt h, hx.ne' h])]
      · simp only [if_pos hq]
    · have hx : ¬ x k < x b := fun h => hq ((hlt k b).1 h)
      refine ⟨b, by omega, ?_, ?_⟩
      · rcases lt_or_eq_of_le (not_lt.1 hx) with h | h
        · rw [if_pos h, if_pos (Or.inl h)]
        · rw [if_neg (by rw [h]; exact lt_irrefl _), if_pos (Or.inr ⟨h, by rw [toInt_place, toInt_place]; omega⟩), h]
      · simp only [if_neg hq]

/-- Both folds, whole. -/
theorem agree_all (hlt : ∀ i j, x i < x j ↔ (q i).toInt < (q j).toInt) (htop : ∀ i, x i < ⊤) (hmax : ∀ i, (q i).toInt < 2147483647) (i0 : BitVec 32) :
    ∃ b : Fin 9, (((List.finRange 9).map fun k => ((x k : Ideal .f32), BitVec.ofNat 32 k.val)).foldl (Cert.ReferenceIdeal.reducer_argmin_f32_i32 (F := Ideal)) ((⊤ : EReal), i0)).2
        = BitVec.ofNat 32 b.val
      ∧ (List.finRange 9).foldl (take q u v) (2147483647#32, 0#32, 0#32) = (q b, u b, v b) := by
  have all : ∀ n : ℕ, n ≤ 9 → ∀ l : List (Fin 9), l = (List.finRange 9).take n →
      Agree x q u v n ((l.map fun k => ((x k : Ideal .f32), BitVec.ofNat 32 k.val)).foldl (Cert.ReferenceIdeal.reducer_argmin_f32_i32 (F := Ideal)) ((⊤ : EReal), i0))
        (l.foldl (take q u v) (2147483647#32, 0#32, 0#32)) := by
    intro n
    induction n with
    | zero => rintro _ _ rfl; exact Or.inl ⟨rfl, rfl, rfl⟩
    | succ n ih =>
      rintro hn _ rfl
      rw [List.take_succ_eq_append_getElem (by rw [List.length_finRange]; omega), List.map_append, List.foldl_append, List.foldl_append]
      simp only [List.map_cons, List.map_nil, List.foldl_cons, List.foldl_nil]
      exact agree_step hlt htop hmax _ n (by rw [List.getElem_finRange]; rfl) (ih (by omega) _ rfl)
  rcases all 9 le_rfl _ (List.take_of_length_le (by rw [List.length_finRange])).symm with ⟨h, _⟩ | ⟨b, _, hs, ht⟩
  · omega
  · exact ⟨b, by rw [hs], ht⟩

/-- The kernel's search over its nine moves is that fold. -/
theorem upto_eq (dirs : Sc.Dirs) (cx cy tx ty : BitVec 32) :
    Sc.upto dirs cx cy tx ty 9 = (List.finRange 9).foldl (take (Sc.sqd dirs cx cy tx ty) (fun k => dirs (Sc.dirIx k 0)) fun k => dirs (Sc.dirIx k 1)) (2147483647#32, 0#32, 0#32) := rfl

end Cert.Proof.Ref

end
-- ==== Proof.Dist.lean ====
/-
  Squared distances: what the reference's square roots and the kernel's words say of each other.
-/
module

public import proofs.«01_k».proof.Proof.Argmin

@[expose] public section

noncomputable section

namespace Cert.Proof.Ref

open Idealize.ShloMosaic Idealize.ShloMosaic.WordCmp

/-- The reference's distance of two signed differences. -/
def dist2 (a b : BitVec 32) : EReal :=
  Ideal.sqrt (∑ c : Fin 2, FloatOps.sitofp (F := Ideal) .f32 (![a, b] c) * FloatOps.sitofp (F := Ideal) .f32 (![a, b] c))

theorem dist2_eq (a b : BitVec 32) : dist2 a b = ((Real.sqrt (((a.toInt ^ 2 + b.toInt ^ 2 : ℤ)) : ℝ) : ℝ) : EReal) := by
  have h : (∑ c : Fin 2, FloatOps.sitofp (F := Ideal) .f32 (![a, b] c) * FloatOps.sitofp (F := Ideal) .f32 (![a, b] c) : EReal)
      = (((a.toInt ^ 2 + b.toInt ^ 2 : ℤ) : ℝ) : EReal) := by
    rw [Fin.sum_univ_two]
    show (((a.toInt : ℝ) : EReal) * ((a.toInt : ℝ) : EReal) + ((b.toInt : ℝ) : EReal) * ((b.toInt : ℝ) : EReal)) = _
    rw [← EReal.coe_mul, ← EReal.coe_mul, ← EReal.coe_add]
    congr 1
    push_cast
    ring
  unfold dist2
  rw [h, Ideal.sqrt_coe, if_neg]
  have : (0 : ℤ) ≤ a.toInt ^ 2 + b.toInt ^ 2 := by positivity
  exact not_lt.2 (by exact_mod_cast this)

theorem dist2_lt_top (a b : BitVec 32) : dist2 a b < ⊤ := by rw [dist2_eq]; exact EReal.coe_lt_top _

/-- Distances are ordered as their squares. -/
theorem dist2_lt (a b a' b' : BitVec 32) : dist2 a b < dist2 a' b' ↔ a.toInt ^ 2 + b.toInt ^ 2 < a'.toInt ^ 2 + b'.toInt ^ 2 := by
  rw [dist2_eq, dist2_eq, EReal.coe_lt_coe_iff, Real.sqrt_lt_sqrt_iff (by positivity)]
  exact_mod_cast Iff.rfl

/-- A word that reads as a given small number. -/
theorem toInt_sum (x y : BitVec 32) (a b : ℤ) (hx : x.toInt = a) (hy : y.toInt = b) (h : -2147483648 ≤ a + b ∧ a + b < 2147483648) : (x + y).toInt = a + b := by
  rw [BitVec.toInt_add, hx, hy]
  exact Int.bmod_eq_of_le (by norm_num; omega) (by norm_num; omega)
theorem toInt_dif (x y : BitVec 32) (a b : ℤ) (hx : x.toInt = a) (hy : y.toInt = b) (h : -2147483648 ≤ a - b ∧ a - b < 2147483648) : (x - y).toInt = a - b := by
  rw [BitVec.toInt_sub, hx, hy]
  exact Int.bmod_eq_of_le (by norm_num; omega) (by norm_num; omega)
theorem toInt_prd (x y : BitVec 32) (a b : ℤ) (hx : x.toInt = a) (hy : y.toInt = b) (h : -2147483648 ≤ a * b ∧ a * b < 2147483648) : (x * y).toInt = a * b := by
  rw [BitVec.toInt_mul, hx, hy]
  exact Int.bmod_eq_of_le (by norm_num; omega) (by norm_num; omega)

/-- The kernel's squared distance of small differences. -/
theorem squares (a b : BitVec 32) (ha : -1024 ≤ a.toInt ∧ a.toInt ≤ 1024) (hb : -1024 ≤ b.toInt ∧ b.toInt ≤ 1024) :
    (a * a + b * b).toInt = a.toInt ^ 2 + b.toInt ^ 2 ∧ a.toInt ^ 2 + b.toInt ^ 2 < 2147483647 := by
  have h1 : 0 ≤ a.toInt * a.toInt ∧ a.toInt * a.toInt ≤ 1048576 := ⟨mul_self_nonneg _, by nlinarith⟩
  have h2 : 0 ≤ b.toInt * b.toInt ∧ b.toInt * b.toInt ≤ 1048576 := ⟨mul_self_nonneg _, by nlinarith⟩
  rw [pow_two, pow_two]
  refine ⟨toInt_sum _ _ _ _ (toInt_prd a a _ _ rfl rfl (by omega)) (toInt_prd b b _ _ rfl rfl (by omega)) (by omega), by omega⟩

/-- A difference of small positions and a step is small. -/
theorem small (c s t : BitVec 32) (hc : c.toNat < 512) (ht : t.toNat < 512) (hs : -1 ≤ s.toInt ∧ s.toInt ≤ 1) :
    -1024 ≤ (c + s - t).toInt ∧ (c + s - t).toInt ≤ 1024 := by
  have hc' : c.toInt = (c.toNat : ℤ) := BitVec.toInt_eq_toNat_of_lt (by omega)
  have ht' : t.toInt = (t.toNat : ℤ) := BitVec.toInt_eq_toNat_of_lt (by omega)
  rw [toInt_dif (c + s) t _ _ (toInt_sum c s _ _ hc' rfl (by omega)) ht' (by omega)]
  omega

/-- The two searches over nine moves from the same small positions choose the same move. -/
theorem same_choice (dirs : Sc.Dirs) (cx cy tx ty i0 : BitVec 32) (hcx : cx.toNat < 512) (hcy : cy.toNat < 512) (htx : tx.toNat < 512) (hty : ty.toNat < 512)
    (hs : ∀ i, -1 ≤ (dirs i).toInt ∧ (dirs i).toInt ≤ 1) :
    ∃ b : Fin 9, (((List.finRange 9).map fun k => ((dist2 (cx + dirs (Sc.dirIx k 0) - tx) (cy + dirs (Sc.dirIx k 1) - ty) : Ideal .f32), BitVec.ofNat 32 k.val)).foldl
          (Cert.ReferenceIdeal.reducer_argmin_f32_i32 (F := Ideal)) ((⊤ : EReal), i0)).2 = BitVec.ofNat 32 b.val
      ∧ (Sc.upto dirs cx cy tx ty 9).2 = (dirs (Sc.dirIx b 0), dirs (Sc.dirIx b 1)) := by
  have key : ∀ k, (Sc.sqd dirs cx cy tx ty k).toInt = (cx + dirs (Sc.dirIx k 0) - tx).toInt ^ 2 + (cy + dirs (Sc.dirIx k 1) - ty).toInt ^ 2 ∧ _ :=
    fun k => squares (cx + dirs (Sc.dirIx k 0) - tx) (cy + dirs (Sc.dirIx k 1) - ty) (small _ _ _ hcx htx (hs _)) (small _ _ _ hcy hty (hs _))
  obtain ⟨b, h1, h2⟩ := agree_all (x := fun k => dist2 (cx + dirs (Sc.dirIx k 0) - tx) (cy + dirs (Sc.dirIx k 1) - ty)) (q := Sc.sqd dirs cx cy tx ty)
    (u := fun k => dirs (Sc.dirIx k 0)) (v := fun k => dirs (Sc.dirIx k 1))
    (fun i j => by rw [dist2_lt, (key i).1, (key j).1]) (fun i => dist2_lt_top _ _) (fun i => by rw [(key i).1]; exact (key i).2) i0
  exact ⟨b, h1, by rw [upto_eq, h2]⟩

end Cert.Proof.Ref

end
-- ==== Proof.Gather.lean ====
/-
  Two gathers and a scatter read at an index: whole rows of a table by one index word each, rows of a stack of tables by
  a pair of index words each, and a window of columns added into an array.
-/
module

public import Idealize.ShloMosaic.Lib.Pointwise
public import Idealize.ShloMosaic.Lib.Routing.OpsPair

@[expose] public section

noncomputable section

namespace Cert.Proof.Ref

open Idealize.ShloMosaic

variable {α : Type}

/-! ## One landing -/

/-- A fold in which one position alone counts. -/
theorem foldl_one {N : ℕ} (P : Fin N → Prop) [DecidablePred P] (f : α → Fin N → α) (n0 : Fin N) (h : ∀ n, P n ↔ n = n0) (x : α) :
    (List.finRange N).foldl (fun a n => if P n then f a n else a) x = f x n0 := by
  have miss : ∀ (l : List (Fin N)), n0 ∉ l → ∀ y, l.foldl (fun a n => if P n then f a n else a) y = y := by
    intro l
    induction l with
    | nil => intro _ y; rfl
    | cons k l ih =>
      intro hl y
      rw [List.mem_cons, not_or] at hl
      rw [List.foldl_cons, if_neg fun hp => hl.1 ((h k).1 hp).symm, ih hl.2]
  have hit : ∀ (l : List (Fin N)), l.Nodup → n0 ∈ l → ∀ y, l.foldl (fun a n => if P n then f a n else a) y = f y n0 := by
    intro l
    induction l with
    | nil => intro _ hm; exact absurd hm List.not_mem_nil
    | cons k l ih =>
      intro hn hm y
      rw [List.nodup_cons] at hn
      rw [List.foldl_cons]
      rcases List.mem_cons.1 hm with rfl | hm
      · rw [if_pos ((h n0).2 rfl), miss l hn.1]
      · have hk : k ≠ n0 := fun e => hn.1 (e ▸ hm)
        rw [if_neg fun hp => hk ((h k).1 hp), ih hn.2 hm]
  exact hit _ (List.nodup_finRange N) (List.mem_finRange n0) x

/-- An entry at which just one update lands. -/
theorem scatter_once {s si u : Shape} {w : Nat} (d : ScatterDims s si u) (f : α → α → α) (x0 : s.Idx → α) (idx : IVec si w) (upd : u.Idx → α)
    (ι : s.Idx) (k : u.Idx) (hk : ∀ k', d.resultIdx? k' idx = some ι ↔ k' = k) : Host.scatter d f x0 idx upd ι = f (x0 ι) (upd k) := by
  rw [Routing.scatter_at, foldl_one _ (fun a n => f a (upd (u.rowMajor.symm n))) (u.rowMajor k) (fun n => by rw [hk, Equiv.symm_apply_eq]), Equiv.symm_apply_apply]

/-- An entry at which none lands. -/
theorem scatter_never {s si u : Shape} {w : Nat} (d : ScatterDims s si u) (f : α → α → α) (x0 : s.Idx → α) (idx : IVec si w) (upd : u.Idx → α)
    (ι : s.Idx) (hk : ∀ k', d.resultIdx? k' idx ≠ some ι) : Host.scatter d f x0 idx upd ι = x0 ι := by
  rw [Routing.scatter_at]
  generalize List.finRange u.numel = l
  induction l with
  | nil => rfl
  | cons n l ih => rw [List.foldl_cons, if_neg (hk _), ih]

/-! ## A window of columns -/

/-- The dimension numbers of a window of whole columns, its first column the one index word. -/
abbrev colsDims (N C K : ℕ) (wf : ScatterDims.WF ⟨2, ![N, C]⟩ ⟨1, ![1]⟩ ⟨2, ![N, K]⟩ [0, 1] [] [1] 0) : ScatterDims ⟨2, ![N, C]⟩ ⟨1, ![1]⟩ ⟨2, ![N, K]⟩ where
  updateWindowDims := [0, 1]
  insertedWindowDims := []
  scatterDimsToOperandDims := [1]
  indexVectorDim := 0
  wf := wf

theorem cols_lands {N C K w : ℕ} (wf : ScatterDims.WF ⟨2, ![N, C]⟩ ⟨1, ![1]⟩ ⟨2, ![N, K]⟩ [0, 1] [] [1] 0) (idx : IVec ⟨1, ![1]⟩ w)
    (k : (⟨2, ![N, K]⟩ : Shape).Idx) (ι : (⟨2, ![N, C]⟩ : Shape).Idx) :
    (colsDims N C K wf).resultIdx? k idx = some ι ↔ (k 0).val = (ι 0).val ∧ (idx (ix1 0)).toInt + (k 1).val = (ι 1).val := by
  rw [Routing.resultIdx?_eq_some]
  have h0 : (colsDims N C K wf).start k idx 0 + ((colsDims N C K wf).window k 0 : ℤ) = ((k 0).val : ℤ) := by
    have a : (colsDims N C K wf).start k idx 0 = 0 := rfl
    have b : (colsDims N C K wf).window k 0 = (k 0).val := rfl
    rw [a, b]; omega
  have h1 : (colsDims N C K wf).start k idx 1 + ((colsDims N C K wf).window k 1 : ℤ) = (idx (ix1 0)).toInt + ((k 1).val : ℤ) := by
    have a : (colsDims N C K wf).start k idx 1 = (idx (ix1 0)).toInt := by
      unfold ScatterDims.start
      rw [dif_pos (show (1 : Fin 2) ∈ [(1 : Fin 2)] from List.mem_singleton.mpr rfl)]
      refine congrArg (fun i => (idx i).toInt) (funext fun b => Fin.ext ?_)
      match b with
      | ⟨0, _⟩ => rfl
    have b : (colsDims N C K wf).window k 1 = (k 1).val := rfl
    rw [a, b]
  constructor
  · intro h
    have e0 := h 0
    have e1 := h 1
    rw [h0] at e0
    rw [h1] at e1
    exact ⟨by omega, e1⟩
  · rintro ⟨e0, e1⟩ a
    match a with
    | ⟨0, _⟩ => exact h0.trans (by rw [e0]; rfl)
    | ⟨1, _⟩ => exact h1.trans e1

/-! ## Rows by one word each -/

abbrev rowDims (N C A B : ℕ) (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

theorem gather_rows {N C A B w : ℕ} (hN : 0 < N) (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (e : Fin A) (a : Fin B) (c : Fin C) :
    Host.gather (rowDims N C A B wf) x idx (ix3 e a c) = x (ix2 ⟨min (idx (ix3 e a (0 : Fin 1))).toInt.toNat (N - 1), by omega⟩ c) := by
  unfold Host.gather
  congr 1
  funext b
  refine Fin.ext ?_
  show (rowDims N C A B wf).start (ix3 e a c) idx b + (rowDims N C A B wf).batchCoord (ix3 e a c) b + (rowDims N C A B wf).offCoord (ix3 e a c) b = _
  have hb : b = 0 ∨ b = 1 := by
    match b with
    | ⟨0, _⟩ => exact Or.inl rfl
    | ⟨1, _⟩ => exact Or.inr rfl
  rcases hb with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsi : (rowDims N C A B wf).siIdx (ix3 e a c) ⟨List.idxOf (0 : Fin 2) (rowDims N C A B wf).startIndexMap,
        List.idxOf_lt_length_iff.2 (List.mem_singleton.mpr rfl)⟩ = ix3 e a (0 : Fin 1) := by
      funext b; refine Fin.ext ?_
      match b with
      | ⟨0, _⟩ => rfl
      | ⟨1, _⟩ => rfl
      | ⟨2, _⟩ => rfl
    rw [hsi]
    rfl
  · have a1 : (rowDims N C A B wf).start (ix3 e a c) idx 1 = 0 := rfl
    have a2 : (rowDims N C A B wf).batchCoord (ix3 e a c) 1 = 0 := rfl
    have a3 : (rowDims N C A B wf).offCoord (ix3 e a c) 1 = c.val := rfl
    show (rowDims N C A B wf).start (ix3 e a c) idx 1 + (rowDims N C A B wf).batchCoord (ix3 e a c) 1 + (rowDims N C A B wf).offCoord (ix3 e a c) 1 = c.val
    rw [a1, a2, a3]; omega

/-! ## Rows of a stack of tables by two words each -/

abbrev pairDims (A B C M : ℕ) (wf : GatherDims.WF ⟨3, ![A, B, C]⟩ ⟨2, ![M, 2]⟩ ⟨2, ![M, C]⟩ [1] [0, 1] [] [0, 1] [] 1 ![1, 1, C]) :
    GatherDims ⟨3, ![A, B, C]⟩ ⟨2, ![M, 2]⟩ ⟨2, ![M, C]⟩ where
  offsetDims := [1]
  collapsedSliceDims := [0, 1]
  operandBatchingDims := []
  startIndicesBatchingDims := []
  startIndexMap := [0, 1]
  indexVectorDim := 1
  sliceSizes := ![1, 1, C]
  wf := wf

theorem gather_pairs {A B C M w : ℕ} (hA : 0 < A) (hB : 0 < B)
    (wf : GatherDims.WF ⟨3, ![A, B, C]⟩ ⟨2, ![M, 2]⟩ ⟨2, ![M, C]⟩ [1] [0, 1] [] [0, 1] [] 1 ![1, 1, C])
    (x : (⟨3, ![A, B, C]⟩ : Shape).Idx → α) (idx : IVec ⟨2, ![M, 2]⟩ w) (n : Fin M) (c : Fin C) :
    Host.gather (pairDims A B C M wf) x idx (ix2 n c)
      = x (ix3 ⟨min (idx (ix2 n (0 : Fin 2))).toInt.toNat (A - 1), by omega⟩ ⟨min (idx (ix2 n (1 : Fin 2))).toInt.toNat (B - 1), by omega⟩ c) := by
  unfold Host.gather
  congr 1
  funext b
  refine Fin.ext ?_
  show (pairDims A B C M wf).start (ix2 n c) idx b + (pairDims A B C M wf).batchCoord (ix2 n c) b + (pairDims A B C M wf).offCoord (ix2 n c) b = _
  have hb : b = 0 ∨ b = 1 ∨ b = 2 := by
    match b with
    | ⟨0, _⟩ => exact Or.inl rfl
    | ⟨1, _⟩ => exact Or.inr (Or.inl rfl)
    | ⟨2, _⟩ => exact Or.inr (Or.inr rfl)
  rcases hb with rfl | rfl | rfl
  · rw [GatherDims.batchCoord_eq_zero _ _ _ List.not_mem_nil,
      GatherDims.offCoord_eq_zero _ _ _ (fun h => ((GatherDims.mem_sKept _ _).mp h).1 (show (0 : Fin 3) ∈ [(0 : Fin 3), 1] by decide))]
    simp only [Nat.add_zero]
    unfold GatherDims.start
    rw [dif_pos (show (0 : Fin 3) ∈ [(0 : Fin 3), 1] by decide)]
    have hsi : (pairDims A B C M wf).siIdx (ix2 n c) ⟨List.idxOf (0 : Fin 3) (pairDims A B C M wf).startIndexMap,
        List.idxOf_lt_length_iff.2 (show (0 : Fin 3) ∈ [(0 : Fin 3), 1] by decide)⟩ = ix2 n (0 : Fin 2) := by
      funext b; refine Fin.ext ?_
      match b with
      | ⟨0, _⟩ => rfl
      | ⟨1, _⟩ => rfl
    rw [hsi]
    rfl
  · rw [GatherDims.batchCoord_eq_zero _ _ _ List.not_mem_nil,
      GatherDims.offCoord_eq_zero _ _ _ (fun h => ((GatherDims.mem_sKept _ _).mp h).1 (show (1 : Fin 3) ∈ [(0 : Fin 3), 1] by decide))]
    simp only [Nat.add_zero]
    unfold GatherDims.start
    rw [dif_pos (show (1 : Fin 3) ∈ [(0 : Fin 3), 1] by decide)]
    have hsi : (pairDims A B C M wf).siIdx (ix2 n c) ⟨List.idxOf (1 : Fin 3) (pairDims A B C M wf).startIndexMap,
        List.idxOf_lt_length_iff.2 (show (1 : Fin 3) ∈ [(0 : Fin 3), 1] by decide)⟩ = ix2 n (1 : Fin 2) := by
      funext b; refine Fin.ext ?_
      match b with
      | ⟨0, _⟩ => rfl
      | ⟨1, _⟩ => rfl
    rw [hsi]
    rfl
  · have a1 : (pairDims A B C M wf).start (ix2 n c) idx 2 = 0 := rfl
    have a2 : (pairDims A B C M wf).batchCoord (ix2 n c) 2 = 0 := rfl
    have a3 : (pairDims A B C M wf).offCoord (ix2 n c) 2 = c.val := rfl
    show (pairDims A B C M wf).start (ix2 n c) idx 2 + (pairDims A B C M wf).batchCoord (ix2 n c) 2 + (pairDims A B C M wf).offCoord (ix2 n c) 2 = c.val
    rw [a1, a2, a3]; omega

end Cert.Proof.Ref

end
-- ==== Proof.MovesEq.lean ====
/-
  The reference's moves, entry by entry, are the kernel's.
-/
module

public import proofs.«01_k».proof.Proof.Dist
public import proofs.«01_k».proof.Proof.Gather
public import proofs.«01_k».proof.Proof.Pre

@[expose] public section

noncomputable section

namespace Cert.Proof.Ref

open Cert.ReferenceIdeal Cert.ReferenceIdeal.Gen
open Idealize.ShloMosaic Idealize.ShloMosaic.WordCmp

/-- The f32 pattern of plus infinity. -/
theorem inf_f32 : Ideal.ofBits .f32 0x7F800000#32 = ⊤ := by
  simp [Ideal.ofBits, Ideal.ieee]

theorem dirIx_eq (k : Fin 9) (c : Fin 2) : Sc.dirIx k c = ix2 k c := by
  funext b
  match b with
  | ⟨0, _⟩ => rfl
  | ⟨1, _⟩ => rfl

/-- The distance of one direction. -/
theorem dists_at (a3 : IVec S4096x128x4 32) (a4 : IVec S9x2 32) (e : Fin 4096) (a : Fin 128) (k : Fin 9) :
    dists (F := Ideal) (sitofp .f32 (diffs a3 a4)) (ix3 e a k)
      = dist2 (a3 (ix3 e a (0 : Fin 4)) + a4 (Sc.dirIx k 0) - a3 (ix3 e a (2 : Fin 4))) (a3 (ix3 e a (1 : Fin 4)) + a4 (Sc.dirIx k 1) - a3 (ix3 e a (3 : Fin 4))) := by
  pointwise [dists, diffs, spread, spreadDir, cur, goalPos]
  unfold dist2
  rw [Fin.sum_univ_two, Fin.sum_univ_two, dirIx_eq, dirIx_eq]
  rfl

/-- The least distance, with its place. -/
def least {F : FTy → Type} [FloatOps F] (x : FVec F S4096x128x9 .f32) (j : S4096x128.Idx) : F .f32 × BitVec 32 :=
  Host.argReduce reducer_argmin_f32_i32 x (iotaInDim S4096x128x9 32 2) (constant S_ .f32 0x7F800000#32) (constantI S_ 32 0#32) reducesTo_S4096x128x9_S4096x128_d2 h_S_ j

theorem place_least {F : FTy → Type} [FloatOps F] (x : FVec F S4096x128x9 .f32) : place x = fun j => (least x j).2 := by
  unfold place least
  refine funext fun j => congrArg Prod.snd ?_
  rfl

theorem least_at (x : FVec Ideal S4096x128x9 .f32) (e : Fin 4096) (a : Fin 128) :
    least x (ix2 e a) = ((List.finRange 9).map fun k => (x (ix3 e a k), (iotaInDim S4096x128x9 32 2) (ix3 e a k))).foldl reducer_argmin_f32_i32
      ((constant S_ .f32 0x7F800000#32 : FVec Ideal S_ .f32) (Shape.Idx.first h_S_), (constantI S_ 32 0#32) (Shape.Idx.first h_S_)) := by
  unfold least
  exact argReduce_last (A := 4096) (B := 128) (K := 9) (reducer_argmin_f32_i32 (F := Ideal)) x (iotaInDim S4096x128x9 32 2) (constant S_ .f32 0x7F800000#32) (constantI S_ 32 0#32)
    reducesTo_S4096x128x9_S4096x128_d2 h_S_ e a

/-- The place chosen. -/
theorem place_at (x : FVec Ideal S4096x128x9 .f32) (e : Fin 4096) (a : Fin 128) :
    place x (ix2 e a) = (((List.finRange 9).map fun k => (x (ix3 e a k), BitVec.ofNat 32 k.val)).foldl (reducer_argmin_f32_i32 (F := Ideal)) ((⊤ : EReal), 0#32)).2 := by
  refine (congrFun (place_least x) _).trans (congrArg Prod.snd ((least_at x e a).trans ?_))
  have h0 : ((constant S_ .f32 0x7F800000#32 : FVec Ideal S_ .f32) (Shape.Idx.first h_S_), constantI S_ 32 0#32 (Shape.Idx.first h_S_)) = ((⊤ : EReal), 0#32) :=
    Prod.ext inf_f32 rfl
  rw [h0]
  have h1 : ∀ k : Fin 9, iotaInDim S4096x128x9 32 2 (ix3 e a k) = BitVec.ofNat 32 k.val := fun _ => rfl
  simp only [h1]

/-- A row of the table of moves, named by a small word. -/
theorem moveAt_at (a4 : IVec S9x2 32) (b : IVec S4096x128 32) (e : Fin 4096) (a : Fin 128) (c : Fin 2) (k : Fin 9) (hk : b (ix2 e a) = BitVec.ofNat 32 k.val) :
    moveAt a4 b (ix3 e a c) = a4 (Sc.dirIx k c) := by
  refine (gather_rows (N := 9) (C := 2) (A := 4096) (B := 128) (by decide) gather_S9x2_S4096x128x1_S4096x128x2_2_0_n_n_0_2_12_wf a4 _ e a c).trans ?_
  rw [dirIx_eq]
  congr 2
  refine Fin.ext ?_
  show min (BitVec.toInt _).toNat 8 = k.val
  have hw : (broadcastInDim S4096x128x1 ![0, 1] bcast_S4096x128_S4096x128x1_0_1
      (select (cmpi .slt b (broadcastInDim S4096x128 ![] bcast_S_S4096x128 (constantI S_ 32 0#32)))
        (addi b (broadcastInDim S4096x128 ![] bcast_S_S4096x128 (constantI S_ 32 9#32))) b)) (ix3 e a (0 : Fin 1)) = BitVec.ofNat 32 k.val := by
    pointwise
    rw [hk]
    exact Routing.wrap_of_lt _ _ (by clear hk; revert k; decide)
  rw [hw, toInt_place]
  have := k.isLt
  omega

/-- The moves along the two axes. -/
theorem moves_at {p : IVec S2000000x8 32} {a3 : IVec S4096x128x4 32} {a4 : IVec S9x2 32} (h : Drawn p a3 a4) (e : Fin 4096) (a : Fin 128) :
    moves (F := Ideal) a3 a4 (ix3 e a (0 : Fin 2)) = Sc.moveX a4 (a3 (ix3 e a (0 : Fin 4))) (a3 (ix3 e a (1 : Fin 4))) (a3 (ix3 e a (2 : Fin 4))) (a3 (ix3 e a (3 : Fin 4)))
      ∧ moves (F := Ideal) a3 a4 (ix3 e a (1 : Fin 2)) = Sc.moveY a4 (a3 (ix3 e a (0 : Fin 4))) (a3 (ix3 e a (1 : Fin 4))) (a3 (ix3 e a (2 : Fin 4))) (a3 (ix3 e a (3 : Fin 4))) := by
  obtain ⟨b, h1, h2⟩ := same_choice a4 (a3 (ix3 e a (0 : Fin 4))) (a3 (ix3 e a (1 : Fin 4))) (a3 (ix3 e a (2 : Fin 4))) (a3 (ix3 e a (3 : Fin 4))) 0#32
    (h.pos _) (h.pos _) (h.pos _) (h.pos _) h.step
  have hp : place (F := Ideal) (dists (sitofp .f32 (diffs a3 a4))) (ix2 e a) = BitVec.ofNat 32 b.val := by
    rw [place_at, ← h1]
    simp only [dists_at]
  have hm : ∀ c, moveAt a4 (place (F := Ideal) (dists (sitofp .f32 (diffs a3 a4)))) (ix3 e a c) = a4 (Sc.dirIx b c) := fun c => moveAt_at a4 _ e a c b hp
  have hs : ∀ c : Fin 2, moves (F := Ideal) a3 a4 (ix3 e a c)
      = Scalar.select (IntOp.cmpi .eq (a3 (ix3 e a (⟨c.val, by omega⟩ : Fin 4))) 4294967196#32) 0#32 (a4 (Sc.dirIx b c)) := by
    intro c
    rw [← hm c]
    unfold moves
    generalize moveAt a4 (place (F := Ideal) (dists (sitofp .f32 (diffs a3 a4)))) = g
    pointwise [away, cur, stay]
  unfold Sc.moveX Sc.moveY
  rw [hs, hs, h2]
  exact ⟨rfl, rfl⟩

end Cert.Proof.Ref

end
-- ==== Proof.Riders.lean ====
/-
  The reference's passengers, entry by entry.
-/
module

public import proofs.«01_k».proof.Proof.MovesEq

@[expose] public section

noncomputable section

namespace Cert.Proof.Ref

open Cert.ReferenceIdeal Cert.ReferenceIdeal.Gen
open Idealize.ShloMosaic Idealize.ShloMosaic.WordCmp

/-- The pair of words that names a passenger's environment and agent. -/
theorem rowsOf_0 (p : IVec S2000000x8 32) (n : Fin 2000000) (h : (p (ix2 n (0 : Fin 8))).toNat < 128) : rowsOf p (ix2 n (0 : Fin 2)) = p (ix2 n (0 : Fin 8)) := by
  pointwise [rowsOf, asRow, col0, col7]
  exact Routing.wrap_of_lt _ _ (by omega)
theorem rowsOf_1 (p : IVec S2000000x8 32) (n : Fin 2000000) (h : (p (ix2 n (7 : Fin 8))).toNat < 128) : rowsOf p (ix2 n (1 : Fin 2)) = p (ix2 n (7 : Fin 8)) := by
  pointwise [rowsOf, asRow, col0, col7]
  exact Routing.wrap_of_lt _ _ (by omega)

theorem small_word (x : BitVec 32) (h : x.toNat < 128) : x.toInt.toNat = x.toNat := by
  rw [BitVec.toInt_eq_toNat_of_lt (by omega)]; rfl

/-- The environment and the agent of passenger `n`. -/
def envOf (p : IVec S2000000x8 32) (n : Fin 2000000) : Fin 4096 := ⟨(p (ix2 n (0 : Fin 8))).toNat % 128, by omega⟩
def agtOf (p : IVec S2000000x8 32) (n : Fin 2000000) : Fin 128 := ⟨(p (ix2 n (7 : Fin 8))).toNat % 128, by omega⟩

/-- The moves gathered. -/
theorem gathered (p : IVec S2000000x8 32) (mv : IVec S4096x128x2 32) (n : Fin 2000000) (c : Fin 2)
    (h0 : (p (ix2 n (0 : Fin 8))).toNat < 128) (h7 : (p (ix2 n (7 : Fin 8))).toNat < 128) :
    Host.gather gather_S4096x128x2_S2000000x2_S2000000x2_1_01_n_n_01_1_112 mv (rowsOf p) (ix2 n c) = mv (ix3 (envOf p n) (agtOf p n) c) := by
  refine (gather_pairs (A := 4096) (B := 128) (C := 2) (M := 2000000) (by decide) (by decide) gather_S4096x128x2_S2000000x2_S2000000x2_1_01_n_n_01_1_112_wf mv (rowsOf p) n c).trans ?_
  congr 1
  refine (ix3_inj _ _ _ _ _ _).2 ⟨Fin.ext ?_, Fin.ext ?_, rfl⟩
  · show min (rowsOf p (ix2 n (0 : Fin 2))).toInt.toNat (4096 - 1) = (p (ix2 n (0 : Fin 8))).toNat % 128
    rw [rowsOf_0 p n h0, small_word _ h0]; omega
  · show min (rowsOf p (ix2 n (1 : Fin 2))).toInt.toNat (128 - 1) = (p (ix2 n (7 : Fin 8))).toNat % 128
    rw [rowsOf_1 p n h7, small_word _ h7]; omega

/-- A window of two columns added from column one on, at any height. -/
theorem add_cols {N : ℕ} (wf : ScatterDims.WF ⟨2, ![N, 8]⟩ ⟨1, ![1]⟩ ⟨2, ![N, 2]⟩ [0, 1] [] [1] 0) (x : IVec ⟨2, ![N, 8]⟩ 32) (idx : IVec ⟨1, ![1]⟩ 32)
    (hi : (idx (ix1 0)).toInt = 1) (upd : IVec ⟨2, ![N, 2]⟩ 32) (n : Fin N) :
    (∀ c : Fin 2, ∀ k : Fin 8, k.val = c.val + 1 →
      Host.scatter (colsDims N 8 2 wf) IntOp.addi x idx upd (ix2 n k) = x (ix2 n k) + upd (ix2 n c))
    ∧ ∀ k : Fin 8, k.val ≠ 1 → k.val ≠ 2 → Host.scatter (colsDims N 8 2 wf) IntOp.addi x idx upd (ix2 n k) = x (ix2 n k) := by
  constructor
  · intro c k hk
    refine scatter_once (colsDims N 8 2 wf) IntOp.addi x idx upd (ix2 n k) (ix2 n c) fun k' => ?_
    obtain ⟨a, b, rfl⟩ : ∃ (a : Fin N) (b : Fin 2), k' = ix2 a b := ⟨k' 0, k' 1, eq_ix2 k'⟩
    rw [cols_lands, hi, ix2_inj, Fin.ext_iff, Fin.ext_iff]
    show a.val = n.val ∧ (1 : ℤ) + b.val = k.val ↔ _
    omega
  · intro k h1 h2
    refine scatter_never (colsDims N 8 2 wf) IntOp.addi x idx upd (ix2 n k) fun k' => ?_
    obtain ⟨a, b, rfl⟩ : ∃ (a : Fin N) (b : Fin 2), k' = ix2 a b := ⟨k' 0, k' 1, eq_ix2 k'⟩
    rw [Ne, cols_lands, hi]
    show ¬ (a.val = n.val ∧ (1 : ℤ) + b.val = k.val)
    have := b.isLt
    omega

/-- The moved passengers. -/
theorem riders_at (p : IVec S2000000x8 32) (mv : IVec S4096x128x2 32) (n : Fin 2000000)
    (h0 : (p (ix2 n (0 : Fin 8))).toNat < 128) (h7 : (p (ix2 n (7 : Fin 8))).toNat < 128) :
    riders p mv (ix2 n (1 : Fin 8)) = p (ix2 n (1 : Fin 8)) + mv (ix3 (envOf p n) (agtOf p n) (0 : Fin 2))
      ∧ riders p mv (ix2 n (2 : Fin 8)) = p (ix2 n (2 : Fin 8)) + mv (ix3 (envOf p n) (agtOf p n) (1 : Fin 2))
      ∧ ∀ k : Fin 8, k.val ≠ 1 → k.val ≠ 2 → riders p mv (ix2 n k) = p (ix2 n k) := by
  have h := add_cols (N := 2000000) scatter_S2000000x8_S1_S2000000x2_01_n_1_0_wf p (broadcastInDim S1 ![] bcast_S_S1 (constantI S_ 32 1#32)) (by pointwise; rfl)
    (Host.gather gather_S4096x128x2_S2000000x2_S2000000x2_1_01_n_n_01_1_112 mv (rowsOf p)) n
  rw [← gathered p mv n 0 h0 h7, ← gathered p mv n 1 h0 h7]
  exact ⟨h.1 0 1 rfl, h.1 1 2 rfl, h.2⟩

/-- The length of a move. -/
theorem lengths_at (x : IVec S4096x128x2 32) (e : Fin 4096) (a : Fin 128) :
    lengths (F := Ideal) (sitofp .f32 x) (ix2 e a) = dist2 (x (ix3 e a (0 : Fin 2))) (x (ix3 e a (1 : Fin 2))) := by
  pointwise [lengths]
  unfold dist2
  rw [Fin.sum_univ_two, Fin.sum_univ_two]
  rfl

end Cert.Proof.Ref

end
-- ==== Proof.Algebraic.lean ====
/-
  The kernel's results are the reference's, entry by entry, over the reals.
-/
module

public import proofs.«01_k».proof.Proof.Frames
public import proofs.«01_k».proof.Proof.Results
public import proofs.«01_k».proof.Proof.Riders

@[expose] public section

noncomputable section

namespace Cert.Proof

open Idealize.ShloMosaic Idealize.ShloMosaic.TcCoe Idealize.SL.Sem

section
open Cert.KernelIdeal Cert.KernelIdeal.Gen Cert.Proof.Sc

/-- The arguments are drawn from their ranges. -/
abbrev DrawnAt (m : Mem Ideal) (c : Dev nD) : Prop :=
  Drawn (m (c, (main_arg1 : DevRef τ sig))) (m (c, (main_arg3 : DevRef τ sig))) (m (c, (main_arg4 : DevRef τ sig)))

/-- The passengers at the start. -/
abbrev pax (m : Mem Ideal) (c : Dev nD) : IVec S2000000x8 32 := m (c, (main_arg1 : DevRef τ sig))

/-- The reference's moves of the kernel's arguments. -/
abbrev refMoves (m : Mem Ideal) (c : Dev nD) : IVec S4096x128x2 32 :=
  Ref.moves (F := Ideal) (m (c, (main_arg3 : DevRef τ sig))) (m (c, (main_arg4 : DevRef τ sig)))

variable {m : Mem Ideal} {c : Dev nD}

theorem allX_at (h : DrawnAt m c) (e : Fin 4096) (a : Fin 128) : allX (V1 m) c (ix2 e a) = refMoves m c (ix3 e a (0 : Fin 2)) := by
  unfold allX
  rw [V1_v1, V1_v3, V1_v5, V1_v7, V1_arg4]
  exact (Ref.moves_at h e a).1.symm

theorem allY_at (h : DrawnAt m c) (e : Fin 4096) (a : Fin 128) : allY (V1 m) c (ix2 e a) = refMoves m c (ix3 e a (1 : Fin 2)) := by
  unfold allY
  rw [V1_v1, V1_v3, V1_v5, V1_v7, V1_arg4]
  exact (Ref.moves_at h e a).2.symm

/-- A move is at most one step along each axis. -/
theorem select_small (p : BitVec 1) (x : BitVec 32) (hx : -1 ≤ x.toInt ∧ x.toInt ≤ 1) :
    -1024 ≤ (Scalar.select p 0#32 x).toInt ∧ (Scalar.select p 0#32 x).toInt ≤ 1024 := by
  unfold Scalar.select
  split
  · decide
  · omega

theorem all_small (h : DrawnAt m c) (e : Fin 4096) (a : Fin 128) :
    (-1024 ≤ (allX (V1 m) c (ix2 e a)).toInt ∧ (allX (V1 m) c (ix2 e a)).toInt ≤ 1024)
      ∧ -1024 ≤ (allY (V1 m) c (ix2 e a)).toInt ∧ (allY (V1 m) c (ix2 e a)).toInt ≤ 1024 := by
  unfold allX allY
  rw [V1_v1, V1_v3, V1_v5, V1_v7, V1_arg4]
  obtain ⟨b, -, h2⟩ := Ref.same_choice _ _ _ _ _ 0#32 (h.pos (ix3 e a (0 : Fin 4))) (h.pos (ix3 e a (1 : Fin 4))) (h.pos (ix3 e a (2 : Fin 4))) (h.pos (ix3 e a (3 : Fin 4))) h.step
  unfold moveX moveY
  rw [h2]
  exact ⟨select_small _ _ (h.step _), select_small _ _ (h.step _)⟩

/-- The root of a whole sum of squares is the distance. -/
theorem root_at (a b : BitVec 32) (ha : -1024 ≤ a.toInt ∧ a.toInt ≤ 1024) (hb : -1024 ≤ b.toInt ∧ b.toInt ≤ 1024) :
    Ideal.sqrt (((a * a + b * b).toInt : ℝ) : EReal) = Ref.dist2 a b := by
  rw [Ref.dist2_eq, (Ref.squares a b ha hb).1, Ideal.sqrt_coe, if_neg]
  refine not_lt.mpr ?_
  push_cast
  positivity

/-- The lengths. -/
theorem lens_eq (h : DrawnAt m c) : lens (V1 m) c = Ref.lengths (F := Ideal) (sitofp .f32 (refMoves m c)) := by
  funext j
  obtain ⟨e, a, rfl⟩ : ∃ (e : Fin 4096) (a : Fin 128), j = ix2 e a := ⟨j 0, j 1, eq_ix2 j⟩
  obtain ⟨hx, hy⟩ := all_small h e a
  exact (root_at _ _ hx hy).trans ((congrArg₂ Ref.dist2 (allX_at h e a) (allY_at h e a)).trans (Ref.lengths_at (refMoves m c) e a).symm)

/-- The agents. -/
theorem agents_eq (h : DrawnAt m c) : W5 m c main_v15 = addf (m (c, (main_arg0 : DevRef τ sig))) (sitofp (F := Ideal) .f32 (refMoves m c)) := by
  funext j
  obtain ⟨e, a, k, rfl⟩ : ∃ (e : Fin 4096) (a : Fin 128) (k : Fin 2), j = ix3 e a k := ⟨j 0, j 1, j 2, eq_ix3 j⟩
  have hx := allX_at h e a
  have hy := allY_at h e a
  have h9 := V1_v9 m c e a
  have h11 := V1_v11 m c e a
  rw [W5_v15]
  generalize refMoves m c = mv at *
  rcases (by omega : k = 0 ∨ k = 1) with rfl | rfl
  · pointwise [newX, newY]
    rw [hx, h9]
  · pointwise [newX, newY]
    rw [hy, h11]

theorem colK_at (j : ℕ) (hj : S2000000x8.Slices ![0, j] S2000000x1) (p : S2000000x8.Idx → BitVec 32) (n : Fin 2000000) (k : Fin 8) (hk : k.val = j) :
    colK j hj p (ix1 n) = p (ix2 n k) := by
  subst hk
  pointwise [colK]

theorem row_of (p : IVec S2000000x8 32) (n : Fin 2000000) :
    rowIx (cellIx (p (ix2 n (0 : Fin 8))) (p (ix2 n (7 : Fin 8)))) = ix2 (Ref.envOf p n) (Ref.agtOf p n) := by
  funext b
  match b with
  | ⟨0, _⟩ => rfl
  | ⟨1, _⟩ => rfl

theorem g1_at (h : DrawnAt m c) (n : Fin 2000000) : (callData m c).g1 (ix1 n)
    = pax m c (ix2 n (1 : Fin 8)) + refMoves m c (ix3 (Ref.envOf (pax m c) n) (Ref.agtOf (pax m c) n) (0 : Fin 2)) := by
  rw [← allX_at h, ← row_of]
  show (callData m c).w1 (ix1 n) + (callData m c).X (cellIx ((callData m c).wE (ix1 n)) ((callData m c).wA (ix1 n))) = _
  rw [w1_eq, X_eq, wE_eq, wA_eq, colK_at 1 _ _ n 1 rfl, colK_at 0 _ _ n 0 rfl, colK_at 7 _ _ n 7 rfl]
  rfl

theorem g2_at (h : DrawnAt m c) (n : Fin 2000000) : (callData m c).g2 (ix1 n)
    = pax m c (ix2 n (2 : Fin 8)) + refMoves m c (ix3 (Ref.envOf (pax m c) n) (Ref.agtOf (pax m c) n) (1 : Fin 2)) := by
  rw [← allY_at h, ← row_of]
  show (callData m c).w2 (ix1 n) + (callData m c).Y (cellIx ((callData m c).wE (ix1 n)) ((callData m c).wA (ix1 n))) = _
  rw [w2_eq, Y_eq, wE_eq, wA_eq, colK_at 2 _ _ n 2 rfl, colK_at 0 _ _ n 0 rfl, colK_at 7 _ _ n 7 rfl]
  rfl

/-- Eight columns side by side, read at an entry. -/
theorem cols_at (x0 x1 x2 x3 x4 x5 x6 x7 : Wide) (n : Fin 2000000) (k : Fin 8) :
    concatenate S2000000x8 1 [⟨S2000000x1, asCol x0⟩, ⟨S2000000x1, asCol x1⟩, ⟨S2000000x1, asCol x2⟩, ⟨S2000000x1, asCol x3⟩,
        ⟨S2000000x1, asCol x4⟩, ⟨S2000000x1, asCol x5⟩, ⟨S2000000x1, asCol x6⟩, ⟨S2000000x1, asCol x7⟩]
      concatenates_S2000000x1_S2000000x1_S2000000x1_S2000000x1_S2000000x1_S2000000x1_S2000000x1_S2000000x1_S2000000x8_d1 (ix2 n k)
      = ![x0, x1, x2, x3, x4, x5, x6, x7] k (ix1 n) := by
  pointwise [asCol]
  fin_vals k with hk
  all_goals simp only [hk, Nat.reduceSub, Nat.reduceLT, ↓reduceDIte]
  all_goals
    obtain rfl := Fin.eq_of_val_eq (j := ⟨_, by decide⟩) hk
    rfl

/-- The passengers. -/
theorem riders_eq (h : DrawnAt m c) : W5 m c main_v45 = Ref.riders (pax m c) (refMoves m c) := by
  funext j
  obtain ⟨n, k, rfl⟩ : ∃ (n : Fin 2000000) (k : Fin 8), j = ix2 n k := ⟨j 0, j 1, eq_ix2 j⟩
  have hn := h.named (ix1 n)
  rw [colK_at 0 slices_S2000000x8_S2000000x1_0_0 _ n 0 rfl, colK_at 7 slices_S2000000x8_S2000000x1_0_7 _ n 7 rfl] at hn
  obtain ⟨r1, r2, r3⟩ := Ref.riders_at (pax m c) (refMoves m c) n hn.1 hn.2
  refine (congrFun (W5_v45 m c) _).trans ((cols_at _ _ _ _ _ _ _ _ n k).trans ?_)
  have h1 := (g1_at h n).trans r1.symm
  have h2 := (g2_at h n).trans r2.symm
  match k with
  | 0 => exact (colK_at 0 slices_S2000000x8_S2000000x1_0_0 _ n 0 rfl).trans (r3 0 (by decide) (by decide)).symm
  | 1 => exact h1
  | 2 => exact h2
  | 3 => exact (colK_at 3 slices_S2000000x8_S2000000x1_0_3 _ n 3 rfl).trans (r3 3 (by decide) (by decide)).symm
  | 4 => exact (colK_at 4 slices_S2000000x8_S2000000x1_0_4 _ n 4 rfl).trans (r3 4 (by decide) (by decide)).symm
  | 5 => exact (colK_at 5 slices_S2000000x8_S2000000x1_0_5 _ n 5 rfl).trans (r3 5 (by decide) (by decide)).symm
  | 6 => exact (colK_at 6 slices_S2000000x8_S2000000x1_0_6 _ n 6 rfl).trans (r3 6 (by decide) (by decide)).symm
  | 7 => exact (colK_at 7 slices_S2000000x8_S2000000x1_0_7 _ n 7 rfl).trans (r3 7 (by decide) (by decide)).symm

/-- The kernel's run, read at its results and its arguments. -/
theorem run_kernel (ρ : Dev nD → PrngReg) (h : ∀ c : Dev nD, DrawnAt m c) :
    θ_run (defs (F := Ideal)) (threads (F := Ideal)) ⟨m, fun _ => 0, ρ⟩ fun r => ∀ c : Dev nD,
      r.2.mem ((c.tc : Thread nD τ).loc main_v15) = W5 m c main_v15
      ∧ r.2.mem ((c.tc : Thread nD τ).loc main_v45) = W5 m c main_v45
      ∧ r.2.mem ((c.tc : Thread nD τ).loc main_v12_2) = W5 m c main_v12_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r hr c => ?_) (run_main ρ m fun d => inTab (h d).named)
  have u : ∀ b : Ref sig .tc, ¬ b.isScoped → r.2.mem ((c.tc : Thread nD τ).loc b) = W5 m c b := fun b hb =>
    hr.1 c b (Finset.mem_filter.mpr ⟨StableHlo.devRef_mem_tcRefs _, hb⟩)
  exact ⟨u _ (by decide), u _ (by decide), u _ (by decide),
    (u main_arg0 (by decide)).trans (W5_arg m c _ (by decide)), (u main_arg1 (by decide)).trans (W5_arg m c _ (by decide)),
    (u main_arg2 (by decide)).trans (W5_arg m c _ (by decide)), (u main_arg3 (by decide)).trans (W5_arg m c _ (by decide)),
    (u main_arg4 (by decide)).trans (W5_arg m c _ (by decide))⟩

end

section
open Cert.ReferenceIdeal Cert.ReferenceIdeal.Gen Cert.Proof.Ref

/-- The reference's run, read at its results and its arguments. -/
theorem run_reference (m : Mem Ideal) (ρ : Dev nD → PrngReg) :
    θ_run (defs (F := Ideal)) (onTc (τ := τ) (main (F := Ideal))) ⟨m, fun _ => 0, ρ⟩ fun r => ∀ c : Dev nD,
      r.2.mem ((c.tc : Thread nD τ).loc main_v25) = addf (m ((c.tc : Thread nD τ).loc main_arg0))
          (sitofp (F := Ideal) .f32 (moves (F := Ideal) (m ((c.tc : Thread nD τ).loc main_arg3)) (m ((c.tc : Thread nD τ).loc main_arg4))))
      ∧ r.2.mem ((c.tc : Thread nD τ).loc main_v45) = riders (m ((c.tc : Thread nD τ).loc main_arg1))
          (moves (F := Ideal) (m ((c.tc : Thread nD τ).loc main_arg3)) (m ((c.tc : Thread nD τ).loc main_arg4)))
      ∧ r.2.mem ((c.tc : Thread nD τ).loc main_v47) = lengths (F := Ideal)
          (sitofp .f32 (moves (F := Ideal) (m ((c.tc : Thread nD τ).loc main_arg3)) (m ((c.tc : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r hr c => ?_) (Ref.run m ρ)
  have k : ∀ b : Ref sig .tc, b ∈ args → r.2.mem ((c.tc : Thread nD τ).loc b) = m ((c.tc : Thread nD τ).loc b) := fun b hb =>
    (hr c b).trans (R_arg m c b hb).2.2.2.2.2.2.2
  exact ⟨(hr c main_v25).trans (R8_v25 m c), (hr c main_v45).trans (R8_v45 m c), (hr c main_v47).trans (R8_v47 m c),
    k _ (by decide), k _ (by decide), k _ (by decide), k _ (by decide), k _ (by decide)⟩
end

theorem algebraic : Cert.algebraic_KernelIdeal_ReferenceIdeal_pre_drawn_ranges (hKernelIdeal := Cert.KernelIdeal.Gen.facts)
    (hReferenceIdeal := Cert.ReferenceIdeal.Gen.facts) (hPre_drawn_ranges := factsDrawn) := by
  intro m g m' g' h hm
  have hd : ∀ c, DrawnAt m c := fun c => @drawn_of_ranges Ideal _ factsDrawn _ _ _ _ _ (h c)
  refine ⟨_, _, _, run_kernel g hd, (θ_run _ _ _).mono (fun r hr c => ?_) (run_reference m' g')⟩
  obtain ⟨r0, r1, r2, rest⟩ := hr c
  obtain ⟨a0, a1, a2, a3, a4⟩ := hm c
  rw [a0, a3, a4] at r0
  rw [a1, a3, a4] at r1
  rw [a3, a4] at r2
  exact ⟨r0.trans (agents_eq (hd c)).symm, r1.trans (riders_eq (hd c)).symm, r2.trans ((lens_eq (hd c)).symm.trans (Sc.W5_v12_2 m c).symm), rest⟩

end Cert.Proof

end
-- ==== Proof.lean ====
/-
  The proof of the certificate's claims: the frames of the kernel and the reference, that naming the ideal numbers
  changes nothing, and that the kernel's three results are the reference's over the reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Same
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, factsNamed, factsDrawn,
  frame_kernel, frame_kernelIdeal, frame_kernelIdeal_drawn, frame_reference, frame_reference_drawn, trivial, algebraic⟩

end Cert.Proof

end
